-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)) (v8 : (c : Dev Cert.KernelIdeal.nD) → Buf (Elt Ideal) ((c.tc : Thread Cert.KernelIdeal.nD Cert.KernelIdeal.τ).loc Cert.KernelIdeal.main_v2_8)) (v9 : (c : Dev Cert.KernelIdeal.nD) → Buf (Elt Ideal) ((c.tc : Thread Cert.KernelIdeal.nD Cert.KernelIdeal.τ).loc Cert.KernelIdeal.main_v2_9)) (v10 : (c : Dev Cert.KernelIdeal.nD) → Buf (Elt Ideal) ((c.tc : Thread Cert.KernelIdeal.nD Cert.KernelIdeal.τ).loc Cert.KernelIdeal.main_v2_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_v2_8) = v8 c
          ∧ r.2.mem ((c.tc : Thread Cert.KernelIdeal.nD Cert.KernelIdeal.τ).loc Cert.KernelIdeal.main_v2_9) = v9 c
          ∧ r.2.mem ((c.tc : Thread Cert.KernelIdeal.nD Cert.KernelIdeal.τ).loc Cert.KernelIdeal.main_v2_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v195) = v2 c
          ∧ r.2.mem ((c.tc : Thread Cert.ReferenceIdeal.nD Cert.ReferenceIdeal.τ).loc Cert.ReferenceIdeal.main_v197) = v3 c
          ∧ r.2.mem ((c.tc : Thread Cert.ReferenceIdeal.nD Cert.ReferenceIdeal.τ).loc Cert.ReferenceIdeal.main_v199) = v4 c
          ∧ r.2.mem ((c.tc : Thread Cert.ReferenceIdeal.nD Cert.ReferenceIdeal.τ).loc Cert.ReferenceIdeal.main_v201) = v5 c
          ∧ r.2.mem ((c.tc : Thread Cert.ReferenceIdeal.nD Cert.ReferenceIdeal.τ).loc Cert.ReferenceIdeal.main_v202) = v6 c
          ∧ r.2.mem ((c.tc : Thread Cert.ReferenceIdeal.nD Cert.ReferenceIdeal.τ).loc Cert.ReferenceIdeal.main_v158) = v7 c
          ∧ r.2.mem ((c.tc : Thread Cert.ReferenceIdeal.nD Cert.ReferenceIdeal.τ).loc Cert.ReferenceIdeal.main_v148) = v8 c
          ∧ r.2.mem ((c.tc : Thread Cert.ReferenceIdeal.nD Cert.ReferenceIdeal.τ).loc Cert.ReferenceIdeal.main_v115) = v9 c
          ∧ r.2.mem ((c.tc : Thread Cert.ReferenceIdeal.nD Cert.ReferenceIdeal.τ).loc Cert.ReferenceIdeal.main_v108) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v72) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8192x1024 : Shape := ⟨2, ![8192, 1024]⟩
abbrev S8x6x1x1024 : Shape := ⟨4, ![8, 6, 1, 1024]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x6x1x1024 : S_.BroadcastsInDim S8x6x1x1024 (![] : Fin 0 → Fin S8x6x1x1024.rank)
  reducesTo_S8x6x1x1024_S_d0_1_2_3 : S8x6x1x1024.ReducesTo [0, 1, 2, 3] S_
  bcast_S_S1024x4096 : S_.BroadcastsInDim S1024x4096 (![] : Fin 0 → Fin S1024x4096.rank)
  reducesTo_S1024x4096_S_d0_1 : S1024x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  main_v43

def fn_part1 {F : FTy → Type} [FloatOps F] (main_arg4 : FVec F S1x4096 .f32) (main_arg5 : FVec F S4096x1024 .f32) (main_arg6 : FVec F S1x1024 .f32) (main_arg7 : FVec F S1x1024 .f32) (main_arg8 : FVec F S1x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S8x6x1x1024 .f32) (main_arg3 : FVec F S1024x4096 .f32) (main_arg4 : FVec F S1x4096 .f32) (main_arg5 : FVec F S4096x1024 .f32) (main_arg6 : FVec F S1x1024 .f32) (main_arg7 : FVec F S1x1024 .f32) (main_arg8 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8x6x1x1024 .f32 := Host.absf main_arg2
  let main_cst_2 : FVec F S_ .f32 := constant S_ .f32 0x7F800000#32
  let main_v10 : FVec F S8x6x1x1024 .f32 := broadcastInDim S8x6x1x1024 ![] bcast_S_S8x6x1x1024 main_cst_2
  let main_v11 : IVec S8x6x1x1024 1 := cmpf .olt main_v9 main_v10
  let main_c_3 : IVec S_ 1 := constantI S_ 1 1#1
  let main_v12 : IVec S_ 1 := (fun x v => Host.reduce IntOp.andi x v reducesTo_S8x6x1x1024_S_d0_1_2_3 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_v13 main_v16
-- ==== Pre_finite6.lean ====
abbrev S8192x1024 : Shape := ⟨2, ![8192, 1024]⟩
abbrev S8x6x1x1024 : Shape := ⟨4, ![8, 6, 1, 1024]⟩
abbrev S1024x10368 : Shape := ⟨2, ![1024, 10368]⟩
abbrev S8192x10368 : Shape := ⟨2, ![8192, 10368]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x6x1x1024 : S_.BroadcastsInDim S8x6x1x1024 (![] : Fin 0 → Fin S8x6x1x1024.rank)
  reducesTo_S8x6x1x1024_S_d0_1_2_3 : S8x6x1x1024.ReducesTo [0, 1, 2, 3] S_
  bitsLt_bf16_f32 : FTy.bits .bf16 < FTy.bits .f32
  bcast_S_S1024x10368 : S_.BroadcastsInDim S1024x10368 (![] : Fin 0 → Fin S1024x10368.rank)
  reducesTo_S1024x10368_S_d0_1 : S1024x10368.ReducesTo [0, 1] S_
  bcast_S_S8192x10368 : S_.BroadcastsInDim S8192x10368 (![] : Fin 0 → Fin S8192x10368.rank)
  reducesTo_S8192x10368_S_d0_1 : S8192x10368.ReducesTo [0, 1] S_

variable [Facts]

def fn_part1 {F : FTy → Type} [FloatOps F] (main_v14 : IVec S_ 1) (main_v16 : FVec F S8192x10368 .f32) (main_cst_4 : FVec F S_ .f32) : IVec S_ 1 :=
  let main_v17 : FVec F S8192x10368 .f32 := broadcastInDim S8192x10368 ![] bcast_S_S8192x10368 main_cst_4
  let main_v18 : IVec S8192x10368 1 := cmpf .olt main_v16 main_v17
  let main_c_5 : IVec S_ 1 := constantI S_ 1 1#1
  let main_v19 : IVec S_ 1 := (fun x v => Host.reduce IntOp.andi x v reducesTo_S8192x10368_S_d0_1 h_S_) main_v18 main_c_5
  let main_v20 : IVec S_ 1 := andi main_v14 main_v19
  main_v20

def fn {F : FTy → Type} [FloatOps F] (main_arg0 : FVec F S8192x1024 .f32) (main_arg1 : FVec F S8x6x1x1024 .f32) (main_arg2 : FVec F S1024x10368 .bf16) (main_arg3 : FVec F S8192x10368 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x6x1x1024 .f32 := Host.absf main_arg1
  let main_cst_0 : FVec F S_ .f32 := constant S_ .f32 0x7F800000#32
  let main_v5 : FVec F S8x6x1x1024 .f32 := broadcastInDim S8x6x1x1024 ![] bcast_S_S8x6x1x1024 main_cst_0
  let main_v6 : IVec S8x6x1x1024 1 := cmpf .olt main_v4 main_v5
  let main_c_1 : IVec S_ 1 := constantI S_ 1 1#1
  let main_v7 : IVec S_ 1 := (fun x v => Host.reduce IntOp.andi x v reducesTo_S8x6x1x1024_S_d0_1_2_3 h_S_) main_v6 main_c_1
  let main_v8 : IVec S_ 1 := andi main_v3 main_v7
  let main_v9 : FVec F S1024x10368 .f32 := (extf .f32 · bitsLt_bf16_f32) main_arg2
  let main_v10 : FVec F S1024x10368 .f32 := Host.absf main_v9
  let main_cst_2 : FVec F S_ .f32 := constant S_ .f32 0x7F800000#32
  let main_v11 : FVec F S1024x10368 .f32 := broadcastInDim S1024x10368 ![] bcast_S_S1024x10368 main_cst_2
  let main_v12 : IVec S1024x10368 1 := cmpf .olt main_v10 main_v11
  let main_c_3 : IVec S_ 1 := constantI S_ 1 1#1
  let main_v13 : IVec S_ 1 := (fun x v => Host.reduce IntOp.andi x v reducesTo_S1024x10368_S_d0_1 h_S_) main_v12 main_c_3
  let main_v14 : IVec S_ 1 := andi main_v8 main_v13
  let main_v15 : FVec F S8192x10368 .f32 := (extf .f32 · bitsLt_bf16_f32) main_arg3
  let main_v16 : FVec F S8192x10368 .f32 := Host.absf main_v15
  let main_cst_4 : FVec F S_ .f32 := constant S_ .f32 0x7F800000#32
  fn_part1 (F := F) main_v14 main_v16 main_cst_4
-- ==== Kernel.lean ====
abbrev S8192x1024 : Shape := ⟨2, ![8192, 1024]⟩
abbrev S8x6x1x1024 : Shape := ⟨4, ![8, 6, 1, 1024]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S8x128 : Shape := ⟨2, ![8, 128]⟩
abbrev S8192x4096 : Shape := ⟨2, ![8192, 4096]⟩
abbrev S4x3x1024 : Shape := ⟨3, ![4, 3, 1024]⟩
abbrev S256x1024 : Shape := ⟨2, ![256, 1024]⟩
abbrev S1x1x1x1024 : Shape := ⟨4, ![1, 1, 1, 1024]⟩
abbrev S256x4096 : Shape := ⟨2, ![256, 4096]⟩
abbrev S1x3x1024 : Shape := ⟨3, ![1, 3, 1024]⟩
abbrev S2 : Shape := ⟨1, ![2]⟩
abbrev S1 : Shape := ⟨1, ![1]⟩
abbrev S_ : Shape := ⟨0, ![]⟩
abbrev S3x1024 : Shape := ⟨2, ![3, 1024]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1024 : Shape := ⟨1, ![1024]⟩
abbrev S1x1x1024 : Shape := ⟨3, ![1, 1, 1024]⟩
abbrev S4096 : Shape := ⟨1, ![4096]⟩

abbrev nBuf : Space → Nat
  | .hbm => 22
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x6x1x1024, .f32⟩
  | .hbm, ⟨3, _⟩ => ⟨S1024x4096, .f32⟩
  | .hbm, ⟨4, _⟩ => ⟨S1x4096, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S8x128, .f32⟩
  | .hbm, ⟨12, _⟩ => ⟨S8192x1024, .f32⟩
  | .hbm, ⟨13, _⟩ => ⟨S8192x1024, .bf16⟩
  | .hbm, ⟨14, _⟩ => ⟨S8192x4096, .bf16⟩
  | .hbm, ⟨15, _⟩ => ⟨S8192x4096, .bf16⟩
  | .hbm, ⟨16, _⟩ => ⟨S8192x1024, .bf16⟩
  | .hbm, ⟨17, _⟩ => ⟨S4x3x1024, .f32⟩
  | .hbm, ⟨18, _⟩ => ⟨S1x4096, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x4096, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x128, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x1024, .bf16⟩
  | .local _ .vmem, ⟨24, _⟩ => ⟨S256x1024, .bf16⟩
  | .local _ .vmem, ⟨25, _⟩ => ⟨S1x3x1024, .f32⟩
  | .local _ .vmem, ⟨26, _⟩ => ⟨S1x3x1024, .f32⟩
  | .local _ .vmem, ⟨27, _⟩ => ⟨S1x4096, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x4096, .bf16⟩
  | .local _ .vmem, ⟨32, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev main_v2_8 : Ref sig .tc := ⟨.hbm, 19, rfl⟩
abbrev main_v2_9 : Ref sig .tc := ⟨.hbm, 20, rfl⟩
abbrev main_v2_10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x3x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x1024 : Shape := ⟨2, ![8192, 1024]⟩
abbrev S8x6x1x1024 : Shape := ⟨4, ![8, 6, 1, 1024]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S4x2048x1024 : Shape := ⟨3, ![4, 2048, 1024]⟩
abbrev S4x1x1x1024 : Shape := ⟨4, ![4, 1, 1, 1024]⟩
abbrev S4x1x1024 : Shape := ⟨3, ![4, 1, 1024]⟩
abbrev S_ : Shape := ⟨0, ![]⟩
abbrev S4x2048x4096 : Shape := ⟨3, ![4, 2048, 4096]⟩
abbrev S4x2048 : Shape := ⟨2, ![4, 2048]⟩
abbrev S4x2048x1 : Shape := ⟨3, ![4, 2048, 1]⟩
abbrev S1x1x4096 : Shape := ⟨3, ![1, 1, 4096]⟩
abbrev S1x1x1024 : Shape := ⟨3, ![1, 1, 1024]⟩
abbrev S1024 : Shape := ⟨1, ![1024]⟩
abbrev S4x1024 : Shape := ⟨2, ![4, 1024]⟩
abbrev S4096 : Shape := ⟨1, ![4096]⟩
abbrev S8x128 : Shape := ⟨2, ![8, 128]⟩
abbrev S8192x4096 : Shape := ⟨2, ![8192, 4096]⟩
abbrev S4x3x1024 : Shape := ⟨3, ![4, 3, 1024]⟩

abbrev nBuf : Space → Nat
  | .hbm => 270
  | .vmem => 0
  | .smem => 0
  | _ => 0

abbrev hbmTy0_0 (i : Nat) : BufTy := match i % 128 with
  | 0 => ⟨S8192x1024, .f32⟩
  | 1 => ⟨S8192x1024, .f32⟩
  | 2 => ⟨S8x6x1x1024, .f32⟩
  | 3 => ⟨S1024x4096, .f32⟩
  | 4 => ⟨S1x4096, .f32⟩
  | 5 => ⟨S4096x1024, .f32⟩
  | 6 => ⟨S1x1024, .f32⟩
  | 7 => ⟨S1x1024, .f32⟩
  | 8 => ⟨S1x1024, .f32⟩
  | 9 => ⟨S4x2048x1024, .f32⟩
  | 10 => ⟨S4x1x1x1024, .f32⟩
  | 11 => ⟨S4x1x1024, .f32⟩
  | 12 => ⟨S4x1x1x1024, .f32⟩
  | 13 => ⟨S4x1x1024, .f32⟩
  | 14 => ⟨S4x1x1x1024, .f32⟩
  | 15 => ⟨S4x1x1024, .f32⟩
  | 16 => ⟨S_, .f32⟩
  | 17 => ⟨S4x2048x4096, .f32⟩
  | 18 => ⟨S_, .f32⟩
  | 19 => ⟨S4x2048x1024, .f32⟩
  | 20 => ⟨S4x2048x1024, .f32⟩
  | 21 => ⟨S_, .f32⟩
  | 22 => ⟨S4x2048, .f32⟩
  | 23 => ⟨S4x2048x1, .f32⟩
  | 24 => ⟨S_, .f32⟩
  | 25 => ⟨S4x2048x1, .f32⟩
  | 26 => ⟨S4x2048x1, .f32⟩
  | 27 => ⟨S4x2048x1024, .f32⟩
  | 28 => ⟨S4x2048x1024, .f32⟩
  | 29 => ⟨S4x2048x1024, .f32⟩
  | 30 => ⟨S_, .f32⟩
  | 31 => ⟨S4x2048x1024, .f32⟩
  | 32 => ⟨S4x2048x1024, .f32⟩
  | 33 => ⟨S_, .f32⟩
  | 34 => ⟨S4x2048, .f32⟩
  | 35 => ⟨S4x2048x1, .f32⟩
  | 36 => ⟨S_, .f32⟩
  | 37 => ⟨S4x2048x1, .f32⟩
  | 38 => ⟨S4x2048x1, .f32⟩
  | 39 => ⟨S4x2048x1024, .f32⟩
  | 40 => ⟨S4x2048x1024, .f32⟩
  | 41 => ⟨S_, .f32⟩
  | 42 => ⟨S4x2048x1, .f32⟩
  | 43 => ⟨S4x2048x1, .f32⟩
  | 44 => ⟨S4x2048x1, .f32⟩
  | 45 => ⟨S4x2048x1, .f32⟩
  | 46 => ⟨S_, .f32⟩
  | 47 => ⟨S4x2048x1, .f32⟩
  | 48 => ⟨S4x2048x1, .f32⟩
  | 49 => ⟨S4x2048x1024, .f32⟩
  | 50 => ⟨S4x2048x1024, .f32⟩
  | 51 => ⟨S_, .f32⟩
  | 52 => ⟨S4x1x1024, .f32⟩
  | 53 => ⟨S4x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S4x2048x4096, .f32⟩
  | 59 => ⟨S1x1x4096, .f32⟩
  | 60 => ⟨S4x2048x4096, .f32⟩
  | 61 => ⟨S4x2048x4096, .f32⟩
  | 62 => ⟨S4x2048x4096, .f32⟩
  | 63 => ⟨S_, .f32⟩
  | 64 => ⟨S4x2048x4096, .f32⟩
  | 65 => ⟨S4x2048x4096, .f32⟩
  | 66 => ⟨S_, .f32⟩
  | 67 => ⟨S4x2048x4096, .f32⟩
  | 68 => ⟨S4x2048x4096, .i1⟩
  | 69 => ⟨S_, .f32⟩
  | 70 => ⟨S4x2048x4096, .f32⟩
  | 71 => ⟨S4x2048x4096, .f32⟩
  | 72 => ⟨S_, .f32⟩
  | 73 => ⟨S4x2048x4096, .f32⟩
  | 74 => ⟨S4x2048x4096, .f32⟩
  | 75 => ⟨S_, .f32⟩
  | 76 => ⟨S4x2048x1024, .f32⟩
  | 77 => ⟨S4x2048x1024, .f32⟩
  | 78 => ⟨S4x2048x1024, .f32⟩
  | 79 => ⟨S1x1x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S4x2048x1024, .f32⟩
  | 85 => ⟨S4x2048x1024, .f32⟩
  | 86 => ⟨S_, .f32⟩
  | 87 => ⟨S4x2048, .f32⟩
  | 88 => ⟨S4x2048x1, .f32⟩
  | 89 => ⟨S_, .f32⟩
  | 90 => ⟨S4x2048x1, .f32⟩
  | 91 => ⟨S4x2048x1, .f32⟩
  | 92 => ⟨S4x2048x1024, .f32⟩
  | 93 => ⟨S4x2048x1024, .f32⟩
  | 94 => ⟨S4x2048x1024, .f32⟩
  | 95 => ⟨S_, .f32⟩
  | 96 => ⟨S4x2048x1024, .f32⟩
  | 97 => ⟨S4x2048x1024, .f32⟩
  | 98 => ⟨S_, .f32⟩
  | 99 => ⟨S4x2048, .f32⟩
  | 100 => ⟨S4x2048x1, .f32⟩
  | 101 => ⟨S_, .f32⟩
  | 102 => ⟨S4x2048x1, .f32⟩
  | 103 => ⟨S4x2048x1, .f32⟩
  | 104 => ⟨S4x2048x1024, .f32⟩
  | 105 => ⟨S4x2048x1024, .f32⟩
  | 106 => ⟨S_, .f32⟩
  | 107 => ⟨S4x2048x1, .f32⟩
  | 108 => ⟨S4x2048x1, .f32⟩
  | 109 => ⟨S4x2048x1, .f32⟩
  | 110 => ⟨S4x2048x1, .f32⟩
  | 111 => ⟨S_, .f32⟩
  | 112 => ⟨S4x2048x1, .f32⟩
  | 113 => ⟨S4x2048x1, .f32⟩
  | 114 => ⟨S4x2048x1024, .f32⟩
  | 115 => ⟨S4x2048x1024, .f32⟩
  | 116 => ⟨S1x1x1024, .f32⟩
  | 117 => ⟨S4x2048x1024, .f32⟩
  | 118 => ⟨S4x2048x1024, .f32⟩
  | 119 => ⟨S1x1x1024, .f32⟩
  | 120 => ⟨S4x2048x1024, .f32⟩
  | 121 => ⟨S4x2048x1024, .f32⟩
  | 122 => ⟨S4x2048x1024, .f32⟩
  | 123 => ⟨S4x2048x1024, .f32⟩
  | 124 => ⟨S_, .f32⟩
  | 125 => ⟨S4x2048x1024, .f32⟩
  | 126 => ⟨S4x2048x1024, .f32⟩
  | 127 => ⟨S_, .f32⟩
  | _ => ⟨S8192x1024, .f32⟩

abbrev hbmTy0_1 (i : Nat) : BufTy := match i % 128 with
  | 0 => ⟨S4x2048, .f32⟩
  | 1 => ⟨S_, .f32⟩
  | 2 => ⟨S4x2048, .f32⟩
  | 3 => ⟨S4x2048, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4x2048, .f32⟩
  | 12 => ⟨S_, .f32⟩
  | 13 => ⟨S4x2048, .f32⟩
  | 14 => ⟨S4x2048, .f32⟩
  | 15 => ⟨S4x2048x1024, .f32⟩
  | 16 => ⟨S4x2048x1024, .f32⟩
  | 17 => ⟨S_, .f32⟩
  | 18 => ⟨S1024, .f32⟩
  | 19 => ⟨S1x1x1024, .f32⟩
  | 20 => ⟨S_, .f32⟩
  | 21 => ⟨S1024, .f32⟩
  | 22 => ⟨S1x1024, .f32⟩
  | 23 => ⟨S4x2048x1024, .f32⟩
  | 24 => ⟨S_, .f32⟩
  | 25 => ⟨S1024, .f32⟩
  | 26 => ⟨S1x1x1024, .f32⟩
  | 27 => ⟨S4x2048x1024, .f32⟩
  | 28 => ⟨S4x2048x1024, .f32⟩
  | 29 => ⟨S_, .f32⟩
  | 30 => ⟨S1024, .f32⟩
  | 31 => ⟨S1x1024, .f32⟩
  | 32 => ⟨S4x2048x1024, .f32⟩
  | 33 => ⟨S_, .f32⟩
  | 34 => ⟨S4x2048, .f32⟩
  | 35 => ⟨S4x2048x1, .f32⟩
  | 36 => ⟨S4x2048x1024, .f32⟩
  | 37 => ⟨S4x2048x1024, .f32⟩
  | 38 => ⟨S4x2048x1, .f32⟩
  | 39 => ⟨S4x2048x1024, .f32⟩
  | 40 => ⟨S_, .f32⟩
  | 41 => ⟨S4x2048, .f32⟩
  | 42 => ⟨S4x2048x1, .f32⟩
  | 43 => ⟨S_, .f32⟩
  | 44 => ⟨S4x2048x1, .f32⟩
  | 45 => ⟨S4x2048x1, .f32⟩
  | 46 => ⟨S_, .f32⟩
  | 47 => ⟨S4x2048, .f32⟩
  | 48 => ⟨S4x2048x1024, .f32⟩
  | 49 => ⟨S4x2048x1024, .f32⟩
  | 50 => ⟨S4x2048x1024, .f32⟩
  | 51 => ⟨S_, .f32⟩
  | 52 => ⟨S4x2048, .f32⟩
  | 53 => ⟨S4x2048x1, .f32⟩
  | 54 => ⟨S4x2048x1024, .f32⟩
  | 55 => ⟨S4x2048x1, .f32⟩
  | 56 => ⟨S_, .f32⟩
  | 57 => ⟨S4x2048x1, .f32⟩
  | 58 => ⟨S4x2048x1, .f32⟩
  | 59 => ⟨S_, .f32⟩
  | 60 => ⟨S4x2048, .f32⟩
  | 61 => ⟨S4x2048x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S_, .f32⟩
  | 67 => ⟨S4x1024, .f32⟩
  | 68 => ⟨S4x1x1024, .f32⟩
  | 69 => ⟨S_, .f32⟩
  | 70 => ⟨S1024, .f32⟩
  | 71 => ⟨S1x1x1024, .f32⟩
  | 72 => ⟨S_, .f32⟩
  | 73 => ⟨S1024, .f32⟩
  | 74 => ⟨S1x1024, .f32⟩
  | 75 => ⟨S4x2048x4096, .f32⟩
  | 76 => ⟨S_, .f32⟩
  | 77 => ⟨S4x2048x1024, .f32⟩
  | 78 => ⟨S4x2048x1024, .f32⟩
  | 79 => ⟨S4x2048x4096, .f32⟩
  | 80 => ⟨S_, .f32⟩
  | 81 => ⟨S4x2048x4096, .f32⟩
  | 82 => ⟨S4x2048x4096, .f32⟩
  | 83 => ⟨S_, .f32⟩
  | 84 => ⟨S4096, .f32⟩
  | 85 => ⟨S1x1x4096, .f32⟩
  | 86 => ⟨S_, .f32⟩
  | 87 => ⟨S4096, .f32⟩
  | 88 => ⟨S1x4096, .f32⟩
  | 89 => ⟨S4x2048x1024, .f32⟩
  | 90 => ⟨S_, .f32⟩
  | 91 => ⟨S4x1024, .f32⟩
  | 92 => ⟨S4x1x1024, .f32⟩
  | 93 => ⟨S4x2048x1024, .f32⟩
  | 94 => ⟨S_, .f32⟩
  | 95 => ⟨S4x1024, .f32⟩
  | 96 => ⟨S4x1x1024, .f32⟩
  | 97 => ⟨S4x2048x1024, .f32⟩
  | 98 => ⟨S4x2048x1024, .f32⟩
  | 99 => ⟨S4x2048x1024, .f32⟩
  | 100 => ⟨S_, .f32⟩
  | 101 => ⟨S4x2048, .f32⟩
  | 102 => ⟨S4x2048x1, .f32⟩
  | 103 => ⟨S4x2048x1024, .f32⟩
  | 104 => ⟨S4x2048x1024, .f32⟩
  | 105 => ⟨S4x2048x1, .f32⟩
  | 106 => ⟨S4x2048x1024, .f32⟩
  | 107 => ⟨S_, .f32⟩
  | 108 => ⟨S4x2048, .f32⟩
  | 109 => ⟨S4x2048x1, .f32⟩
  | 110 => ⟨S4x2048x1024, .f32⟩
  | 111 => ⟨S_, .f32⟩
  | 112 => ⟨S4x2048x1, .f32⟩
  | 113 => ⟨S4x2048x1, .f32⟩
  | 114 => ⟨S_, .f32⟩
  | 115 => ⟨S4x2048, .f32⟩
  | 116 => ⟨S4x2048x1024, .f32⟩
  | 117 => ⟨S4x2048x1024, .f32⟩
  | 118 => ⟨S4x2048x1024, .f32⟩
  | 119 => ⟨S_, .f32⟩
  | 120 => ⟨S4x2048, .f32⟩
  | 121 => ⟨S4x2048x1, .f32⟩
  | 122 => ⟨S4x2048x1024, .f32⟩
  | 123 => ⟨S4x2048x1, .f32⟩
  | 124 => ⟨S_, .f32⟩
  | 125 => ⟨S4x2048x1, .f32⟩
  | 126 => ⟨S4x2048x1, .f32⟩
  | 127 => ⟨S_, .f32⟩
  | _ => ⟨S8192x1024, .f32⟩

abbrev hbmTy0_2 (i : Nat) : BufTy := match i % 128 with
  | 0 => ⟨S4x2048, .f32⟩
  | 1 => ⟨S4x2048x1024, .f32⟩
  | 2 => ⟨S4x2048x1024, .f32⟩
  | 3 => ⟨S8x128, .f32⟩
  | 4 => ⟨S8192x1024, .f32⟩
  | 5 => ⟨S8192x1024, .f32⟩
  | 6 => ⟨S8192x1024, .bf16⟩
  | 7 => ⟨S8192x4096, .f32⟩
  | 8 => ⟨S8192x4096, .bf16⟩
  | 9 => ⟨S8192x4096, .f32⟩
  | 10 => ⟨S8192x4096, .bf16⟩
  | 11 => ⟨S8192x1024, .f32⟩
  | 12 => ⟨S8192x1024, .bf16⟩
  | 13 => ⟨S4x3x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_cst_22 : Ref sig .tc := ⟨.hbm, 129, rfl⟩
abbrev main_v95 : Ref sig .tc := ⟨.hbm, 130, rfl⟩
abbrev main_v96 : Ref sig .tc := ⟨.hbm, 131, rfl⟩
abbrev main_cst_23 : Ref sig .tc := ⟨.hbm, 132, rfl⟩
abbrev main_v97 : Ref sig .tc := ⟨.hbm, 133, rfl⟩
abbrev main_cst_24 : Ref sig .tc := ⟨.hbm, 134, rfl⟩
abbrev main_v98 : Ref sig .tc := ⟨.hbm, 135, rfl⟩
abbrev main_cst_25 : Ref sig .tc := ⟨.hbm, 136, rfl⟩
abbrev main_cst_26 : Ref sig .tc := ⟨.hbm, 137, rfl⟩
abbrev main_v99 : Ref sig .tc := ⟨.hbm, 138, rfl⟩
abbrev main_v100 : Ref sig .tc := ⟨.hbm, 139, rfl⟩
abbrev main_cst_27 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_28 : Ref sig .tc := ⟨.hbm, 145, rfl⟩
abbrev main_v105 : Ref sig .tc := ⟨.hbm, 146, rfl⟩
abbrev main_v106 : Ref sig .tc := ⟨.hbm, 147, rfl⟩
abbrev main_cst_29 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_30 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_31 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_32 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_33 : Ref sig .tc := ⟨.hbm, 168, rfl⟩
abbrev main_v123 : Ref sig .tc := ⟨.hbm, 169, rfl⟩
abbrev main_v124 : Ref sig .tc := ⟨.hbm, 170, rfl⟩
abbrev main_cst_34 : Ref sig .tc := ⟨.hbm, 171, rfl⟩
abbrev main_v125 : Ref sig .tc := ⟨.hbm, 172, rfl⟩
abbrev main_v126 : Ref sig .tc := ⟨.hbm, 173, rfl⟩
abbrev main_cst_35 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_36 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_37 : Ref sig .tc := ⟨.hbm, 184, rfl⟩
abbrev main_v135 : Ref sig .tc := ⟨.hbm, 185, rfl⟩
abbrev main_v136 : Ref sig .tc := ⟨.hbm, 186, rfl⟩
abbrev main_cst_38 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_39 : Ref sig .tc := ⟨.hbm, 194, rfl⟩
abbrev main_v143 : Ref sig .tc := ⟨.hbm, 195, rfl⟩
abbrev main_v144 : Ref sig .tc := ⟨.hbm, 196, rfl⟩
abbrev main_cst_40 : Ref sig .tc := ⟨.hbm, 197, rfl⟩
abbrev main_v145 : Ref sig .tc := ⟨.hbm, 198, rfl⟩
abbrev main_v146 : Ref sig .tc := ⟨.hbm, 199, rfl⟩
abbrev main_cst_41 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_42 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_43 : Ref sig .tc := ⟨.hbm, 208, rfl⟩
abbrev main_v153 : Ref sig .tc := ⟨.hbm, 209, rfl⟩
abbrev main_v154 : Ref sig .tc := ⟨.hbm, 210, rfl⟩
abbrev main_cst_44 : Ref sig .tc := ⟨.hbm, 211, rfl⟩
abbrev main_v155 : Ref sig .tc := ⟨.hbm, 212, rfl⟩
abbrev main_v156 : Ref sig .tc := ⟨.hbm, 213, rfl⟩
abbrev main_cst_45 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_46 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_47 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_48 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_49 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_50 : Ref sig .tc := ⟨.hbm, 239, rfl⟩
abbrev main_v177 : Ref sig .tc := ⟨.hbm, 240, rfl⟩
abbrev main_v178 : Ref sig .tc := ⟨.hbm, 241, rfl⟩
abbrev main_cst_51 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_52 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_53 : Ref sig .tc := ⟨.hbm, 252, rfl⟩
abbrev main_v187 : Ref sig .tc := ⟨.hbm, 253, rfl⟩
abbrev main_v188 : Ref sig .tc := ⟨.hbm, 254, rfl⟩
abbrev main_cst_54 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x10368 : Shape := ⟨2, ![8192, 10368]⟩
abbrev S1024x1024 : Shape := ⟨2, ![1024, 1024]⟩
abbrev S1024x10368 : Shape := ⟨2, ![1024, 10368]⟩
abbrev S1024x1152 : Shape := ⟨2, ![1024, 1152]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x1024, .bf16⟩
  | .hbm, ⟨3, _⟩ => ⟨S1024x10368, .bf16⟩
  | .hbm, ⟨4, _⟩ => ⟨S1024x10368, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1152, .bf16⟩
  | .local _ .vmem, ⟨7, _⟩ => ⟨S1024x1152, .bf16⟩
  | .local _ .vmem, ⟨8, _⟩ => ⟨S1024x1152, .f32⟩
  | .local _ .vmem, ⟨9, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 9, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c8_i32 : BitVec 32 := 8#32
  let v3 : BitVec 1 := Scalar.cmpi .slt arg2 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c8_i32_2 : BitVec 32 := 8#32
  let v6 : BitVec 1 := Scalar.cmpi .sge arg2 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c0_i32_0 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c0_i32_0 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x1024 : Shape := ⟨2, ![8192, 1024]⟩
abbrev S8192x10368 : Shape := ⟨2, ![8192, 10368]⟩
abbrev S1024x1024 : Shape := ⟨2, ![1024, 1024]⟩
abbrev S1024x10368 : Shape := ⟨2, ![1024, 10368]⟩
abbrev S_ : Shape := ⟨0, ![]⟩
abbrev S10368x1024 : Shape := ⟨2, ![10368, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x1024, .bf16⟩
  | .hbm, ⟨3, _⟩ => ⟨S1024x10368, .bf16⟩
  | .hbm, ⟨4, _⟩ => ⟨S_, .f32⟩
  | .hbm, ⟨5, _⟩ => ⟨S1024x10368, .f32⟩
  | .hbm, ⟨6, _⟩ => ⟨S8192x1024, .f32⟩
  | .hbm, ⟨7, _⟩ => ⟨S8192x10368, .f32⟩
  | .hbm, ⟨8, _⟩ => ⟨S1024x1024, .f32⟩
  | .hbm, ⟨9, _⟩ => ⟨S1024x10368, .f32⟩
  | .hbm, ⟨10, _⟩ => ⟨S8192x10368, .f32⟩
  | .hbm, ⟨11, _⟩ => ⟨S1024x10368, .f32⟩
  | .hbm, ⟨12, _⟩ => ⟨S10368x1024, .f32⟩
  | .hbm, ⟨13, _⟩ => ⟨S1024x10368, .f32⟩
  | .hbm, ⟨14, _⟩ => ⟨S10368x1024, .f32⟩
  | .hbm, ⟨15, _⟩ => ⟨S1024x10368, .f32⟩
  | .hbm, ⟨16, _⟩ => ⟨S1024x10368, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S8192x1024 : Shape := ⟨2, ![8192, 1024]⟩
abbrev S8x6x1x1024 : Shape := ⟨4, ![8, 6, 1, 1024]⟩
abbrev S1024x10368 : Shape := ⟨2, ![1024, 10368]⟩
abbrev S8192x10368 : Shape := ⟨2, ![8192, 10368]⟩
abbrev S128x1024 : Shape := ⟨2, ![128, 1024]⟩
abbrev S1x1x1x1024 : Shape := ⟨4, ![1, 1, 1, 1024]⟩
abbrev S128x10368 : Shape := ⟨2, ![128, 10368]⟩
abbrev S_ : Shape := ⟨0, ![]⟩
abbrev S1x1024 : Shape := ⟨2, ![1, 1024]⟩
abbrev S128 : Shape := ⟨1, ![128]⟩
abbrev S128x1 : Shape := ⟨2, ![128, 1]⟩
abbrev S1024x3456 : Shape := ⟨2, ![1024, 3456]⟩
abbrev S128x3456 : Shape := ⟨2, ![128, 3456]⟩

abbrev nBuf : Space → Nat
  | .hbm => 5
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8x6x1x1024, .f32⟩
  | .hbm, ⟨2, _⟩ => ⟨S1024x10368, .bf16⟩
  | .hbm, ⟨3, _⟩ => ⟨S8192x10368, .f32⟩
  | .hbm, ⟨4, _⟩ => ⟨S8192x1024, .bf16⟩
  | .local _ .vmem, ⟨0, _⟩ => ⟨S128x1024, .f32⟩
  | .local _ .vmem, ⟨1, _⟩ => ⟨S128x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S128x10368, .f32⟩
  | .local _ .vmem, ⟨7, _⟩ => ⟨S128x10368, .f32⟩
  | .local _ .vmem, ⟨8, _⟩ => ⟨S128x1024, .bf16⟩
  | .local _ .vmem, ⟨9, _⟩ => ⟨S128x1024, .bf16⟩
  | .local _ .vmem, ⟨10, _⟩ => ⟨S1024x10368, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  let c0_i32_7 : BitVec 32 := 0#32
  ![v18.toNat, c0_i32_4.toNat, c0_i32_5.toNat, c0_i32_6.toNat]

def cc0_transform_2 (i : grid0.Coords) : Fin 4 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c1_i32_4 : BitVec 32 := 1#32
  let c0_i32_5 : BitVec 32 := 0#32
  let c0_i32_6 : BitVec 32 := 0#32
  let c0_i32_7 : BitVec 32 := 0#32
  ![v18.toNat, c1_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x10368 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x1024 : Shape := ⟨2, ![8192, 1024]⟩
abbrev S8x6x1x1024 : Shape := ⟨4, ![8, 6, 1, 1024]⟩
abbrev S1024x10368 : Shape := ⟨2, ![1024, 10368]⟩
abbrev S4x2048x1024 : Shape := ⟨3, ![4, 2048, 1024]⟩
abbrev S4x1x1x1024 : Shape := ⟨4, ![4, 1, 1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S4x2048x10368 : Shape := ⟨3, ![4, 2048, 10368]⟩
abbrev S8192x10368 : Shape := ⟨2, ![8192, 10368]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1x1024, .f32⟩
  | .hbm, ⟨2, _⟩ => ⟨S1024x10368, .bf16⟩
  | .hbm, ⟨3, _⟩ => ⟨S4x2048x1024, .f32⟩
  | .hbm, ⟨4, _⟩ => ⟨S4x1x1x1024, .f32⟩
  | .hbm, ⟨5, _⟩ => ⟨S4x1x1024, .f32⟩
  | .hbm, ⟨6, _⟩ => ⟨S4x1x1x1024, .f32⟩
  | .hbm, ⟨7, _⟩ => ⟨S4x1x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S1024x10368, .f32⟩
  | .hbm, ⟨39, _⟩ => ⟨S4x2048x10368, .f32⟩
  | .hbm, ⟨40, _⟩ => ⟨S8192x10368, .f32⟩
  | .hbm, ⟨41, _⟩ => ⟨S8192x1024, .f32⟩
  | .hbm, ⟨42, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel6.lean ====
abbrev S8192x1024 : Shape := ⟨2, ![8192, 1024]⟩
abbrev S8x6x1x1024 : Shape := ⟨4, ![8, 6, 1, 1024]⟩
abbrev S1024x10368 : Shape := ⟨2, ![1024, 10368]⟩
abbrev S8192x10368 : Shape := ⟨2, ![8192, 10368]⟩
abbrev S4x2x1024 : Shape := ⟨3, ![4, 2, 1024]⟩
abbrev S256x1024 : Shape := ⟨2, ![256, 1024]⟩
abbrev S1x1x1x1024 : Shape := ⟨4, ![1, 1, 1, 1024]⟩
abbrev S256x10368 : Shape := ⟨2, ![256, 10368]⟩
abbrev S1x2x1024 : Shape := ⟨3, ![1, 2, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩
abbrev S2x1024 : Shape := ⟨2, ![2, 1024]⟩
abbrev S1x1x1024 : Shape := ⟨3, ![1, 1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8x6x1x1024, .f32⟩
  | .hbm, ⟨2, _⟩ => ⟨S1024x10368, .bf16⟩
  | .hbm, ⟨3, _⟩ => ⟨S8192x10368, .bf16⟩
  | .hbm, ⟨4, _⟩ => ⟨S8192x1024, .f32⟩
  | .hbm, ⟨5, _⟩ => ⟨S8192x1024, .f32⟩
  | .hbm, ⟨6, _⟩ => ⟨S4x2x1024, .f32⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S256x10368, .bf16⟩
  | .local _ .vmem, ⟨7, _⟩ => ⟨S256x10368, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x2x1024, .f32⟩
  | .local _ .vmem, ⟨13, _⟩ => ⟨S1x2x1024, .f32⟩
  | .local _ .vmem, ⟨14, _⟩ => ⟨S1024x10368, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x10368 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x1024 : Shape := ⟨2, ![8192, 1024]⟩
abbrev S8x6x1x1024 : Shape := ⟨4, ![8, 6, 1, 1024]⟩
abbrev S1024x10368 : Shape := ⟨2, ![1024, 10368]⟩
abbrev S8192x10368 : Shape := ⟨2, ![8192, 10368]⟩
abbrev S4x2048x1024 : Shape := ⟨3, ![4, 2048, 1024]⟩
abbrev S4x1x1x1024 : Shape := ⟨4, ![4, 1, 1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S4x2048x10368 : Shape := ⟨3, ![4, 2048, 10368]⟩
abbrev S4x1024 : Shape := ⟨2, ![4, 1024]⟩
abbrev S4x2x1024 : Shape := ⟨3, ![4, 2, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1x1024, .f32⟩
  | .hbm, ⟨2, _⟩ => ⟨S1024x10368, .bf16⟩
  | .hbm, ⟨3, _⟩ => ⟨S8192x10368, .bf16⟩
  | .hbm, ⟨4, _⟩ => ⟨S8192x1024, .f32⟩
  | .hbm, ⟨5, _⟩ => ⟨S1024x10368, .f32⟩
  | .hbm, ⟨6, _⟩ => ⟨S4x2048x1024, .f32⟩
  | .hbm, ⟨7, _⟩ => ⟨S4x1x1x1024, .f32⟩
  | .hbm, ⟨8, _⟩ => ⟨S4x1x1024, .f32⟩
  | .hbm, ⟨9, _⟩ => ⟨S4x1x1x1024, .f32⟩
  | .hbm, ⟨10, _⟩ => ⟨S4x1x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x10368, .f32⟩
  | .hbm, ⟨49, _⟩ => ⟨S8192x10368, .f32⟩
  | .hbm, ⟨50, _⟩ => ⟨S4x2048x10368, .f32⟩
  | .hbm, ⟨51, _⟩ => ⟨S4x2048x1024, .f32⟩
  | .hbm, ⟨52, _⟩ => ⟨S_, .f32⟩
  | .hbm, ⟨53, _⟩ => ⟨S4x1024, .f32⟩
  | .hbm, ⟨54, _⟩ => ⟨S4x1x1024, .f32⟩
  | .hbm, ⟨55, _⟩ => ⟨S4x2048x1024, .f32⟩
  | .hbm, ⟨56, _⟩ => ⟨S_, .f32⟩
  | .hbm, ⟨57, _⟩ => ⟨S4x1024, .f32⟩
  | .hbm, ⟨58, _⟩ => ⟨S4x1x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S4x2048x1024, .f32⟩
  | .hbm, ⟨66, _⟩ => ⟨S4x2048x1024, .f32⟩
  | .hbm, ⟨67, _⟩ => ⟨S4x2048x1, .f32⟩
  | .hbm, ⟨68, _⟩ => ⟨S4x2048x1024, .f32⟩
  | .hbm, ⟨69, _⟩ => ⟨S_, .f32⟩
  | .hbm, ⟨70, _⟩ => ⟨S4x2048, .f32⟩
  | .hbm, ⟨71, _⟩ => ⟨S4x2048x1, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S_, .f32⟩
  | .hbm, ⟨76, _⟩ => ⟨S4x2048, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S_, .f32⟩
  | .hbm, ⟨81, _⟩ => ⟨S4x2048, .f32⟩
  | .hbm, ⟨82, _⟩ => ⟨S4x2048x1, .f32⟩
  | .hbm, ⟨83, _⟩ => ⟨S4x2048x1024, .f32⟩
  | .hbm, ⟨84, _⟩ => ⟨S4x2048x1, .f32⟩
  | .hbm, ⟨85, _⟩ => ⟨S_, .f32⟩
  | .hbm, ⟨86, _⟩ => ⟨S4x2048x1, .f32⟩
  | .hbm, ⟨87, _⟩ => ⟨S4x2048x1, .f32⟩
  | .hbm, ⟨88, _⟩ => ⟨S_, .f32⟩
  | .hbm, ⟨89, _⟩ => ⟨S4x2048, .f32⟩
  | .hbm, ⟨90, _⟩ => ⟨S4x2048x1024, .f32⟩
  | .hbm, ⟨91, _⟩ => ⟨S4x2048x1024, .f32⟩
  | .hbm, ⟨92, _⟩ => ⟨S8192x1024, .f32⟩
  | .hbm, ⟨93, _⟩ => ⟨S8192x1024, .f32⟩
  | .hbm, ⟨94, _⟩ => ⟨S4x2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Proof.Tile.lean ====
/-
  What one run of the body reads, and its named intermediates, over any float values.
-/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.Step

open Idealize.ShloMosaic Idealize.ShloMosaic.TcCoe Cert.KernelIdeal Cert.KernelIdeal.Gen

variable {F : FTy → Type} [FloatOps F]

/-- The constant the two normalisations add, as the body names it. -/
def eps : F .f32 := Scalar.ofBits .f32 0x358637BD#32
/-- `1 / 1024`, as the body names it. -/
def inv : F .f32 := Scalar.ofBits .f32 0x3A800000#32

/-- What one run of the body reads: a tile of rows and of targets, the batch element's three modulation rows, the biases,
    the last normalisation's gain and bias, and the two weights from the scratch buffers. -/
structure Tile (F : FTy → Type) where
  x : FVec F S256x1024 .f32
  t : FVec F S256x1024 .f32
  sh : FVec F S1x1x1x1024 .f32
  sc : FVec F S1x1x1x1024 .f32
  gt : FVec F S1x1x1x1024 .f32
  b1 : FVec F S1x4096 .f32
  b2 : FVec F S1x1024 .f32
  g : FVec F S1x1024 .f32
  b : FVec F S1x1024 .f32
  w1 : FVec F S1024x4096 .bf16
  w2 : FVec F S4096x1024 .bf16

namespace Tile

variable (T : Tile F)

/-! ### The body's intermediates, named -/

def vSh : FVec F S1x1024 .f32 := k0_pay9 T.sh
def vSc : FVec F S1x1024 .f32 := k0_pay10 T.sc
def vCen : FVec F S256x1024 .f32 := k0_pay11 T.x
def vVar : FVec F S256x1 .f32 := k0_pay12 T.x
def vHid : FVec F S256x1024 .bf16 := k0_pay18 T.vSh T.vSc T.vCen T.vVar eps
def vAct : FVec F S256x4096 .f32 := k0_pay19 T.vSh T.vSc T.vCen T.vVar eps T.w1 T.b1
def vSq : FVec F S256x4096 .bf16 := k0_pay20 T.vSh T.vSc T.vCen T.vVar eps T.w1 T.b1
def vMlp : FVec F S256x1024 .f32 := k0_pay21 T.vSh T.vSc T.vCen T.vVar eps T.w1 T.b1 T.w2 T.b2
def vGt : FVec F S1x1024 .f32 := k0_pay22 T.gt
def vCen2 : FVec F S256x1024 .f32 := k0_pay23 T.x T.vMlp T.vGt
def vRstd2 : FVec F S256x1 .f32 := k0_pay25 T.x T.vMlp T.vGt
def vDrstd2 : FVec F S256x1 .f32 := k0_pay26 T.x T.vMlp T.vGt
def vNorm2 : FVec F S256x1024 .f32 := k0_pay27 T.x T.vMlp T.vGt
def vDiff : FVec F S256x1024 .f32 := k0_pay28 T.x T.vMlp T.vGt T.g T.b T.t
def vDmlp : FVec F S256x1024 .f32 := k0_pay33 T.vGt T.g T.vCen2 T.vRstd2 T.vDrstd2 T.vDiff inv
def vDres : FVec F S256x1024 .f32 := k0_pay35 T.g T.vCen2 T.vRstd2 T.vDrstd2 T.vDiff inv
def vDpre : FVec F S256x4096 .f32 := k0_pay41 T.vAct T.vDmlp T.w2
def vDx : FVec F S256x1024 .f32 :=
  k0_pay47 T.vCen (k0_pay14 T.vVar eps) (k0_pay15 T.vVar eps) (k0_pay17 T.vSc) T.vDres T.vDpre T.w1
def vDgate : FVec F S1x1024 .f32 := k0_pay34 T.vMlp T.g T.vCen2 T.vRstd2 T.vDrstd2 T.vDiff inv
def vDbias : FVec F S1x1024 .f32 := k0_pay31 T.vDiff inv
def vDshift : FVec F S1x1024 .f32 := k0_pay45 T.vDpre T.w1
def vNorm : FVec F S256x1024 .f32 := k0_pay16 T.vCen T.vVar eps
def vDscale : FVec F S1x1024 .f32 := k0_pay46 T.vNorm T.vDpre T.w1

end Tile

end Cert.Step

end
-- ==== Proof.Body.lean ====
/-
  The body's run at a grid point, in the three cases its two conditionals leave: the first point, the first point of a later
  batch element, and any other point.
-/
module

public import proofs.«01_k».proof.Proof.Tile
public import proofs.«01_k».proof.Proof.Gen.KernelIdeal.Frame.RunA
public import proofs.«01_k».proof.Proof.Gen.KernelIdeal.Frame.RunB
public import proofs.«01_k».proof.Proof.Gen.KernelIdeal.Frame.RunC

@[expose] public section

set_option maxRecDepth 16384

noncomputable section

namespace Cert.Step

open Idealize.ShloMosaic Idealize.ShloMosaic.TcCoe Idealize.ShloMosaic.Tactic Cert.KernelIdeal Cert.KernelIdeal.Gen

variable {F : FTy → Type} [FloatOps F]

/-- What the body carries from a point to the next: the blocks it adds to. -/
structure Acc (F : FTy → Type) where
  loss : FVec F S8x128 .f32
  dm : FVec F S1x3x1024 .f32
  db1 : FVec F S1x4096 .f32
  db2 : FVec F S1x1024 .f32
  dgain : FVec F S1x1024 .f32
  dbias : FVec F S1x1024 .f32

variable (c : Dev nD) (t : Fin cfg0.N) (T : Tile F) (s : Acc F)

/-- The run at the first point. -/
abbrev runA (h0 : t.val % 32 = 0) (h1 : t.val % 8 = 0) :=
  kernelRun0_A (F := F) c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t)
    (ms0_19 t) (hs0_19 t) scM0_0 (Memref.isWhole_whole _) scM0_1 (Memref.isWhole_whole _) ((hcond0_0 t).mpr h0)
    ((hcond0_1 t).mpr h1) T.x T.t T.sh T.sc T.gt T.b1 T.b2 T.g T.b T.w1 T.w2

/-- The run at a point that is not the first of its batch element. -/
abbrev runB (h0 : ¬t.val % 32 = 0) (h1 : ¬t.val % 8 = 0) :=
  kernelRun0_B (F := F) c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t)
    (ms0_19 t) (hs0_19 t) scM0_0 (Memref.isWhole_whole _) scM0_1 (Memref.isWhole_whole _) (fun h => h0 ((hcond0_0
    t).mp h)) (fun h => h1 ((hcond0_1 t).mp h)) T.x T.t T.sh T.sc T.gt T.b1 T.b2 T.g T.b s.loss s.dm s.db1 s.db2
    s.dgain s.dbias T.w1 T.w2 T.w1 T.w2

/-- The run at the first point of a later batch element. -/
abbrev runC (h0 : ¬t.val % 32 = 0) (h1 : t.val % 8 = 0) :=
  kernelRun0_C (F := F) c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t)
    (ms0_19 t) (hs0_19 t) scM0_0 (Memref.isWhole_whole _) scM0_1 (Memref.isWhole_whole _) (fun h => h0 ((hcond0_0
    t).mp h)) ((hcond0_1 t).mpr h1) T.x T.t T.sh T.sc T.gt T.b1 T.b2 T.g T.b s.loss s.db1 s.db2 s.dgain s.dbias T.w1
    T.w2 T.w1 T.w2

end Cert.Step

end
-- ==== Proof.Steps.lean ====
/-
  What the body adds to its accumulators at a point, and how its loads and its three row stores into a modulation block read.
-/
module

public import proofs.«01_k».proof.Proof.Body

@[expose] public section

set_option maxRecDepth 16384

noncomputable section

namespace Cert.Step

open Idealize.ShloMosaic Idealize.ShloMosaic.TcCoe Idealize.ShloMosaic.Tactic Cert.KernelIdeal Cert.KernelIdeal.Gen

variable {F : FTy → Type} [FloatOps F]

/-- The zero offset of a rank-2 load, and of a rank-4 one. -/
theorem z2 : (![0, 0] : Fin 2 → Nat) = fun _ => 0 := funext fun a => by fin_cases a <;> rfl
theorem z4 : (![0, 0, 0, 0] : Fin 4 → Nat) = fun _ => 0 := funext fun a => by fin_cases a <;> rfl

/-- A load reads the rectangle of what the window holds. -/
theorem load_ld {S : Shape} {ty : EltTy} {sp : Space} (m : Memref sig .tc sp S ty) (h : m.IsWhole) (r : Rect S)
    (x : S.Idx → Elt F ty) : View.readAt (Elt F) m.view r.toLoadRect (h.unread x) = View.ld x r := by
  rw [View.readAt_eq_ld, Memref.IsWhole.read_unread]

/-! ### The three rows of a modulation block -/

theorem z3 : (![0, 0, 0] : Fin 3 → Nat) = fun _ => 0 := funext fun a => by fin_cases a <;> rfl

/-- Row `i` of a modulation block. -/
def modRow (i : Fin 3) (d : FVec F S1x3x1024 .f32) : FVec F S1x1x1024 .f32 := fun y => d (ix3 0 i (y 2))

/-- A modulation block from its three rows. -/
def modBlock (w0 w1 w2 : FVec F S1x1x1024 .f32) : FVec F S1x3x1024 .f32 := fun y =>
  (![w0, w1, w2] (y 1)) (ix3 0 0 (y 2))

/-- The rectangle of row `o`. -/
abbrev rowRect (o : Nat) (inb : ∀ a, (![0, o, 0] : Fin 3 → Nat) a + S1x1x1024.size a ≤ S1x3x1024.size a) : Rect S1x3x1024 :=
  Rect.unit ![0, o, 0] S1x1x1024.size inb

theorem row_emb (o : Fin 3) (inb) (y : S1x1x1024.Idx) : (rowRect o.val inb).emb y = ix3 0 o (y 2) := by
  funext a
  have h0 : (y 0).val = 0 := by have := (y 0).isLt; simp at this; omega
  have h1 : (y 1).val = 0 := by have := (y 1).isLt; simp at this; omega
  apply Fin.ext
  match a with
  | 0 => show 0 + 1 * (y 0).val = 0; omega
  | 1 => show o.val + 1 * (y 1).val = o.val; omega
  | 2 => show 0 + 1 * (y 2).val = (y 2).val; omega

theorem row_not_mem (o : Nat) (i : Fin 3) (j : Fin 1024) (h : i.val ≠ o) (inb) :
    (ix3 0 i j : S1x3x1024.Idx) ∉ (rowRect o inb).set := by
  intro hm
  have h1 := Rect.mem_set_unit.mp hm 1
  have h2 : o ≤ i.val ∧ i.val < o + 1 := h1
  omega

/-- A load of row `o` of a block. -/
theorem ld_row (o : Fin 3) (inb) (d : FVec F S1x3x1024 .f32) : View.ld (Val := Elt F) (e' := .f32) d (rowRect o.val inb) = modRow o d :=
  funext fun y => congrArg d (row_emb o inb y)

theorem ix3_eta (y : S1x3x1024.Idx) : y = ix3 0 (y 1) (y 2) := by
  funext a
  match a with
  | 0 => exact Fin.ext (by have := (y 0).isLt; simp at this; show (y 0).val = 0; omega)
  | 1 => rfl
  | 2 => rfl

/-- What a row store leaves in its row, and in another. -/
theorem canon_row_hit (o : Fin 3) (inb) (w : FVec F S1x1x1024 .f32) (L : List (View.Piece (Elt F) S1x3x1024 .f32))
    (j : Fin 1024) : View.canon (Val := Elt F) (e := .f32) (⟨rowRect o.val inb, w⟩ :: L) (ix3 0 o j) = w (ix3 0 0 j) := by
  have h := View.canon_cons_emb (Val := Elt F) (e := .f32) (rowRect o.val inb) w L (ix3 0 0 j)
  rw [row_emb] at h
  exact h

theorem canon_row_miss (o : Nat) (i : Fin 3) (hi : i.val ≠ o) (inb) (w : FVec F S1x1x1024 .f32)
    (L : List (View.Piece (Elt F) S1x3x1024 .f32)) (j : Fin 1024) :
    View.canon (Val := Elt F) (e := .f32) (⟨rowRect o inb, w⟩ :: L) (ix3 0 i j)
      = View.canon (Val := Elt F) (e := .f32) L (ix3 0 i j) :=
  View.canon_cons_of_not_mem (Val := Elt F) (e := .f32) ⟨rowRect o inb, w⟩ L (row_not_mem o i j hi inb)

/-- Three row stores leave the block of the three rows. -/
theorem canon_rows (w0 w1 w2 : FVec F S1x1x1024 .f32) (i0 i1 i2) (L : List (View.Piece (Elt F) S1x3x1024 .f32)) :
    View.canon (Val := Elt F) (⟨rowRect 1 i1, w1⟩ :: ⟨rowRect 0 i0, w0⟩ :: ⟨rowRect 2 i2, w2⟩ :: L) = modBlock w0 w1 w2 := by
  funext y
  suffices h : ∀ (i : Fin 3) (j : Fin 1024), View.canon (Val := Elt F)
      (⟨rowRect 1 i1, w1⟩ :: ⟨rowRect 0 i0, w0⟩ :: ⟨rowRect 2 i2, w2⟩ :: L) (ix3 0 i j) = (![w0, w1, w2] i) (ix3 0 0 j) by
    rw [ix3_eta y]; exact h (y 1) (y 2)
  intro i j
  match i with
  | 0 => exact (canon_row_miss 1 0 (by decide) i1 w1 _ j).trans (canon_row_hit 0 i0 w0 _ j)
  | 1 => exact canon_row_hit 1 i1 w1 _ j
  | 2 =>
    exact (canon_row_miss 1 2 (by decide) i1 w1 _ j).trans
      ((canon_row_miss 0 2 (by decide) i0 w0 _ j).trans (canon_row_hit 2 i2 w2 _ j))

/-- A load of a row after a store of the whole block. -/
theorem row_of_whole (m : Memref sig .tc .vmem S1x3x1024 .f32) (o : Fin 3) (inb inb') (d : FVec F S1x3x1024 .f32) :
    m.view.readCov (Val := Elt F) [⟨Rect.unit ![0, 0, 0] S1x3x1024.size inb', d⟩] (rowRect o.val inb).toLoadRect = modRow o d := by
  rw [View.readCov_eq_canon', View.canon_unit_zero (S := S1x3x1024) z3]
  exact ld_row o inb d

/-- A load of a row passes a store into another row. -/
theorem row_skip (m : Memref sig .tc .vmem S1x3x1024 .f32) (o : Fin 3) (o' : Nat) (h : o.val ≠ o') (inb inb')
    (w : FVec F S1x1x1024 .f32) (L : List (View.Piece (Elt F) S1x3x1024 .f32)) :
    m.view.readCov (Val := Elt F) (⟨rowRect o' inb', w⟩ :: L) (rowRect o.val inb).toLoadRect
      = m.view.readCov L (rowRect o.val inb).toLoadRect := by
  rw [View.readCov_eq_canon', View.readCov_eq_canon']
  funext y
  refine View.canon_cons_of_not_mem (Val := Elt F) (e := .f32) ⟨rowRect o' inb', w⟩ _ ?_
  show (rowRect o.val inb).emb y ∉ _
  rw [row_emb]
  exact row_not_mem o' o _ h inb'

/-! ### The step of the accumulators -/

/-- The accumulators the first point starts from. -/
def Acc.zero : Acc F := ⟨k0_pay3, k0_pay8, k0_pay4, k0_pay5, k0_pay6, k0_pay7⟩

/-- The accumulators the first point of a later batch element starts from: the modulation block is zero. -/
def Acc.fresh (s : Acc F) : Acc F := ⟨s.loss, k0_pay8, s.db1, s.db2, s.dgain, s.dbias⟩

/-- The accumulators after a point. -/
def Acc.next (s : Acc F) (T : Tile F) : Acc F where
  loss := k0_pay29 T.x T.vMlp T.vGt T.g T.b T.t s.loss
  dm := modBlock (k0_pay1 T.vDshift (modRow 0 s.dm)) (k0_pay2 T.vDscale (modRow 1 s.dm)) (k0_pay38 T.vDgate (modRow 2 s.dm))
  db1 := k0_pay42 T.vAct T.vDmlp T.w2 s.db1
  db2 := k0_pay39 T.vDmlp s.db2
  dgain := k0_pay36 T.vNorm2 T.vDiff inv s.dgain
  dbias := k0_pay37 T.vDbias s.dbias

end Cert.Step

end
-- ==== Proof.Carried.lean ====
/-
  The blocks the body reads at each grid point, and the accumulators it leaves there, followed from point to point as one
  record.
-/
module

public import proofs.«01_k».proof.Proof.Steps

@[expose] public section

set_option maxRecDepth 16384

noncomputable section

namespace Cert.Step

open Idealize.ShloMosaic Idealize.ShloMosaic.TcCoe Idealize.ShloMosaic.Tactic Cert.KernelIdeal Cert.KernelIdeal.Gen

variable {F : FTy → Type} [FloatOps F]

variable (m : (ℓ : Loc nD τ sig) → Buf (Elt F) ℓ) (c : Dev nD)

/-- The blocks the body reads at a point, and the two weight arrays it keeps in scratch. -/
def tile (t : Fin cfg0.N) : Tile F where
  x := iblk m c 0 t
  t := iblk m c 1 t
  sh := iblk m c 2 t
  sc := iblk m c 3 t
  gt := iblk m c 4 t
  b1 := iblk m c 5 t
  b2 := iblk m c 6 t
  g := iblk m c 7 t
  b := iblk m c 8 t
  w1 := V m c main_v0
  w2 := V m c main_v1

/-- The accumulators after each point. -/
def acc : (n : ℕ) → n < cfg0.N → Acc F
  | 0, h => Acc.zero.next (tile m c ⟨0, h⟩)
  | n + 1, h => (if (n + 1) % 8 = 0 then (acc n (Nat.lt_of_succ_lt h)).fresh else acc n (Nat.lt_of_succ_lt h)).next
      (tile m c ⟨n + 1, h⟩)

/-- The accumulators after the point before `t`. -/
abbrev accBefore (t : Fin cfg0.N) : Acc F := acc m c (t.val - 1) (Nat.lt_of_le_of_lt (Nat.sub_le _ _) t.isLt)

theorem acc_first (t : Fin cfg0.N) (h : t.val = 0) : acc m c t.val t.isLt = Acc.zero.next (tile m c t) := by
  obtain ⟨_ | n, hn⟩ := t
  · rfl
  · exact absurd h (Nat.succ_ne_zero n)

theorem acc_start (t : Fin cfg0.N) (h : t.val ≠ 0) (h8 : t.val % 8 = 0) :
    acc m c t.val t.isLt = (accBefore m c t).fresh.next (tile m c t) := by
  obtain ⟨_ | n, hn⟩ := t
  · exact absurd rfl h
  · show (if (n + 1) % 8 = 0 then _ else _ : Acc F).next _ = _
    rw [if_pos h8]
    rfl

theorem acc_inner (t : Fin cfg0.N) (h8 : ¬t.val % 8 = 0) :
    acc m c t.val t.isLt = (accBefore m c t).next (tile m c t) := by
  obtain ⟨_ | n, hn⟩ := t
  · exact absurd rfl h8
  · show (if (n + 1) % 8 = 0 then _ else _ : Acc F).next _ = _
    rw [if_neg h8]
    rfl

end Cert.Step

end
-- ==== Proof.ReadA.lean ====
/-
  What the run at the first point leaves in each output block: the values it names, then the blocks.
-/
module

public import proofs.«01_k».proof.Proof.Steps

@[expose] public section

set_option maxRecDepth 16384

noncomputable section

namespace Cert.Step

open Idealize.ShloMosaic Idealize.ShloMosaic.TcCoe Idealize.ShloMosaic.Tactic Cert.KernelIdeal Cert.KernelIdeal.Gen

variable {F : FTy → Type} [FloatOps F]

variable (c : Dev nD) (t : Fin cfg0.N) (T : Tile F) (s : Acc F)

/-! ### The values -/

theorem A_cst_19 : kernelRun0_A.sl.cst_19 (F := F)  = eps := rfl

theorem A_cst_60 : kernelRun0_A.sl.cst_60 (F := F)  = inv := rfl

theorem A_v48 :
    kernelRun0_A.sl.v48 (F := F) c scM0_0 T.w1 = T.w1 := by
  rw [kernelRun0_A.sl.v48, View.readCov_eq_canon']
  funext j
  have h : (Rect.unit (s := S1024x4096) ![0, 0] S1024x4096.size inb_S1024x4096_S1024x4096_0_0).toLoadRect.idx j = (Rect.whole S1024x4096).emb j := by
    funext a
    match a with
    | 0 => rfl
    | 1 => rfl
  rw [h]
  exact View.canon_cons_emb (Val := Elt F) (e := .bf16) (Rect.whole S1024x4096) (kernelRun0_A.sl.dma0 (F := F) c T.w1) [] j

theorem A_v58 :
    kernelRun0_A.sl.v58 (F := F) c scM0_1 T.w2 = T.w2 := by
  rw [kernelRun0_A.sl.v58, View.readCov_eq_canon']
  funext j
  have h : (Rect.unit (s := S4096x1024) ![0, 0] S4096x1024.size inb_S4096x1024_S4096x1024_0_0).toLoadRect.idx j = (Rect.whole S4096x1024).emb j := by
    funext a
    match a with
    | 0 => rfl
    | 1 => rfl
  rw [h]
  exact View.canon_cons_emb (Val := Elt F) (e := .bf16) (Rect.whole S4096x1024) (kernelRun0_A.sl.dma0_1 (F := F) c T.w2) [] j

theorem A_v97 :
    kernelRun0_A.sl.v97 (F := F) c (ms0_9 t) = (k0_pay3 (F := F)) := by
  rw [kernelRun0_A.sl.v97, kernelRun0_A.sl.H9_1]
  exact View.readCov_unit_zero (Val := Elt F) (e := .f32) (S := S8x128) _ z2 _ (k0_pay3 (F := F))

theorem A_v149 :
    kernelRun0_A.sl.v149 (F := F) c (ms0_18 t) = (k0_pay6 (F := F)) := by
  rw [kernelRun0_A.sl.v149, kernelRun0_A.sl.H18_1]
  exact View.readCov_unit_zero (Val := Elt F) (e := .f32) (S := S1x1024) _ z2 _ (k0_pay6 (F := F))

theorem A_v153 :
    kernelRun0_A.sl.v153 (F := F) c (ms0_19 t) = (k0_pay7 (F := F)) := by
  rw [kernelRun0_A.sl.v153, kernelRun0_A.sl.H19_1]
  exact View.readCov_unit_zero (Val := Elt F) (e := .f32) (S := S1x1024) _ z2 _ (k0_pay7 (F := F))

theorem A_v163 :
    kernelRun0_A.sl.v163 (F := F) c (ms0_17 t) = (k0_pay5 (F := F)) := by
  rw [kernelRun0_A.sl.v163, kernelRun0_A.sl.H17_1]
  exact View.readCov_unit_zero (Val := Elt F) (e := .f32) (S := S1x1024) _ z2 _ (k0_pay5 (F := F))

theorem A_v176 :
    kernelRun0_A.sl.v176 (F := F) c (ms0_16 t) = (k0_pay4 (F := F)) := by
  rw [kernelRun0_A.sl.v176, kernelRun0_A.sl.H16_1]
  exact View.readCov_unit_zero (Val := Elt F) (e := .f32) (S := S1x4096) _ z2 _ (k0_pay4 (F := F))

theorem A_r :
    kernelRun0_A.sl.r (F := F) c (ms0_0 t) (hs0_0 t) T.x = T.x := by
  simp -proj only [kernelRun0_A.sl.r, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem A_r_1 :
    kernelRun0_A.sl.r_1 (F := F) c (ms0_2 t) (hs0_2 t) T.sh = T.vSh := by
  simp -proj only [kernelRun0_A.sl.r_1, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem A_r_2 :
    kernelRun0_A.sl.r_2 (F := F) c (ms0_3 t) (hs0_3 t) T.sc = T.vSc := by
  simp -proj only [kernelRun0_A.sl.r_2, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem A_r_3 :
    kernelRun0_A.sl.r_3 (F := F) c (ms0_0 t) (hs0_0 t) T.x = T.vCen := by
  simp -proj only [kernelRun0_A.sl.r_3, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem A_r_4 :
    kernelRun0_A.sl.r_4 (F := F) c (ms0_0 t) (hs0_0 t) T.x = T.vVar := by
  simp -proj only [kernelRun0_A.sl.r_4, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem A_r_5 :
    kernelRun0_A.sl.r_5 (F := F) c (ms0_0 t) (hs0_0 t) T.x = k0_pay14 T.vVar eps := by
  simp -proj only [kernelRun0_A.sl.r_5, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_4, A_cst_19]
  <;> rfl

theorem A_r_6 :
    kernelRun0_A.sl.r_6 (F := F) c (ms0_0 t) (hs0_0 t) T.x = k0_pay15 T.vVar eps := by
  simp -proj only [kernelRun0_A.sl.r_6, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_4, A_cst_19]
  <;> rfl

theorem A_r_7 :
    kernelRun0_A.sl.r_7 (F := F) c (ms0_0 t) (hs0_0 t) T.x = T.vNorm := by
  simp -proj only [kernelRun0_A.sl.r_7, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_3, A_r_4,
  A_cst_19] <;> rfl

theorem A_r_8 :
    kernelRun0_A.sl.r_8 (F := F) c (ms0_3 t) (hs0_3 t) T.sc = k0_pay17 T.vSc := by
  simp -proj only [kernelRun0_A.sl.r_8, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_2] <;> rfl

theorem A_r_9 :
    kernelRun0_A.sl.r_9 (F := F) c (ms0_0 t) (hs0_0 t) (ms0_2 t) (hs0_2 t) (ms0_3 t) (hs0_3 t) (ms0_5 t) (hs0_5
    t) scM0_0 T.x T.sh T.sc T.b1 T.w1 = T.vAct := by
  simp -proj only [kernelRun0_A.sl.r_9, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_1, A_r_2,
  A_r_3, A_r_4, A_cst_19, A_v48] <;> rfl

theorem A_r_10 :
    kernelRun0_A.sl.r_10 (F := F) c (ms0_0 t) (hs0_0 t) (ms0_2 t) (hs0_2 t) (ms0_3 t) (hs0_3 t) (ms0_5 t) (hs0_5
    t) (ms0_6 t) (hs0_6 t) scM0_0 scM0_1 T.x T.sh T.sc T.b1 T.b2 T.w1 T.w2 = T.vMlp := by
  simp -proj only [kernelRun0_A.sl.r_10, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_1, A_r_2,
  A_r_3, A_r_4, A_cst_19, A_v48, A_v58] <;> rfl

theorem A_r_11 :
    kernelRun0_A.sl.r_11 (F := F) c (ms0_4 t) (hs0_4 t) T.gt = T.vGt := by
  simp -proj only [kernelRun0_A.sl.r_11, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem A_r_12 :
    kernelRun0_A.sl.r_12 (F := F) c (ms0_7 t) (hs0_7 t) T.g = T.g := by
  simp -proj only [kernelRun0_A.sl.r_12, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem A_r_13 :
    kernelRun0_A.sl.r_13 (F := F) c (ms0_0 t) (hs0_0 t) (ms0_2 t) (hs0_2 t) (ms0_3 t) (hs0_3 t) (ms0_4 t) (hs0_4
    t) (ms0_5 t) (hs0_5 t) (ms0_6 t) (hs0_6 t) scM0_0 scM0_1 T.x T.sh T.sc T.gt T.b1 T.b2 T.w1 T.w2 = T.vCen2 := by
  simp -proj only [kernelRun0_A.sl.r_13, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r, A_r_10,
  A_r_11] <;> rfl

theorem A_r_14 :
    kernelRun0_A.sl.r_14 (F := F) c (ms0_0 t) (hs0_0 t) (ms0_2 t) (hs0_2 t) (ms0_3 t) (hs0_3 t) (ms0_4 t) (hs0_4
    t) (ms0_5 t) (hs0_5 t) (ms0_6 t) (hs0_6 t) scM0_0 scM0_1 T.x T.sh T.sc T.gt T.b1 T.b2 T.w1 T.w2 = T.vRstd2 := by
  simp -proj only [kernelRun0_A.sl.r_14, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r, A_r_10,
  A_r_11] <;> rfl

theorem A_r_15 :
    kernelRun0_A.sl.r_15 (F := F) c (ms0_0 t) (hs0_0 t) (ms0_2 t) (hs0_2 t) (ms0_3 t) (hs0_3 t) (ms0_4 t) (hs0_4
    t) (ms0_5 t) (hs0_5 t) (ms0_6 t) (hs0_6 t) scM0_0 scM0_1 T.x T.sh T.sc T.gt T.b1 T.b2 T.w1 T.w2 = T.vDrstd2 := by
  simp -proj only [kernelRun0_A.sl.r_15, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r, A_r_10,
  A_r_11] <;> rfl

theorem A_r_16 :
    kernelRun0_A.sl.r_16 (F := F) c (ms0_0 t) (hs0_0 t) (ms0_2 t) (hs0_2 t) (ms0_3 t) (hs0_3 t) (ms0_4 t) (hs0_4
    t) (ms0_5 t) (hs0_5 t) (ms0_6 t) (hs0_6 t) scM0_0 scM0_1 T.x T.sh T.sc T.gt T.b1 T.b2 T.w1 T.w2 = T.vNorm2 := by
  simp -proj only [kernelRun0_A.sl.r_16, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r, A_r_10,
  A_r_11] <;> rfl

theorem A_r_17 :
    kernelRun0_A.sl.r_17 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    scM0_1 T.x T.t T.sh T.sc T.gt T.b1 T.b2 T.g T.b T.w1 T.w2 = T.vDiff := by
  simp -proj only [kernelRun0_A.sl.r_17, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r, A_r_10,
  A_r_11, A_r_12] <;> rfl

theorem A_r_18 :
    kernelRun0_A.sl.r_18 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    scM0_1 T.x T.t T.sh T.sc T.gt T.b1 T.b2 T.g T.b T.w1 T.w2 = T.vDbias := by
  simp -proj only [kernelRun0_A.sl.r_18, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_17, A_cst_60]
  <;> rfl

theorem A_r_19 :
    kernelRun0_A.sl.r_19 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    scM0_1 T.x T.t T.sh T.sc T.gt T.b1 T.b2 T.g T.b T.w1 T.w2 = T.vDmlp := by
  simp -proj only [kernelRun0_A.sl.r_19, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_11, A_r_12,
  A_r_13, A_r_14, A_r_15, A_r_17, A_cst_60] <;> rfl

theorem A_r_20 :
    kernelRun0_A.sl.r_20 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    scM0_1 T.x T.t T.sh T.sc T.gt T.b1 T.b2 T.g T.b T.w1 T.w2 = T.vDgate := by
  simp -proj only [kernelRun0_A.sl.r_20, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_10, A_r_12,
  A_r_13, A_r_14, A_r_15, A_r_17, A_cst_60] <;> rfl

theorem A_r_21 :
    kernelRun0_A.sl.r_21 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    scM0_1 T.x T.t T.sh T.sc T.gt T.b1 T.b2 T.g T.b T.w1 T.w2 = T.vDres := by
  simp -proj only [kernelRun0_A.sl.r_21, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_12, A_r_13,
  A_r_14, A_r_15, A_r_17, A_cst_60] <;> rfl

theorem A_r_22 :
    kernelRun0_A.sl.r_22 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_18
    t) scM0_0 scM0_1 T.x T.t T.sh T.sc T.gt T.b1 T.b2 T.g T.b T.w1 T.w2 = k0_pay36 T.vNorm2 T.vDiff inv (k0_pay6 (F
    := F)) := by
  simp -proj only [kernelRun0_A.sl.r_22, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_16, A_r_17,
  A_cst_60, A_v149] <;> rfl

theorem A_r_23 :
    kernelRun0_A.sl.r_23 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    scM0_1 T.x T.t T.sh T.sc T.gt T.b1 T.b2 T.g T.b T.w1 T.w2 = T.vDpre := by
  simp -proj only [kernelRun0_A.sl.r_23, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_9, A_r_19,
  A_v58] <;> rfl

theorem A_r_24 :
    kernelRun0_A.sl.r_24 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_16
    t) scM0_0 scM0_1 T.x T.t T.sh T.sc T.gt T.b1 T.b2 T.g T.b T.w1 T.w2 = k0_pay42 T.vAct T.vDmlp T.w2 (k0_pay4 (F
    := F)) := by
  simp -proj only [kernelRun0_A.sl.r_24, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_9, A_r_19,
  A_v58, A_v176] <;> rfl

theorem A_r_25 :
    kernelRun0_A.sl.r_25 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    scM0_1 T.x T.t T.sh T.sc T.gt T.b1 T.b2 T.g T.b T.w1 T.w2 = T.vDshift := by
  simp -proj only [kernelRun0_A.sl.r_25, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_23, A_v48]
  <;> rfl

theorem A_r_26 :
    kernelRun0_A.sl.r_26 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    scM0_1 T.x T.t T.sh T.sc T.gt T.b1 T.b2 T.g T.b T.w1 T.w2 = T.vDscale := by
  simp -proj only [kernelRun0_A.sl.r_26, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, A_r_7, A_r_23,
  A_v48] <;> rfl

theorem A_v157 :
    kernelRun0_A.sl.v157 (F := F) c (ms0_15 t) = modRow 2 (k0_pay8 (F := F)) := by
  rw [kernelRun0_A.sl.v157, kernelRun0_A.sl.H15_1]
  exact row_of_whole (ms0_15 t) 2 _ _ k0_pay8

theorem A_v220 :
    kernelRun0_A.sl.v220 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_15
    t) scM0_0 scM0_1 T.x T.t T.sh T.sc T.gt T.b1 T.b2 T.g T.b T.w1 T.w2 = modRow 0 (k0_pay8 (F := F)) := by
  rw [kernelRun0_A.sl.v220, kernelRun0_A.sl.H15_2]
  refine (row_skip (ms0_15 t) 0 2 (by decide) _ _ _ _).trans ?_
  rw [kernelRun0_A.sl.H15_1]
  exact row_of_whole (ms0_15 t) 0 _ _ k0_pay8

theorem A_v226 :
    kernelRun0_A.sl.v226 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_15
    t) scM0_0 scM0_1 T.x T.t T.sh T.sc T.gt T.b1 T.b2 T.g T.b T.w1 T.w2 = modRow 1 (k0_pay8 (F := F)) := by
  rw [kernelRun0_A.sl.v226, kernelRun0_A.sl.H15_3]
  refine (row_skip (ms0_15 t) 1 0 (by decide) _ _ _ _).trans ?_
  rw [kernelRun0_A.sl.H15_2]
  refine (row_skip (ms0_15 t) 1 2 (by decide) _ _ _ _).trans ?_
  rw [kernelRun0_A.sl.H15_1]
  exact row_of_whole (ms0_15 t) 1 _ _ k0_pay8

/-! ### The blocks -/

theorem A_out_loss (h0 : t.val % 32 = 0) (h1 : t.val % 8 = 0) :
    View.canon (runA c t T h0 h1).1 = (Acc.zero.next T).loss := by
  refine (View.canon_cons_unit_zero (S := S8x128) z2 _ _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_loss (h0 : t.val % 32 = 0) (h1 : t.val % 8 = 0) (f) :
    (ms0_9 t).view.read (Elt F) ((ms0_9 t).view.writes (Elt F) f (runA c t T h0 h1).1)
      = (Acc.zero.next T).loss :=
  (View.read_writes_eq_canon _ _ _ fun y => View.cover_of_tiledL (runA c t T h0 h1).1
    S8x128.size (by sl_kernel_rfl) y).trans (A_out_loss c t T h0 h1)

theorem A_out_dx (h0 : t.val % 32 = 0) (h1 : t.val % 8 = 0) :
    View.canon (runA c t T h0 h1).2.1 = T.vDx := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_dx (h0 : t.val % 32 = 0) (h1 : t.val % 8 = 0) (f) :
    (ms0_10 t).view.read (Elt F) ((ms0_10 t).view.writes (Elt F) f (runA c t T h0 h1).2.1)
      = T.vDx :=
  (View.read_writes_eq_canon _ _ _ fun y => View.cover_of_tiledL (runA c t T h0 h1).2.1
    S256x1024.size (by sl_kernel_rfl) y).trans (A_out_dx c t T h0 h1)

theorem A_out_h2 (h0 : t.val % 32 = 0) (h1 : t.val % 8 = 0) :
    View.canon (runA c t T h0 h1).2.2.1 = T.vHid := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_h2 (h0 : t.val % 32 = 0) (h1 : t.val % 8 = 0) (f) :
    (ms0_11 t).view.read (Elt F) ((ms0_11 t).view.writes (Elt F) f (runA c t T h0 h1).2.2.1)
      = T.vHid :=
  (View.read_writes_eq_canon _ _ _ fun y => View.cover_of_tiledL (runA c t T h0 h1).2.2.1
    S256x1024.size (by sl_kernel_rfl) y).trans (A_out_h2 c t T h0 h1)

theorem A_out_da1 (h0 : t.val % 32 = 0) (h1 : t.val % 8 = 0) :
    View.canon (runA c t T h0 h1).2.2.2.1 = k0_pay43 T.vDpre := by
  refine (View.canon_unit_zero (S := S256x4096) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_da1 (h0 : t.val % 32 = 0) (h1 : t.val % 8 = 0) (f) :
    (ms0_12 t).view.read (Elt F) ((ms0_12 t).view.writes (Elt F) f (runA c t T h0 h1).2.2.2.1)
      = k0_pay43 T.vDpre :=
  (View.read_writes_eq_canon _ _ _ fun y => View.cover_of_tiledL (runA c t T h0 h1).2.2.2.1
    S256x4096.size (by sl_kernel_rfl) y).trans (A_out_da1 c t T h0 h1)

theorem A_out_r2 (h0 : t.val % 32 = 0) (h1 : t.val % 8 = 0) :
    View.canon (runA c t T h0 h1).2.2.2.2.1 = T.vSq := by
  refine (View.canon_unit_zero (S := S256x4096) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_r2 (h0 : t.val % 32 = 0) (h1 : t.val % 8 = 0) (f) :
    (ms0_13 t).view.read (Elt F) ((ms0_13 t).view.writes (Elt F) f (runA c t T h0 h1).2.2.2.2.1)
      = T.vSq :=
  (View.read_writes_eq_canon _ _ _ fun y => View.cover_of_tiledL (runA c t T h0 h1).2.2.2.2.1
    S256x4096.size (by sl_kernel_rfl) y).trans (A_out_r2 c t T h0 h1)

theorem A_out_dmlp (h0 : t.val % 32 = 0) (h1 : t.val % 8 = 0) :
    View.canon (runA c t T h0 h1).2.2.2.2.2.1 = k0_pay40 T.vDmlp := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_dmlp (h0 : t.val % 32 = 0) (h1 : t.val % 8 = 0) (f) :
    (ms0_14 t).view.read (Elt F) ((ms0_14 t).view.writes (Elt F) f (runA c t T h0 h1).2.2.2.2.2.1)
      = k0_pay40 T.vDmlp :=
  (View.read_writes_eq_canon _ _ _ fun y => View.cover_of_tiledL (runA c t T h0 h1).2.2.2.2.2.1
    S256x1024.size (by sl_kernel_rfl) y).trans (A_out_dmlp c t T h0 h1)

theorem A_out_dm (h0 : t.val % 32 = 0) (h1 : t.val % 8 = 0) :
    View.canon (runA c t T h0 h1).2.2.2.2.2.2.1 = (Acc.zero.next T).dm := by
  refine (canon_rows _ _ _ _ _ _ _).trans ?_
  rw [A_r_25, A_r_26, A_r_20, A_v220, A_v226, A_v157]
  rfl

theorem A_read_dm (h0 : t.val % 32 = 0) (h1 : t.val % 8 = 0) (f) :
    (ms0_15 t).view.read (Elt F) ((ms0_15 t).view.writes (Elt F) f (runA c t T h0 h1).2.2.2.2.2.2.1)
      = (Acc.zero.next T).dm :=
  (View.read_writes_eq_canon _ _ _ fun y => View.cover_of_tiledL (runA c t T h0 h1).2.2.2.2.2.2.1
    S1x3x1024.size (by sl_kernel_rfl) y).trans (A_out_dm c t T h0 h1)

theorem A_out_db1 (h0 : t.val % 32 = 0) (h1 : t.val % 8 = 0) :
    View.canon (runA c t T h0 h1).2.2.2.2.2.2.2.1 = (Acc.zero.next T).db1 := by
  refine (View.canon_cons_unit_zero (S := S1x4096) z2 _ _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_db1 (h0 : t.val % 32 = 0) (h1 : t.val % 8 = 0) (f) :
    (ms0_16 t).view.read (Elt F) ((ms0_16 t).view.writes (Elt F) f (runA c t T h0 h1).2.2.2.2.2.2.2.1)
      = (Acc.zero.next T).db1 :=
  (View.read_writes_eq_canon _ _ _ fun y => View.cover_of_tiledL (runA c t T h0 h1).2.2.2.2.2.2.2.1
    S1x4096.size (by sl_kernel_rfl) y).trans (A_out_db1 c t T h0 h1)

theorem A_out_db2 (h0 : t.val % 32 = 0) (h1 : t.val % 8 = 0) :
    View.canon (runA c t T h0 h1).2.2.2.2.2.2.2.2.1 = (Acc.zero.next T).db2 := by
  refine (View.canon_cons_unit_zero (S := S1x1024) z2 _ _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_db2 (h0 : t.val % 32 = 0) (h1 : t.val % 8 = 0) (f) :
    (ms0_17 t).view.read (Elt F) ((ms0_17 t).view.writes (Elt F) f (runA c t T h0 h1).2.2.2.2.2.2.2.2.1)
      = (Acc.zero.next T).db2 :=
  (View.read_writes_eq_canon _ _ _ fun y => View.cover_of_tiledL (runA c t T h0 h1).2.2.2.2.2.2.2.2.1
    S1x1024.size (by sl_kernel_rfl) y).trans (A_out_db2 c t T h0 h1)

theorem A_out_dgain (h0 : t.val % 32 = 0) (h1 : t.val % 8 = 0) :
    View.canon (runA c t T h0 h1).2.2.2.2.2.2.2.2.2.1 = (Acc.zero.next T).dgain := by
  refine (View.canon_cons_unit_zero (S := S1x1024) z2 _ _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_dgain (h0 : t.val % 32 = 0) (h1 : t.val % 8 = 0) (f) :
    (ms0_18 t).view.read (Elt F) ((ms0_18 t).view.writes (Elt F) f (runA c t T h0 h1).2.2.2.2.2.2.2.2.2.1)
      = (Acc.zero.next T).dgain :=
  (View.read_writes_eq_canon _ _ _ fun y => View.cover_of_tiledL (runA c t T h0 h1).2.2.2.2.2.2.2.2.2.1
    S1x1024.size (by sl_kernel_rfl) y).trans (A_out_dgain c t T h0 h1)

theorem A_out_dbias (h0 : t.val % 32 = 0) (h1 : t.val % 8 = 0) :
    View.canon (runA c t T h0 h1).2.2.2.2.2.2.2.2.2.2.1 = (Acc.zero.next T).dbias := by
  refine (View.canon_cons_unit_zero (S := S1x1024) z2 _ _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, A_r, A_r_1, A_r_2, A_r_3, A_r_4,
  A_r_5, A_r_6, A_r_7, A_r_8, A_r_9, A_r_10, A_r_11, A_r_12, A_r_13, A_r_14, A_r_15, A_r_16, A_r_17, A_r_18, A_r_19,
  A_r_20, A_r_21, A_r_22, A_r_23, A_r_24, A_r_25, A_r_26, A_cst_19, A_cst_60, A_v48, A_v58, A_v97, A_v149, A_v153,
  A_v163, A_v176] <;> rfl

theorem A_read_dbias (h0 : t.val % 32 = 0) (h1 : t.val % 8 = 0) (f) :
    (ms0_19 t).view.read (Elt F) ((ms0_19 t).view.writes (Elt F) f (runA c t T h0 h1).2.2.2.2.2.2.2.2.2.2.1)
      = (Acc.zero.next T).dbias :=
  (View.read_writes_eq_canon _ _ _ fun y => View.cover_of_tiledL (runA c t T h0 h1).2.2.2.2.2.2.2.2.2.2.1
    S1x1024.size (by sl_kernel_rfl) y).trans (A_out_dbias c t T h0 h1)

theorem A_out_w1 (h0 : t.val % 32 = 0) (h1 : t.val % 8 = 0) :
    View.canon (runA c t T h0 h1).2.2.2.2.2.2.2.2.2.2.2.1 = T.w1 := by
  funext j
  have h : (Rect.whole S1024x4096).emb j = j := Rect.emb_whole_apply _ _
  conv_lhs => rw [← h]
  exact View.canon_cons_emb (Val := Elt F) (e := .bf16) (Rect.whole S1024x4096) (kernelRun0_A.sl.dma0 (F := F) c T.w1) [] j

theorem A_read_w1 (h0 : t.val % 32 = 0) (h1 : t.val % 8 = 0) (f) :
    scM0_0.view.read (Elt F) (scM0_0.view.writes (Elt F) f (runA c t T h0 h1).2.2.2.2.2.2.2.2.2.2.2.1)
      = T.w1 :=
  (View.read_writes_eq_canon _ _ _ fun y => View.cover_of_tiledL (runA c t T h0 h1).2.2.2.2.2.2.2.2.2.2.2.1
    S1024x4096.size (by sl_kernel_rfl) y).trans (A_out_w1 c t T h0 h1)

theorem A_out_w2 (h0 : t.val % 32 = 0) (h1 : t.val % 8 = 0) :
    View.canon (runA c t T h0 h1).2.2.2.2.2.2.2.2.2.2.2.2.1 = T.w2 := by
  funext j
  have h : (Rect.whole S4096x1024).emb j = j := Rect.emb_whole_apply _ _
  conv_lhs => rw [← h]
  exact View.canon_cons_emb (Val := Elt F) (e := .bf16) (Rect.whole S4096x1024) (kernelRun0_A.sl.dma0_1 (F := F) c T.w2) [] j

theorem A_read_w2 (h0 : t.val % 32 = 0) (h1 : t.val % 8 = 0) (f) :
    scM0_1.view.read (Elt F) (scM0_1.view.writes (Elt F) f (runA c t T h0 h1).2.2.2.2.2.2.2.2.2.2.2.2.1)
      = T.w2 :=
  (View.read_writes_eq_canon _ _ _ fun y => View.cover_of_tiledL (runA c t T h0 h1).2.2.2.2.2.2.2.2.2.2.2.2.1
    S4096x1024.size (by sl_kernel_rfl) y).trans (A_out_w2 c t T h0 h1)

end Cert.Step

end
-- ==== Proof.ReadB.lean ====
/-
  What the run at a point that is not the first of its batch element leaves in each output block: the values it names, then the blocks.
-/
module

public import proofs.«01_k».proof.Proof.Steps

@[expose] public section

set_option maxRecDepth 16384

noncomputable section

namespace Cert.Step

open Idealize.ShloMosaic Idealize.ShloMosaic.TcCoe Idealize.ShloMosaic.Tactic Cert.KernelIdeal Cert.KernelIdeal.Gen

variable {F : FTy → Type} [FloatOps F]

variable (c : Dev nD) (t : Fin cfg0.N) (T : Tile F) (s : Acc F)

/-! ### The values -/

theorem B_cst_19 : kernelRun0_B.sl.cst_19 (F := F)  = eps := rfl

theorem B_cst_60 : kernelRun0_B.sl.cst_60 (F := F)  = inv := rfl

theorem B_r :
    kernelRun0_B.sl.r (F := F) c (ms0_0 t) (hs0_0 t) T.x = T.x := by
  simp -proj only [kernelRun0_B.sl.r, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem B_r_1 :
    kernelRun0_B.sl.r_1 (F := F) c (ms0_2 t) (hs0_2 t) T.sh = T.vSh := by
  simp -proj only [kernelRun0_B.sl.r_1, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem B_r_2 :
    kernelRun0_B.sl.r_2 (F := F) c (ms0_3 t) (hs0_3 t) T.sc = T.vSc := by
  simp -proj only [kernelRun0_B.sl.r_2, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem B_r_3 :
    kernelRun0_B.sl.r_3 (F := F) c (ms0_0 t) (hs0_0 t) T.x = T.vCen := by
  simp -proj only [kernelRun0_B.sl.r_3, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem B_r_4 :
    kernelRun0_B.sl.r_4 (F := F) c (ms0_0 t) (hs0_0 t) T.x = T.vVar := by
  simp -proj only [kernelRun0_B.sl.r_4, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem B_r_5 :
    kernelRun0_B.sl.r_5 (F := F) c (ms0_0 t) (hs0_0 t) T.x = k0_pay14 T.vVar eps := by
  simp -proj only [kernelRun0_B.sl.r_5, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_4, B_cst_19]
  <;> rfl

theorem B_r_6 :
    kernelRun0_B.sl.r_6 (F := F) c (ms0_0 t) (hs0_0 t) T.x = k0_pay15 T.vVar eps := by
  simp -proj only [kernelRun0_B.sl.r_6, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_4, B_cst_19]
  <;> rfl

theorem B_r_7 :
    kernelRun0_B.sl.r_7 (F := F) c (ms0_0 t) (hs0_0 t) T.x = T.vNorm := by
  simp -proj only [kernelRun0_B.sl.r_7, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_3, B_r_4,
  B_cst_19] <;> rfl

theorem B_r_8 :
    kernelRun0_B.sl.r_8 (F := F) c (ms0_3 t) (hs0_3 t) T.sc = k0_pay17 T.vSc := by
  simp -proj only [kernelRun0_B.sl.r_8, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_2] <;> rfl

theorem B_r_9 :
    kernelRun0_B.sl.r_9 (F := F) c (ms0_0 t) (hs0_0 t) (ms0_2 t) (hs0_2 t) (ms0_3 t) (hs0_3 t) (ms0_5 t) (hs0_5
    t) scM0_0 (Memref.isWhole_whole _) T.x T.sh T.sc T.b1 T.w1 = T.vAct := by
  simp -proj only [kernelRun0_B.sl.r_9, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_1, B_r_2,
  B_r_3, B_r_4, B_cst_19] <;> rfl

theorem B_r_10 :
    kernelRun0_B.sl.r_10 (F := F) c (ms0_0 t) (hs0_0 t) (ms0_2 t) (hs0_2 t) (ms0_3 t) (hs0_3 t) (ms0_5 t) (hs0_5
    t) (ms0_6 t) (hs0_6 t) scM0_0 (Memref.isWhole_whole _) scM0_1 (Memref.isWhole_whole _) T.x T.sh T.sc T.b1 T.b2
    T.w1 T.w2 = T.vMlp := by
  simp -proj only [kernelRun0_B.sl.r_10, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_1, B_r_2,
  B_r_3, B_r_4, B_cst_19] <;> rfl

theorem B_r_11 :
    kernelRun0_B.sl.r_11 (F := F) c (ms0_4 t) (hs0_4 t) T.gt = T.vGt := by
  simp -proj only [kernelRun0_B.sl.r_11, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem B_r_12 :
    kernelRun0_B.sl.r_12 (F := F) c (ms0_7 t) (hs0_7 t) T.g = T.g := by
  simp -proj only [kernelRun0_B.sl.r_12, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem B_r_13 :
    kernelRun0_B.sl.r_13 (F := F) c (ms0_0 t) (hs0_0 t) (ms0_2 t) (hs0_2 t) (ms0_3 t) (hs0_3 t) (ms0_4 t) (hs0_4
    t) (ms0_5 t) (hs0_5 t) (ms0_6 t) (hs0_6 t) scM0_0 (Memref.isWhole_whole _) scM0_1 (Memref.isWhole_whole _) T.x
    T.sh T.sc T.gt T.b1 T.b2 T.w1 T.w2 = T.vCen2 := by
  simp -proj only [kernelRun0_B.sl.r_13, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r, B_r_10,
  B_r_11] <;> rfl

theorem B_r_14 :
    kernelRun0_B.sl.r_14 (F := F) c (ms0_0 t) (hs0_0 t) (ms0_2 t) (hs0_2 t) (ms0_3 t) (hs0_3 t) (ms0_4 t) (hs0_4
    t) (ms0_5 t) (hs0_5 t) (ms0_6 t) (hs0_6 t) scM0_0 (Memref.isWhole_whole _) scM0_1 (Memref.isWhole_whole _) T.x
    T.sh T.sc T.gt T.b1 T.b2 T.w1 T.w2 = T.vRstd2 := by
  simp -proj only [kernelRun0_B.sl.r_14, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r, B_r_10,
  B_r_11] <;> rfl

theorem B_r_15 :
    kernelRun0_B.sl.r_15 (F := F) c (ms0_0 t) (hs0_0 t) (ms0_2 t) (hs0_2 t) (ms0_3 t) (hs0_3 t) (ms0_4 t) (hs0_4
    t) (ms0_5 t) (hs0_5 t) (ms0_6 t) (hs0_6 t) scM0_0 (Memref.isWhole_whole _) scM0_1 (Memref.isWhole_whole _) T.x
    T.sh T.sc T.gt T.b1 T.b2 T.w1 T.w2 = T.vDrstd2 := by
  simp -proj only [kernelRun0_B.sl.r_15, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r, B_r_10,
  B_r_11] <;> rfl

theorem B_r_16 :
    kernelRun0_B.sl.r_16 (F := F) c (ms0_0 t) (hs0_0 t) (ms0_2 t) (hs0_2 t) (ms0_3 t) (hs0_3 t) (ms0_4 t) (hs0_4
    t) (ms0_5 t) (hs0_5 t) (ms0_6 t) (hs0_6 t) scM0_0 (Memref.isWhole_whole _) scM0_1 (Memref.isWhole_whole _) T.x
    T.sh T.sc T.gt T.b1 T.b2 T.w1 T.w2 = T.vNorm2 := by
  simp -proj only [kernelRun0_B.sl.r_16, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r, B_r_10,
  B_r_11] <;> rfl

theorem B_r_17 :
    kernelRun0_B.sl.r_17 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDiff := by
  simp -proj only [kernelRun0_B.sl.r_17, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r, B_r_10,
  B_r_11, B_r_12] <;> rfl

theorem B_r_18 :
    kernelRun0_B.sl.r_18 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDbias := by
  simp -proj only [kernelRun0_B.sl.r_18, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_17, B_cst_60]
  <;> rfl

theorem B_r_19 :
    kernelRun0_B.sl.r_19 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDmlp := by
  simp -proj only [kernelRun0_B.sl.r_19, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_11, B_r_12,
  B_r_13, B_r_14, B_r_15, B_r_17, B_cst_60] <;> rfl

theorem B_r_20 :
    kernelRun0_B.sl.r_20 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDgate := by
  simp -proj only [kernelRun0_B.sl.r_20, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_10, B_r_12,
  B_r_13, B_r_14, B_r_15, B_r_17, B_cst_60] <;> rfl

theorem B_r_21 :
    kernelRun0_B.sl.r_21 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDres := by
  simp -proj only [kernelRun0_B.sl.r_21, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_12, B_r_13,
  B_r_14, B_r_15, B_r_17, B_cst_60] <;> rfl

theorem B_r_22 :
    kernelRun0_B.sl.r_22 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_18
    t) (hs0_18 t) scM0_0 (Memref.isWhole_whole _) scM0_1 (Memref.isWhole_whole _) T.x T.t T.sh T.sc T.gt T.b1 T.b2
    T.g T.b s.dgain T.w1 T.w2 = k0_pay36 T.vNorm2 T.vDiff inv s.dgain := by
  simp -proj only [kernelRun0_B.sl.r_22, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_16, B_r_17,
  B_cst_60] <;> rfl

theorem B_r_23 :
    kernelRun0_B.sl.r_23 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDpre := by
  simp -proj only [kernelRun0_B.sl.r_23, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_9, B_r_19]
  <;> rfl

theorem B_r_24 :
    kernelRun0_B.sl.r_24 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_16
    t) (hs0_16 t) scM0_0 (Memref.isWhole_whole _) scM0_1 (Memref.isWhole_whole _) T.x T.t T.sh T.sc T.gt T.b1 T.b2
    T.g T.b s.db1 T.w1 T.w2 = k0_pay42 T.vAct T.vDmlp T.w2 s.db1 := by
  simp -proj only [kernelRun0_B.sl.r_24, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_9, B_r_19]
  <;> rfl

theorem B_r_25 :
    kernelRun0_B.sl.r_25 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDshift := by
  simp -proj only [kernelRun0_B.sl.r_25, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_23] <;> rfl

theorem B_r_26 :
    kernelRun0_B.sl.r_26 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDscale := by
  simp -proj only [kernelRun0_B.sl.r_26, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, B_r_7, B_r_23]
  <;> rfl

theorem B_v220 :
    kernelRun0_B.sl.v220 (F := F) c (ms0_15 t) (hs0_15 t) s.dm = modRow 0 s.dm := by
  rw [kernelRun0_B.sl.v220, load_ld]
  exact ld_row 0 _ _

theorem B_v226 :
    kernelRun0_B.sl.v226 (F := F) c (ms0_15 t) (hs0_15 t) s.dm = modRow 1 s.dm := by
  rw [kernelRun0_B.sl.v226, load_ld]
  exact ld_row 1 _ _

theorem B_row2 (inb) : View.readAt (Elt F) (ms0_15 t).view (rowRect 2 inb).toLoadRect ((hs0_15 t).unread s.dm)
    = modRow 2 s.dm := by
  rw [load_ld]
  exact ld_row 2 inb s.dm

/-! ### The blocks -/

theorem B_out_loss (h0 : ¬t.val % 32 = 0) (h1 : ¬t.val % 8 = 0) :
    View.canon (runB c t T s h0 h1).1 = (s.next T).loss := by
  refine (View.canon_unit_zero (S := S8x128) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_loss (h0 : ¬t.val % 32 = 0) (h1 : ¬t.val % 8 = 0) (f) :
    (ms0_9 t).view.read (Elt F) ((ms0_9 t).view.writes (Elt F) f (runB c t T s h0 h1).1)
      = (s.next T).loss :=
  (View.read_writes_eq_canon _ _ _ fun y => View.cover_of_tiledL (runB c t T s h0 h1).1
    S8x128.size (by sl_kernel_rfl) y).trans (B_out_loss c t T s h0 h1)

theorem B_out_dx (h0 : ¬t.val % 32 = 0) (h1 : ¬t.val % 8 = 0) :
    View.canon (runB c t T s h0 h1).2.1 = T.vDx := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_dx (h0 : ¬t.val % 32 = 0) (h1 : ¬t.val % 8 = 0) (f) :
    (ms0_10 t).view.read (Elt F) ((ms0_10 t).view.writes (Elt F) f (runB c t T s h0 h1).2.1)
      = T.vDx :=
  (View.read_writes_eq_canon _ _ _ fun y => View.cover_of_tiledL (runB c t T s h0 h1).2.1
    S256x1024.size (by sl_kernel_rfl) y).trans (B_out_dx c t T s h0 h1)

theorem B_out_h2 (h0 : ¬t.val % 32 = 0) (h1 : ¬t.val % 8 = 0) :
    View.canon (runB c t T s h0 h1).2.2.1 = T.vHid := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_h2 (h0 : ¬t.val % 32 = 0) (h1 : ¬t.val % 8 = 0) (f) :
    (ms0_11 t).view.read (Elt F) ((ms0_11 t).view.writes (Elt F) f (runB c t T s h0 h1).2.2.1)
      = T.vHid :=
  (View.read_writes_eq_canon _ _ _ fun y => View.cover_of_tiledL (runB c t T s h0 h1).2.2.1
    S256x1024.size (by sl_kernel_rfl) y).trans (B_out_h2 c t T s h0 h1)

theorem B_out_da1 (h0 : ¬t.val % 32 = 0) (h1 : ¬t.val % 8 = 0) :
    View.canon (runB c t T s h0 h1).2.2.2.1 = k0_pay43 T.vDpre := by
  refine (View.canon_unit_zero (S := S256x4096) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_da1 (h0 : ¬t.val % 32 = 0) (h1 : ¬t.val % 8 = 0) (f) :
    (ms0_12 t).view.read (Elt F) ((ms0_12 t).view.writes (Elt F) f (runB c t T s h0 h1).2.2.2.1)
      = k0_pay43 T.vDpre :=
  (View.read_writes_eq_canon _ _ _ fun y => View.cover_of_tiledL (runB c t T s h0 h1).2.2.2.1
    S256x4096.size (by sl_kernel_rfl) y).trans (B_out_da1 c t T s h0 h1)

theorem B_out_r2 (h0 : ¬t.val % 32 = 0) (h1 : ¬t.val % 8 = 0) :
    View.canon (runB c t T s h0 h1).2.2.2.2.1 = T.vSq := by
  refine (View.canon_unit_zero (S := S256x4096) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_r2 (h0 : ¬t.val % 32 = 0) (h1 : ¬t.val % 8 = 0) (f) :
    (ms0_13 t).view.read (Elt F) ((ms0_13 t).view.writes (Elt F) f (runB c t T s h0 h1).2.2.2.2.1)
      = T.vSq :=
  (View.read_writes_eq_canon _ _ _ fun y => View.cover_of_tiledL (runB c t T s h0 h1).2.2.2.2.1
    S256x4096.size (by sl_kernel_rfl) y).trans (B_out_r2 c t T s h0 h1)

theorem B_out_dmlp (h0 : ¬t.val % 32 = 0) (h1 : ¬t.val % 8 = 0) :
    View.canon (runB c t T s h0 h1).2.2.2.2.2.1 = k0_pay40 T.vDmlp := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_dmlp (h0 : ¬t.val % 32 = 0) (h1 : ¬t.val % 8 = 0) (f) :
    (ms0_14 t).view.read (Elt F) ((ms0_14 t).view.writes (Elt F) f (runB c t T s h0 h1).2.2.2.2.2.1)
      = k0_pay40 T.vDmlp :=
  (View.read_writes_eq_canon _ _ _ fun y => View.cover_of_tiledL (runB c t T s h0 h1).2.2.2.2.2.1
    S256x1024.size (by sl_kernel_rfl) y).trans (B_out_dmlp c t T s h0 h1)

theorem B_out_dm (h0 : ¬t.val % 32 = 0) (h1 : ¬t.val % 8 = 0) :
    View.canon (runB c t T s h0 h1).2.2.2.2.2.2.1 = (s.next T).dm := by
  refine (canon_rows _ _ _ _ _ _ _).trans ?_
  rw [B_r_25, B_r_26, B_r_20, B_v220, B_v226, B_row2]
  rfl

theorem B_read_dm (h0 : ¬t.val % 32 = 0) (h1 : ¬t.val % 8 = 0) (f) :
    (ms0_15 t).view.read (Elt F) ((ms0_15 t).view.writes (Elt F) f (runB c t T s h0 h1).2.2.2.2.2.2.1)
      = (s.next T).dm :=
  (View.read_writes_eq_canon _ _ _ fun y => View.cover_of_tiledL (runB c t T s h0 h1).2.2.2.2.2.2.1
    S1x1x1024.size (by sl_kernel_rfl) y).trans (B_out_dm c t T s h0 h1)

theorem B_out_db1 (h0 : ¬t.val % 32 = 0) (h1 : ¬t.val % 8 = 0) :
    View.canon (runB c t T s h0 h1).2.2.2.2.2.2.2.1 = (s.next T).db1 := by
  refine (View.canon_unit_zero (S := S1x4096) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_db1 (h0 : ¬t.val % 32 = 0) (h1 : ¬t.val % 8 = 0) (f) :
    (ms0_16 t).view.read (Elt F) ((ms0_16 t).view.writes (Elt F) f (runB c t T s h0 h1).2.2.2.2.2.2.2.1)
      = (s.next T).db1 :=
  (View.read_writes_eq_canon _ _ _ fun y => View.cover_of_tiledL (runB c t T s h0 h1).2.2.2.2.2.2.2.1
    S1x4096.size (by sl_kernel_rfl) y).trans (B_out_db1 c t T s h0 h1)

theorem B_out_db2 (h0 : ¬t.val % 32 = 0) (h1 : ¬t.val % 8 = 0) :
    View.canon (runB c t T s h0 h1).2.2.2.2.2.2.2.2.1 = (s.next T).db2 := by
  refine (View.canon_unit_zero (S := S1x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_db2 (h0 : ¬t.val % 32 = 0) (h1 : ¬t.val % 8 = 0) (f) :
    (ms0_17 t).view.read (Elt F) ((ms0_17 t).view.writes (Elt F) f (runB c t T s h0 h1).2.2.2.2.2.2.2.2.1)
      = (s.next T).db2 :=
  (View.read_writes_eq_canon _ _ _ fun y => View.cover_of_tiledL (runB c t T s h0 h1).2.2.2.2.2.2.2.2.1
    S1x1024.size (by sl_kernel_rfl) y).trans (B_out_db2 c t T s h0 h1)

theorem B_out_dgain (h0 : ¬t.val % 32 = 0) (h1 : ¬t.val % 8 = 0) :
    View.canon (runB c t T s h0 h1).2.2.2.2.2.2.2.2.2.1 = (s.next T).dgain := by
  refine (View.canon_unit_zero (S := S1x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_dgain (h0 : ¬t.val % 32 = 0) (h1 : ¬t.val % 8 = 0) (f) :
    (ms0_18 t).view.read (Elt F) ((ms0_18 t).view.writes (Elt F) f (runB c t T s h0 h1).2.2.2.2.2.2.2.2.2.1)
      = (s.next T).dgain :=
  (View.read_writes_eq_canon _ _ _ fun y => View.cover_of_tiledL (runB c t T s h0 h1).2.2.2.2.2.2.2.2.2.1
    S1x1024.size (by sl_kernel_rfl) y).trans (B_out_dgain c t T s h0 h1)

theorem B_out_dbias (h0 : ¬t.val % 32 = 0) (h1 : ¬t.val % 8 = 0) :
    View.canon (runB c t T s h0 h1).2.2.2.2.2.2.2.2.2.2.1 = (s.next T).dbias := by
  refine (View.canon_unit_zero (S := S1x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, B_r, B_r_1, B_r_2, B_r_3, B_r_4,
  B_r_5, B_r_6, B_r_7, B_r_8, B_r_9, B_r_10, B_r_11, B_r_12, B_r_13, B_r_14, B_r_15, B_r_16, B_r_17, B_r_18, B_r_19,
  B_r_20, B_r_21, B_r_22, B_r_23, B_r_24, B_r_25, B_r_26, B_cst_19, B_cst_60] <;> rfl

theorem B_read_dbias (h0 : ¬t.val % 32 = 0) (h1 : ¬t.val % 8 = 0) (f) :
    (ms0_19 t).view.read (Elt F) ((ms0_19 t).view.writes (Elt F) f (runB c t T s h0 h1).2.2.2.2.2.2.2.2.2.2.1)
      = (s.next T).dbias :=
  (View.read_writes_eq_canon _ _ _ fun y => View.cover_of_tiledL (runB c t T s h0 h1).2.2.2.2.2.2.2.2.2.2.1
    S1x1024.size (by sl_kernel_rfl) y).trans (B_out_dbias c t T s h0 h1)

end Cert.Step

end
-- ==== Proof.ReadC.lean ====
/-
  What the run at the first point of a later batch element leaves in each output block: the values it names, then the blocks.
-/
module

public import proofs.«01_k».proof.Proof.Steps

@[expose] public section

set_option maxRecDepth 16384

noncomputable section

namespace Cert.Step

open Idealize.ShloMosaic Idealize.ShloMosaic.TcCoe Idealize.ShloMosaic.Tactic Cert.KernelIdeal Cert.KernelIdeal.Gen

variable {F : FTy → Type} [FloatOps F]

variable (c : Dev nD) (t : Fin cfg0.N) (T : Tile F) (s : Acc F)

/-! ### The values -/

theorem C_cst_19 : kernelRun0_C.sl.cst_19 (F := F)  = eps := rfl

theorem C_cst_60 : kernelRun0_C.sl.cst_60 (F := F)  = inv := rfl

theorem C_r :
    kernelRun0_C.sl.r (F := F) c (ms0_0 t) (hs0_0 t) T.x = T.x := by
  simp -proj only [kernelRun0_C.sl.r, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem C_r_1 :
    kernelRun0_C.sl.r_1 (F := F) c (ms0_2 t) (hs0_2 t) T.sh = T.vSh := by
  simp -proj only [kernelRun0_C.sl.r_1, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem C_r_2 :
    kernelRun0_C.sl.r_2 (F := F) c (ms0_3 t) (hs0_3 t) T.sc = T.vSc := by
  simp -proj only [kernelRun0_C.sl.r_2, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem C_r_3 :
    kernelRun0_C.sl.r_3 (F := F) c (ms0_0 t) (hs0_0 t) T.x = T.vCen := by
  simp -proj only [kernelRun0_C.sl.r_3, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem C_r_4 :
    kernelRun0_C.sl.r_4 (F := F) c (ms0_0 t) (hs0_0 t) T.x = T.vVar := by
  simp -proj only [kernelRun0_C.sl.r_4, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem C_r_5 :
    kernelRun0_C.sl.r_5 (F := F) c (ms0_0 t) (hs0_0 t) T.x = k0_pay14 T.vVar eps := by
  simp -proj only [kernelRun0_C.sl.r_5, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_4, C_cst_19]
  <;> rfl

theorem C_r_6 :
    kernelRun0_C.sl.r_6 (F := F) c (ms0_0 t) (hs0_0 t) T.x = k0_pay15 T.vVar eps := by
  simp -proj only [kernelRun0_C.sl.r_6, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_4, C_cst_19]
  <;> rfl

theorem C_r_7 :
    kernelRun0_C.sl.r_7 (F := F) c (ms0_0 t) (hs0_0 t) T.x = T.vNorm := by
  simp -proj only [kernelRun0_C.sl.r_7, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_3, C_r_4,
  C_cst_19] <;> rfl

theorem C_r_8 :
    kernelRun0_C.sl.r_8 (F := F) c (ms0_3 t) (hs0_3 t) T.sc = k0_pay17 T.vSc := by
  simp -proj only [kernelRun0_C.sl.r_8, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_2] <;> rfl

theorem C_r_9 :
    kernelRun0_C.sl.r_9 (F := F) c (ms0_0 t) (hs0_0 t) (ms0_2 t) (hs0_2 t) (ms0_3 t) (hs0_3 t) (ms0_5 t) (hs0_5
    t) scM0_0 (Memref.isWhole_whole _) T.x T.sh T.sc T.b1 T.w1 = T.vAct := by
  simp -proj only [kernelRun0_C.sl.r_9, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_1, C_r_2,
  C_r_3, C_r_4, C_cst_19] <;> rfl

theorem C_r_10 :
    kernelRun0_C.sl.r_10 (F := F) c (ms0_0 t) (hs0_0 t) (ms0_2 t) (hs0_2 t) (ms0_3 t) (hs0_3 t) (ms0_5 t) (hs0_5
    t) (ms0_6 t) (hs0_6 t) scM0_0 (Memref.isWhole_whole _) scM0_1 (Memref.isWhole_whole _) T.x T.sh T.sc T.b1 T.b2
    T.w1 T.w2 = T.vMlp := by
  simp -proj only [kernelRun0_C.sl.r_10, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_1, C_r_2,
  C_r_3, C_r_4, C_cst_19] <;> rfl

theorem C_r_11 :
    kernelRun0_C.sl.r_11 (F := F) c (ms0_4 t) (hs0_4 t) T.gt = T.vGt := by
  simp -proj only [kernelRun0_C.sl.r_11, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem C_r_12 :
    kernelRun0_C.sl.r_12 (F := F) c (ms0_7 t) (hs0_7 t) T.g = T.g := by
  simp -proj only [kernelRun0_C.sl.r_12, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4] <;> rfl

theorem C_r_13 :
    kernelRun0_C.sl.r_13 (F := F) c (ms0_0 t) (hs0_0 t) (ms0_2 t) (hs0_2 t) (ms0_3 t) (hs0_3 t) (ms0_4 t) (hs0_4
    t) (ms0_5 t) (hs0_5 t) (ms0_6 t) (hs0_6 t) scM0_0 (Memref.isWhole_whole _) scM0_1 (Memref.isWhole_whole _) T.x
    T.sh T.sc T.gt T.b1 T.b2 T.w1 T.w2 = T.vCen2 := by
  simp -proj only [kernelRun0_C.sl.r_13, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r, C_r_10,
  C_r_11] <;> rfl

theorem C_r_14 :
    kernelRun0_C.sl.r_14 (F := F) c (ms0_0 t) (hs0_0 t) (ms0_2 t) (hs0_2 t) (ms0_3 t) (hs0_3 t) (ms0_4 t) (hs0_4
    t) (ms0_5 t) (hs0_5 t) (ms0_6 t) (hs0_6 t) scM0_0 (Memref.isWhole_whole _) scM0_1 (Memref.isWhole_whole _) T.x
    T.sh T.sc T.gt T.b1 T.b2 T.w1 T.w2 = T.vRstd2 := by
  simp -proj only [kernelRun0_C.sl.r_14, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r, C_r_10,
  C_r_11] <;> rfl

theorem C_r_15 :
    kernelRun0_C.sl.r_15 (F := F) c (ms0_0 t) (hs0_0 t) (ms0_2 t) (hs0_2 t) (ms0_3 t) (hs0_3 t) (ms0_4 t) (hs0_4
    t) (ms0_5 t) (hs0_5 t) (ms0_6 t) (hs0_6 t) scM0_0 (Memref.isWhole_whole _) scM0_1 (Memref.isWhole_whole _) T.x
    T.sh T.sc T.gt T.b1 T.b2 T.w1 T.w2 = T.vDrstd2 := by
  simp -proj only [kernelRun0_C.sl.r_15, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r, C_r_10,
  C_r_11] <;> rfl

theorem C_r_16 :
    kernelRun0_C.sl.r_16 (F := F) c (ms0_0 t) (hs0_0 t) (ms0_2 t) (hs0_2 t) (ms0_3 t) (hs0_3 t) (ms0_4 t) (hs0_4
    t) (ms0_5 t) (hs0_5 t) (ms0_6 t) (hs0_6 t) scM0_0 (Memref.isWhole_whole _) scM0_1 (Memref.isWhole_whole _) T.x
    T.sh T.sc T.gt T.b1 T.b2 T.w1 T.w2 = T.vNorm2 := by
  simp -proj only [kernelRun0_C.sl.r_16, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r, C_r_10,
  C_r_11] <;> rfl

theorem C_r_17 :
    kernelRun0_C.sl.r_17 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDiff := by
  simp -proj only [kernelRun0_C.sl.r_17, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r, C_r_10,
  C_r_11, C_r_12] <;> rfl

theorem C_r_18 :
    kernelRun0_C.sl.r_18 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDbias := by
  simp -proj only [kernelRun0_C.sl.r_18, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_17, C_cst_60]
  <;> rfl

theorem C_r_19 :
    kernelRun0_C.sl.r_19 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDmlp := by
  simp -proj only [kernelRun0_C.sl.r_19, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_11, C_r_12,
  C_r_13, C_r_14, C_r_15, C_r_17, C_cst_60] <;> rfl

theorem C_r_20 :
    kernelRun0_C.sl.r_20 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDgate := by
  simp -proj only [kernelRun0_C.sl.r_20, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_10, C_r_12,
  C_r_13, C_r_14, C_r_15, C_r_17, C_cst_60] <;> rfl

theorem C_r_21 :
    kernelRun0_C.sl.r_21 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDres := by
  simp -proj only [kernelRun0_C.sl.r_21, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_12, C_r_13,
  C_r_14, C_r_15, C_r_17, C_cst_60] <;> rfl

theorem C_r_22 :
    kernelRun0_C.sl.r_22 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_18
    t) (hs0_18 t) scM0_0 (Memref.isWhole_whole _) scM0_1 (Memref.isWhole_whole _) T.x T.t T.sh T.sc T.gt T.b1 T.b2
    T.g T.b s.dgain T.w1 T.w2 = k0_pay36 T.vNorm2 T.vDiff inv s.dgain := by
  simp -proj only [kernelRun0_C.sl.r_22, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_16, C_r_17,
  C_cst_60] <;> rfl

theorem C_r_23 :
    kernelRun0_C.sl.r_23 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDpre := by
  simp -proj only [kernelRun0_C.sl.r_23, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_9, C_r_19]
  <;> rfl

theorem C_r_24 :
    kernelRun0_C.sl.r_24 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_16
    t) (hs0_16 t) scM0_0 (Memref.isWhole_whole _) scM0_1 (Memref.isWhole_whole _) T.x T.t T.sh T.sc T.gt T.b1 T.b2
    T.g T.b s.db1 T.w1 T.w2 = k0_pay42 T.vAct T.vDmlp T.w2 s.db1 := by
  simp -proj only [kernelRun0_C.sl.r_24, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_9, C_r_19]
  <;> rfl

theorem C_r_25 :
    kernelRun0_C.sl.r_25 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDshift := by
  simp -proj only [kernelRun0_C.sl.r_25, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_23] <;> rfl

theorem C_r_26 :
    kernelRun0_C.sl.r_26 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) T.x T.t T.sh T.sc T.gt T.b1 T.b2 T.g T.b T.w1 T.w2 =
    T.vDscale := by
  simp -proj only [kernelRun0_C.sl.r_26, load_ld, View.ld_unit_zero (S := S256x1024) z2, View.ld_unit_zero (S :=
  S1x1024) z2, View.ld_unit_zero (S := S1x4096) z2, View.ld_unit_zero (S := S8x128) z2, View.ld_unit_zero (S :=
  S1024x4096) z2, View.ld_unit_zero (S := S4096x1024) z2, View.ld_unit_zero (S := S1x1x1x1024) z4, C_r_7, C_r_23]
  <;> rfl

theorem C_v157 :
    kernelRun0_C.sl.v157 (F := F) c (ms0_15 t) = modRow 2 (k0_pay8 (F := F)) := by
  rw [kernelRun0_C.sl.v157, kernelRun0_C.sl.H15_1]
  exact row_of_whole (ms0_15 t) 2 _ _ k0_pay8

theorem C_v220 :
    kernelRun0_C.sl.v220 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_15
    t) scM0_0 (Memref.isWhole_whole _) scM0_1 (Memref.isWhole_whole _) T.x T.t T.sh T.sc T.gt T.b1 T.b2 T.g T.b T.w1
    T.w2 = modRow 0 (k0_pay8 (F := F)) := by
  rw [kernelRun0_C.sl.v220, kernelRun0_C.sl.H15_2]
  refine (row_skip (ms0_15 t) 0 2 (by decide) _ _ _ _).trans ?_
  rw [kernelRun0_C.sl.H15_1]
  exact row_of_whole (ms0_15 t) 0 _ _ k0_pay8

theorem C_v226 :
    kernelRun0_C.sl.v226 (F := F) c (ms0_0 t) (hs0_0 t) (ms0_1 t) (hs0_1 t) (ms0_2 t) (hs0_2 t) (ms0_3 t) (hs0_3
    t) (ms0_4 t) (hs0_4 t) (ms0_5 t) (hs0_5 t) (ms0_6 t) (hs0_6 t) (ms0_7 t) (hs0_7 t) (ms0_8 t) (hs0_8 t) (ms0_15
    t) scM0_0 (Memref.isWhole_whole _) scM0_1 (Memref.isWhole_whole _) T.x T.t T.sh T.sc T.gt T.b1 T.b2 T.g T.b T.w1
    T.w2 = modRow 1 (k0_pay8 (F := F)) := by
  rw [kernelRun0_C.sl.v226, kernelRun0_C.sl.H15_3]
  refine (row_skip (ms0_15 t) 1 0 (by decide) _ _ _ _).trans ?_
  rw [kernelRun0_C.sl.H15_2]
  refine (row_skip (ms0_15 t) 1 2 (by decide) _ _ _ _).trans ?_
  rw [kernelRun0_C.sl.H15_1]
  exact row_of_whole (ms0_15 t) 1 _ _ k0_pay8

/-! ### The blocks -/

theorem C_out_loss (h0 : ¬t.val % 32 = 0) (h1 : t.val % 8 = 0) :
    View.canon (runC c t T s h0 h1).1 = (s.fresh.next T).loss := by
  refine (View.canon_unit_zero (S := S8x128) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_loss (h0 : ¬t.val % 32 = 0) (h1 : t.val % 8 = 0) (f) :
    (ms0_9 t).view.read (Elt F) ((ms0_9 t).view.writes (Elt F) f (runC c t T s h0 h1).1)
      = (s.fresh.next T).loss :=
  (View.read_writes_eq_canon _ _ _ fun y => View.cover_of_tiledL (runC c t T s h0 h1).1
    S8x128.size (by sl_kernel_rfl) y).trans (C_out_loss c t T s h0 h1)

theorem C_out_dx (h0 : ¬t.val % 32 = 0) (h1 : t.val % 8 = 0) :
    View.canon (runC c t T s h0 h1).2.1 = T.vDx := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_dx (h0 : ¬t.val % 32 = 0) (h1 : t.val % 8 = 0) (f) :
    (ms0_10 t).view.read (Elt F) ((ms0_10 t).view.writes (Elt F) f (runC c t T s h0 h1).2.1)
      = T.vDx :=
  (View.read_writes_eq_canon _ _ _ fun y => View.cover_of_tiledL (runC c t T s h0 h1).2.1
    S256x1024.size (by sl_kernel_rfl) y).trans (C_out_dx c t T s h0 h1)

theorem C_out_h2 (h0 : ¬t.val % 32 = 0) (h1 : t.val % 8 = 0) :
    View.canon (runC c t T s h0 h1).2.2.1 = T.vHid := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_h2 (h0 : ¬t.val % 32 = 0) (h1 : t.val % 8 = 0) (f) :
    (ms0_11 t).view.read (Elt F) ((ms0_11 t).view.writes (Elt F) f (runC c t T s h0 h1).2.2.1)
      = T.vHid :=
  (View.read_writes_eq_canon _ _ _ fun y => View.cover_of_tiledL (runC c t T s h0 h1).2.2.1
    S256x1024.size (by sl_kernel_rfl) y).trans (C_out_h2 c t T s h0 h1)

theorem C_out_da1 (h0 : ¬t.val % 32 = 0) (h1 : t.val % 8 = 0) :
    View.canon (runC c t T s h0 h1).2.2.2.1 = k0_pay43 T.vDpre := by
  refine (View.canon_unit_zero (S := S256x4096) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_da1 (h0 : ¬t.val % 32 = 0) (h1 : t.val % 8 = 0) (f) :
    (ms0_12 t).view.read (Elt F) ((ms0_12 t).view.writes (Elt F) f (runC c t T s h0 h1).2.2.2.1)
      = k0_pay43 T.vDpre :=
  (View.read_writes_eq_canon _ _ _ fun y => View.cover_of_tiledL (runC c t T s h0 h1).2.2.2.1
    S256x4096.size (by sl_kernel_rfl) y).trans (C_out_da1 c t T s h0 h1)

theorem C_out_r2 (h0 : ¬t.val % 32 = 0) (h1 : t.val % 8 = 0) :
    View.canon (runC c t T s h0 h1).2.2.2.2.1 = T.vSq := by
  refine (View.canon_unit_zero (S := S256x4096) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_r2 (h0 : ¬t.val % 32 = 0) (h1 : t.val % 8 = 0) (f) :
    (ms0_13 t).view.read (Elt F) ((ms0_13 t).view.writes (Elt F) f (runC c t T s h0 h1).2.2.2.2.1)
      = T.vSq :=
  (View.read_writes_eq_canon _ _ _ fun y => View.cover_of_tiledL (runC c t T s h0 h1).2.2.2.2.1
    S256x4096.size (by sl_kernel_rfl) y).trans (C_out_r2 c t T s h0 h1)

theorem C_out_dmlp (h0 : ¬t.val % 32 = 0) (h1 : t.val % 8 = 0) :
    View.canon (runC c t T s h0 h1).2.2.2.2.2.1 = k0_pay40 T.vDmlp := by
  refine (View.canon_unit_zero (S := S256x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_dmlp (h0 : ¬t.val % 32 = 0) (h1 : t.val % 8 = 0) (f) :
    (ms0_14 t).view.read (Elt F) ((ms0_14 t).view.writes (Elt F) f (runC c t T s h0 h1).2.2.2.2.2.1)
      = k0_pay40 T.vDmlp :=
  (View.read_writes_eq_canon _ _ _ fun y => View.cover_of_tiledL (runC c t T s h0 h1).2.2.2.2.2.1
    S256x1024.size (by sl_kernel_rfl) y).trans (C_out_dmlp c t T s h0 h1)

theorem C_out_dm (h0 : ¬t.val % 32 = 0) (h1 : t.val % 8 = 0) :
    View.canon (runC c t T s h0 h1).2.2.2.2.2.2.1 = (s.fresh.next T).dm := by
  refine (canon_rows _ _ _ _ _ _ _).trans ?_
  rw [C_r_25, C_r_26, C_r_20, C_v220, C_v226, C_v157]
  rfl

theorem C_read_dm (h0 : ¬t.val % 32 = 0) (h1 : t.val % 8 = 0) (f) :
    (ms0_15 t).view.read (Elt F) ((ms0_15 t).view.writes (Elt F) f (runC c t T s h0 h1).2.2.2.2.2.2.1)
      = (s.fresh.next T).dm :=
  (View.read_writes_eq_canon _ _ _ fun y => View.cover_of_tiledL (runC c t T s h0 h1).2.2.2.2.2.2.1
    S1x3x1024.size (by sl_kernel_rfl) y).trans (C_out_dm c t T s h0 h1)

theorem C_out_db1 (h0 : ¬t.val % 32 = 0) (h1 : t.val % 8 = 0) :
    View.canon (runC c t T s h0 h1).2.2.2.2.2.2.2.1 = (s.fresh.next T).db1 := by
  refine (View.canon_unit_zero (S := S1x4096) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_db1 (h0 : ¬t.val % 32 = 0) (h1 : t.val % 8 = 0) (f) :
    (ms0_16 t).view.read (Elt F) ((ms0_16 t).view.writes (Elt F) f (runC c t T s h0 h1).2.2.2.2.2.2.2.1)
      = (s.fresh.next T).db1 :=
  (View.read_writes_eq_canon _ _ _ fun y => View.cover_of_tiledL (runC c t T s h0 h1).2.2.2.2.2.2.2.1
    S1x4096.size (by sl_kernel_rfl) y).trans (C_out_db1 c t T s h0 h1)

theorem C_out_db2 (h0 : ¬t.val % 32 = 0) (h1 : t.val % 8 = 0) :
    View.canon (runC c t T s h0 h1).2.2.2.2.2.2.2.2.1 = (s.fresh.next T).db2 := by
  refine (View.canon_unit_zero (S := S1x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_db2 (h0 : ¬t.val % 32 = 0) (h1 : t.val % 8 = 0) (f) :
    (ms0_17 t).view.read (Elt F) ((ms0_17 t).view.writes (Elt F) f (runC c t T s h0 h1).2.2.2.2.2.2.2.2.1)
      = (s.fresh.next T).db2 :=
  (View.read_writes_eq_canon _ _ _ fun y => View.cover_of_tiledL (runC c t T s h0 h1).2.2.2.2.2.2.2.2.1
    S1x1024.size (by sl_kernel_rfl) y).trans (C_out_db2 c t T s h0 h1)

theorem C_out_dgain (h0 : ¬t.val % 32 = 0) (h1 : t.val % 8 = 0) :
    View.canon (runC c t T s h0 h1).2.2.2.2.2.2.2.2.2.1 = (s.fresh.next T).dgain := by
  refine (View.canon_unit_zero (S := S1x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_dgain (h0 : ¬t.val % 32 = 0) (h1 : t.val % 8 = 0) (f) :
    (ms0_18 t).view.read (Elt F) ((ms0_18 t).view.writes (Elt F) f (runC c t T s h0 h1).2.2.2.2.2.2.2.2.2.1)
      = (s.fresh.next T).dgain :=
  (View.read_writes_eq_canon _ _ _ fun y => View.cover_of_tiledL (runC c t T s h0 h1).2.2.2.2.2.2.2.2.2.1
    S1x1024.size (by sl_kernel_rfl) y).trans (C_out_dgain c t T s h0 h1)

theorem C_out_dbias (h0 : ¬t.val % 32 = 0) (h1 : t.val % 8 = 0) :
    View.canon (runC c t T s h0 h1).2.2.2.2.2.2.2.2.2.2.1 = (s.fresh.next T).dbias := by
  refine (View.canon_unit_zero (S := S1x1024) z2 _ _).trans ?_
  simp -proj only [load_ld, View.ld_unit_zero (S := S256x1024) z2, View.ld_unit_zero (S := S1x1024) z2,
  View.ld_unit_zero (S := S1x4096) z2, View.ld_unit_zero (S := S8x128) z2, View.ld_unit_zero (S := S1024x4096) z2,
  View.ld_unit_zero (S := S4096x1024) z2, View.ld_unit_zero (S := S1x1x1x1024) z4, C_r, C_r_1, C_r_2, C_r_3, C_r_4,
  C_r_5, C_r_6, C_r_7, C_r_8, C_r_9, C_r_10, C_r_11, C_r_12, C_r_13, C_r_14, C_r_15, C_r_16, C_r_17, C_r_18, C_r_19,
  C_r_20, C_r_21, C_r_22, C_r_23, C_r_24, C_r_25, C_r_26, C_cst_19, C_cst_60] <;> rfl

theorem C_read_dbias (h0 : ¬t.val % 32 = 0) (h1 : t.val % 8 = 0) (f) :
    (ms0_19 t).view.read (Elt F) ((ms0_19 t).view.writes (Elt F) f (runC c t T s h0 h1).2.2.2.2.2.2.2.2.2.2.1)
      = (s.fresh.next T).dbias :=
  (View.read_writes_eq_canon _ _ _ fun y => View.cover_of_tiledL (runC c t T s h0 h1).2.2.2.2.2.2.2.2.2.2.1
    S1x1024.size (by sl_kernel_rfl) y).trans (C_out_dbias c t T s h0 h1)

end Cert.Step

end
-- ==== Proof.Region.lean ====
/-
  The kernel's one region: what each window's buffer holds after the body at each point, the body at every point, and the run of
  the program from any memory. The accumulators are followed from point to point as one record.
-/
module

public import proofs.«01_k».proof.Proof.Carried
public import proofs.«01_k».proof.Proof.ReadA
public import proofs.«01_k».proof.Proof.ReadB
public import proofs.«01_k».proof.Proof.ReadC
public import proofs.«01_k».proof.Defs
public import Idealize.ShloMosaic.Lib.Claim

@[expose] public section

set_option maxRecDepth 16384

noncomputable section

namespace Cert.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg) (c : Dev nD)

/-! ### What the buffers hold -/

/-- The state between points: before the first, what the launch hands over; after it, both scratch arrays hold the weights. -/
def state : (n : ℕ) → n ≤ cfg0.N → sProp (MT nD τ sig Unit (Elt F) ℕ (Pipeline.UD sig nD τ) ℕ)
  | 0, _ => Pipeline.ΦD osem0 spec0 H0 (V m) c
  | n + 1, _ => iprop(iprop(owns (c : Thread nD τ) scM0_0 fullShare (V m c main_v0)
      ∗ owns (c : Thread nD τ) scM0_1 fullShare (V m c main_v1)) ∗ (∃ r, prngReg c r)
      ∗ iprop(semVal ((c : Thread nD τ), SemLoc.dma 31) 0 ∗ semVal ((c : Thread nD τ), SemLoc.dma 32) 0)
      ∗ iprop(hbPt0 c hbM0_0 (V m c main_v0) ∗ hbPt0 c hbM0_1 (V m c main_v1)))

theorem state_zero (n : ℕ) (h : n ≤ cfg0.N) (hz : n = 0) : state m c n h = Pipeline.ΦD osem0 spec0 H0 (V m) c := by
  subst hz; rfl

theorem state_pos (n : ℕ) (h : n ≤ cfg0.N) (hz : n ≠ 0) :
    state m c n h = iprop(iprop(owns (c : Thread nD τ) scM0_0 fullShare (V m c main_v0)
      ∗ owns (c : Thread nD τ) scM0_1 fullShare (V m c main_v1)) ∗ (∃ r, prngReg c r)
      ∗ iprop(semVal ((c : Thread nD τ), SemLoc.dma 31) 0 ∗ semVal ((c : Thread nD τ), SemLoc.dma 32) 0)
      ∗ iprop(hbPt0 c hbM0_0 (V m c main_v0) ∗ hbPt0 c hbM0_1 (V m c main_v1))) := by
  cases n with
  | zero => exact absurd rfl hz
  | succ n => rfl

/-- What every window's buffer holds after the body at every point. -/
def dats (_ : Fin 1) (c : Dev nD) : Dat τ (Elt F) Unit ℕ (Pipeline.UD sig nD τ) ℕ cfg0 c where
  A w := V m c (Pipeline.arrRef spec0 w)
  after w t := match w with
    | ⟨0, _⟩ => (tile m c t).x
    | ⟨1, _⟩ => (tile m c t).t
    | ⟨2, _⟩ => (tile m c t).sh
    | ⟨3, _⟩ => (tile m c t).sc
    | ⟨4, _⟩ => (tile m c t).gt
    | ⟨5, _⟩ => (tile m c t).b1
    | ⟨6, _⟩ => (tile m c t).b2
    | ⟨7, _⟩ => (tile m c t).g
    | ⟨8, _⟩ => (tile m c t).b
    | ⟨9, _⟩ => (acc m c t.val t.isLt).loss
    | ⟨10, _⟩ => (tile m c t).vDx
    | ⟨11, _⟩ => (tile m c t).vHid
    | ⟨12, _⟩ => k0_pay43 (tile m c t).vDpre
    | ⟨13, _⟩ => (tile m c t).vSq
    | ⟨14, _⟩ => k0_pay40 (tile m c t).vDmlp
    | ⟨15, _⟩ => (acc m c t.val t.isLt).dm
    | ⟨16, _⟩ => (acc m c t.val t.isLt).db1
    | ⟨17, _⟩ => (acc m c t.val t.isLt).db2
    | ⟨18, _⟩ => (acc m c t.val t.isLt).dgain
    | ⟨19, _⟩ => (acc m c t.val t.isLt).dbias
    | ⟨_ + 20, h⟩ => absurd h (Nat.not_lt.2 (Nat.le_add_left _ _))
  Φ t := state m c t.val (Nat.le_of_lt_succ t.isLt)
  q w := Pipeline.shareOf spec0 w
  owed _ := 0

theorem A_eq (w : Fin cfg0.W) : (dats m 0 c).A w = V m c (Pipeline.arrRef spec0 w) := by
  dsimp only [dats]

theorem state_castSucc (t : Fin cfg0.N) : (dats m 0 c).Φ t.castSucc = state m c t.val (Nat.le_of_lt t.isLt) := by
  dsimp only [dats]; exact Pipeline.Dat.Φ_castSucc (state m c) t

theorem after_x (t : Fin cfg0.N) : (dats m 0 c).after 0 t = (tile m c t).x := by dsimp only [dats]
theorem after_t (t : Fin cfg0.N) : (dats m 0 c).after 1 t = (tile m c t).t := by dsimp only [dats]
theorem after_sh (t : Fin cfg0.N) : (dats m 0 c).after 2 t = (tile m c t).sh := by dsimp only [dats]
theorem after_sc (t : Fin cfg0.N) : (dats m 0 c).after 3 t = (tile m c t).sc := by dsimp only [dats]
theorem after_gt (t : Fin cfg0.N) : (dats m 0 c).after 4 t = (tile m c t).gt := by dsimp only [dats]
theorem after_b1 (t : Fin cfg0.N) : (dats m 0 c).after 5 t = (tile m c t).b1 := by dsimp only [dats]
theorem after_b2 (t : Fin cfg0.N) : (dats m 0 c).after 6 t = (tile m c t).b2 := by dsimp only [dats]
theorem after_g (t : Fin cfg0.N) : (dats m 0 c).after 7 t = (tile m c t).g := by dsimp only [dats]
theorem after_b (t : Fin cfg0.N) : (dats m 0 c).after 8 t = (tile m c t).b := by dsimp only [dats]
theorem after_loss (t : Fin cfg0.N) : (dats m 0 c).after 9 t = (acc m c t.val t.isLt).loss := by dsimp only [dats]
theorem after_dx (t : Fin cfg0.N) : (dats m 0 c).after 10 t = (tile m c t).vDx := by dsimp only [dats]
theorem after_h2 (t : Fin cfg0.N) : (dats m 0 c).after 11 t = (tile m c t).vHid := by dsimp only [dats]
theorem after_da1 (t : Fin cfg0.N) : (dats m 0 c).after 12 t = k0_pay43 (tile m c t).vDpre := by dsimp only [dats]
theorem after_r2 (t : Fin cfg0.N) : (dats m 0 c).after 13 t = (tile m c t).vSq := by dsimp only [dats]
theorem after_dmlp (t : Fin cfg0.N) : (dats m 0 c).after 14 t = k0_pay40 (tile m c t).vDmlp := by dsimp only [dats]
theorem after_dm (t : Fin cfg0.N) : (dats m 0 c).after 15 t = (acc m c t.val t.isLt).dm := by dsimp only [dats]
theorem after_db1 (t : Fin cfg0.N) : (dats m 0 c).after 16 t = (acc m c t.val t.isLt).db1 := by dsimp only [dats]
theorem after_db2 (t : Fin cfg0.N) : (dats m 0 c).after 17 t = (acc m c t.val t.isLt).db2 := by dsimp only [dats]
theorem after_dgain (t : Fin cfg0.N) : (dats m 0 c).after 18 t = (acc m c t.val t.isLt).dgain := by dsimp only [dats]
theorem after_dbias (t : Fin cfg0.N) : (dats m 0 c).after 19 t = (acc m c t.val t.isLt).dbias := by dsimp only [dats]

/-! An input window holds its block at every point; an accumulator holds what the point before left. -/

theorem before_x (t : Fin cfg0.N) (d) : (dats m 0 c).before 0 t d = (tile m c t).x :=
  before0_0_of m (dats m 0 c) (A_eq m c 0) (after_x m c) t d
theorem before_t (t : Fin cfg0.N) (d) : (dats m 0 c).before 1 t d = (tile m c t).t :=
  before0_1_of m (dats m 0 c) (A_eq m c 1) (after_t m c) t d
theorem before_sh (t : Fin cfg0.N) (d) : (dats m 0 c).before 2 t d = (tile m c t).sh :=
  before0_2_of m (dats m 0 c) (A_eq m c 2) (after_sh m c) t d
theorem before_sc (t : Fin cfg0.N) (d) : (dats m 0 c).before 3 t d = (tile m c t).sc :=
  before0_3_of m (dats m 0 c) (A_eq m c 3) (after_sc m c) t d
theorem before_gt (t : Fin cfg0.N) (d) : (dats m 0 c).before 4 t d = (tile m c t).gt :=
  before0_4_of m (dats m 0 c) (A_eq m c 4) (after_gt m c) t d
theorem before_b1 (t : Fin cfg0.N) (d) : (dats m 0 c).before 5 t d = (tile m c t).b1 :=
  before0_5_of m (dats m 0 c) (A_eq m c 5) (after_b1 m c) t d
theorem before_b2 (t : Fin cfg0.N) (d) : (dats m 0 c).before 6 t d = (tile m c t).b2 :=
  before0_6_of m (dats m 0 c) (A_eq m c 6) (after_b2 m c) t d
theorem before_g (t : Fin cfg0.N) (d) : (dats m 0 c).before 7 t d = (tile m c t).g :=
  before0_7_of m (dats m 0 c) (A_eq m c 7) (after_g m c) t d
theorem before_b (t : Fin cfg0.N) (d) : (dats m 0 c).before 8 t d = (tile m c t).b :=
  before0_8_of m (dats m 0 c) (A_eq m c 8) (after_b m c) t d
theorem before_loss (t : Fin cfg0.N) (h : t.val ≠ 0) (d) : (dats m 0 c).before 9 t d = (accBefore m c t).loss := by
  have hN : t.val < 32 := lt_of_lt_of_eq t.isLt (show cfg0.N = 32 from N_0)
  rw [Dat.before_out_kept _ 9 rfl t (by omega)
    (Bool.eq_false_iff.mpr fun h => by have := (flush0_9 _).mp h; dsimp only at this; omega) (fun _ => rfl) (fun _ _ => rfl)]
  dsimp only [dats]
theorem before_dm (t : Fin cfg0.N) (h8 : ¬t.val % 8 = 0) (d) : (dats m 0 c).before 15 t d = (accBefore m c t).dm := by
  have hN : t.val < 32 := lt_of_lt_of_eq t.isLt (show cfg0.N = 32 from N_0)
  rw [Dat.before_out_kept _ 15 rfl t (by omega)
    (Bool.eq_false_iff.mpr fun h => by have := (flush0_15 _).mp h; dsimp only at this; omega) (fun _ => rfl) (fun _ _ => rfl)]
  dsimp only [dats]
theorem before_db1 (t : Fin cfg0.N) (h : t.val ≠ 0) (d) : (dats m 0 c).before 16 t d = (accBefore m c t).db1 := by
  have hN : t.val < 32 := lt_of_lt_of_eq t.isLt (show cfg0.N = 32 from N_0)
  rw [Dat.before_out_kept _ 16 rfl t (by omega)
    (Bool.eq_false_iff.mpr fun h => by have := (flush0_16 _).mp h; dsimp only at this; omega) (fun _ => rfl) (fun _ _ => rfl)]
  dsimp only [dats]
theorem before_db2 (t : Fin cfg0.N) (h : t.val ≠ 0) (d) : (dats m 0 c).before 17 t d = (accBefore m c t).db2 := by
  have hN : t.val < 32 := lt_of_lt_of_eq t.isLt (show cfg0.N = 32 from N_0)
  rw [Dat.before_out_kept _ 17 rfl t (by omega)
    (Bool.eq_false_iff.mpr fun h => by have := (flush0_17 _).mp h; dsimp only at this; omega) (fun _ => rfl) (fun _ _ => rfl)]
  dsimp only [dats]
theorem before_dgain (t : Fin cfg0.N) (h : t.val ≠ 0) (d) : (dats m 0 c).before 18 t d = (accBefore m c t).dgain := by
  have hN : t.val < 32 := lt_of_lt_of_eq t.isLt (show cfg0.N = 32 from N_0)
  rw [Dat.before_out_kept _ 18 rfl t (by omega)
    (Bool.eq_false_iff.mpr fun h => by have := (flush0_18 _).mp h; dsimp only at this; omega) (fun _ => rfl) (fun _ _ => rfl)]
  dsimp only [dats]
theorem before_dbias (t : Fin cfg0.N) (h : t.val ≠ 0) (d) : (dats m 0 c).before 19 t d = (accBefore m c t).dbias := by
  have hN : t.val < 32 := lt_of_lt_of_eq t.isLt (show cfg0.N = 32 from N_0)
  rw [Dat.before_out_kept _ 19 rfl t (by omega)
    (Bool.eq_false_iff.mpr fun h => by have := (flush0_19 _).mp h; dsimp only at this; omega) (fun _ => rfl) (fun _ _ => rfl)]
  dsimp only [dats]

/-! ### The body -/

/-- What the body is called with at point `t`, and what it returns. -/
def bodyPre (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

def bodyPost (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 4000000 in
/-- The body at the first point. -/
theorem body_first (t : Fin cfg0.N) (h0 : t.val % 32 = 0) (h1 : t.val % 8 = 0) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hz : t.val = 0 := by omega
  have hw1 : V m c main_v0 = (tile m c t).w1 := rfl
  have hw2 : V m c main_v1 = (tile m c t).w2 := rfl
  unfold bodyPre bodyPost bodyAt0
  simp only [before_x, before_t, before_sh, before_sc, before_gt, before_b1, before_b2, before_g, before_b]
  rw [show (dats m 0 c).Φ t.succ = state m c (t.val + 1) t.isLt from rfl, state_pos m c _ _ (Nat.succ_ne_zero _),
    after_x, after_t, after_sh, after_sc, after_gt, after_b1, after_b2, after_g, after_b,
    after_loss, after_dx, after_h2, after_da1, after_r2, after_dmlp, after_dm, after_db1, after_db2, after_dgain, after_dbias]
  unfold Dat.owesAt Pipeline.owesWithin
  rw [show (dats m 0 c).owed t.castSucc = 0 from rfl, show (dats m 0 c).owed t.succ = 0 from rfl, state_castSucc m c t]
  rw [state_zero m c _ _ hz, PhiD0_eq, acc_first m c t hz, hw1, hw2]
  iintro ⟨⟨⟨HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runA c t (tile m c t) h0 h1).2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩, ⟨%es1, HS1⟩, Hq0, Hq1, Hh0, Hh1, ⟨%W', HW'⟩⟩
  isplitl [HS0 HS1 Hg Hq0 Hq1 Hh0 Hh1]
  · isplitl [HS0 HS1]
    · isplitl [HS0]
      · unfold owns; iexists _; isplitr
        swap; · iexact HS0
        ipureintro; exact A_read_w1 c t (tile m c t) h0 h1 _
      unfold owns; iexists _; isplitr
      swap; · iexact HS1
      ipureintro; exact A_read_w2 c t (tile m c t) h0 h1 _
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact A_read_loss c t (tile m c t) h0 h1 _
  isplitl [H10]
  · unfold owns; iexists _; isplitr
    swap; · iexact H10
    ipureintro; exact A_read_dx c t (tile m c t) h0 h1 _
  isplitl [H11]
  · unfold owns; iexists _; isplitr
    swap; · iexact H11
    ipureintro; exact A_read_h2 c t (tile m c t) h0 h1 _
  isplitl [H12]
  · unfold owns; iexists _; isplitr
    swap; · iexact H12
    ipureintro; exact A_read_da1 c t (tile m c t) h0 h1 _
  isplitl [H13]
  · unfold owns; iexists _; isplitr
    swap; · iexact H13
    ipureintro; exact A_read_r2 c t (tile m c t) h0 h1 _
  isplitl [H14]
  · unfold owns; iexists _; isplitr
    swap; · iexact H14
    ipureintro; exact A_read_dmlp c t (tile m c t) h0 h1 _
  isplitl [H15]
  · unfold owns; iexists _; isplitr
    swap; · iexact H15
    ipureintro; exact A_read_dm c t (tile m c t) h0 h1 _
  isplitl [H16]
  · unfold owns; iexists _; isplitr
    swap; · iexact H16
    ipureintro; exact A_read_db1 c t (tile m c t) h0 h1 _
  isplitl [H17]
  · unfold owns; iexists _; isplitr
    swap; · iexact H17
    ipureintro; exact A_read_db2 c t (tile m c t) h0 h1 _
  isplitl [H18]
  · unfold owns; iexists _; isplitr
    swap; · iexact H18
    ipureintro; exact A_read_dgain c t (tile m c t) h0 h1 _
  unfold owns; iexists _; isplitr
  swap; · iexact H19
  ipureintro; exact A_read_dbias c t (tile m c t) h0 h1 _

set_option maxHeartbeats 4000000 in
/-- The body at the first point of a later batch element. -/
theorem body_start (t : Fin cfg0.N) (h0 : ¬t.val % 32 = 0) (h1 : t.val % 8 = 0) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hz : t.val ≠ 0 := by omega
  have hw1 : V m c main_v0 = (tile m c t).w1 := rfl
  have hw2 : V m c main_v1 = (tile m c t).w2 := rfl
  unfold bodyPre bodyPost bodyAt0
  simp only [before_x, before_t, before_sh, before_sc, before_gt, before_b1, before_b2, before_g, before_b]
  rw [show (dats m 0 c).Φ t.succ = state m c (t.val + 1) t.isLt from rfl, state_pos m c _ _ (Nat.succ_ne_zero _),
    after_x, after_t, after_sh, after_sc, after_gt, after_b1, after_b2, after_g, after_b,
    after_loss, after_dx, after_h2, after_da1, after_r2, after_dmlp, after_dm, after_db1, after_db2, after_dgain, after_dbias]
  unfold Dat.owesAt Pipeline.owesWithin
  rw [show (dats m 0 c).owed t.castSucc = 0 from rfl, show (dats m 0 c).owed t.succ = 0 from rfl, state_castSucc m c t]
  rw [state_pos m c _ _ hz, acc_start m c t hz h1, hw1, hw2]
  simp only [before_loss m c t hz, before_db1 m c t hz, before_db2 m c t hz, before_dgain m c t hz, before_dbias m c t hz]
  iintro ⟨⟨⟨HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runC c t (tile m c t) (accBefore m c t) h0 h1).2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexact H16
  isplitl [H17]; · iexact H17
  isplitl [H18]; · iexact H18
  isplitl [H19]; · iexact H19
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, HS0, HS1, Hq0, Hq1, Hh0, Hh1, ⟨%W', HW'⟩⟩
  isplitl [HS0 HS1 Hg Hq0 Hq1 Hh0 Hh1]
  · isplitl [HS0 HS1]
    · isplitl [HS0]; · iexact HS0
      iexact HS1
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact C_read_loss c t (tile m c t) (accBefore m c t) h0 h1 _
  isplitl [H10]
  · unfold owns; iexists _; isplitr
    swap; · iexact H10
    ipureintro; exact C_read_dx c t (tile m c t) (accBefore m c t) h0 h1 _
  isplitl [H11]
  · unfold owns; iexists _; isplitr
    swap; · iexact H11
    ipureintro; exact C_read_h2 c t (tile m c t) (accBefore m c t) h0 h1 _
  isplitl [H12]
  · unfold owns; iexists _; isplitr
    swap; · iexact H12
    ipureintro; exact C_read_da1 c t (tile m c t) (accBefore m c t) h0 h1 _
  isplitl [H13]
  · unfold owns; iexists _; isplitr
    swap; · iexact H13
    ipureintro; exact C_read_r2 c t (tile m c t) (accBefore m c t) h0 h1 _
  isplitl [H14]
  · unfold owns; iexists _; isplitr
    swap; · iexact H14
    ipureintro; exact C_read_dmlp c t (tile m c t) (accBefore m c t) h0 h1 _
  isplitl [H15]
  · unfold owns; iexists _; isplitr
    swap; · iexact H15
    ipureintro; exact C_read_dm c t (tile m c t) (accBefore m c t) h0 h1 _
  isplitl [H16]
  · unfold owns; iexists _; isplitr
    swap; · iexact H16
    ipureintro; exact C_read_db1 c t (tile m c t) (accBefore m c t) h0 h1 _
  isplitl [H17]
  · unfold owns; iexists _; isplitr
    swap; · iexact H17
    ipureintro; exact C_read_db2 c t (tile m c t) (accBefore m c t) h0 h1 _
  isplitl [H18]
  · unfold owns; iexists _; isplitr
    swap; · iexact H18
    ipureintro; exact C_read_dgain c t (tile m c t) (accBefore m c t) h0 h1 _
  unfold owns; iexists _; isplitr
  swap; · iexact H19
  ipureintro; exact C_read_dbias c t (tile m c t) (accBefore m c t) h0 h1 _

set_option maxHeartbeats 4000000 in
/-- The body at a point that is not the first of its batch element. -/
theorem body_inner (t : Fin cfg0.N) (h0 : ¬t.val % 32 = 0) (h1 : ¬t.val % 8 = 0) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hz : t.val ≠ 0 := by omega
  have hw1 : V m c main_v0 = (tile m c t).w1 := rfl
  have hw2 : V m c main_v1 = (tile m c t).w2 := rfl
  unfold bodyPre bodyPost bodyAt0
  simp only [before_x, before_t, before_sh, before_sc, before_gt, before_b1, before_b2, before_g, before_b]
  rw [show (dats m 0 c).Φ t.succ = state m c (t.val + 1) t.isLt from rfl, state_pos m c _ _ (Nat.succ_ne_zero _),
    after_x, after_t, after_sh, after_sc, after_gt, after_b1, after_b2, after_g, after_b,
    after_loss, after_dx, after_h2, after_da1, after_r2, after_dmlp, after_dm, after_db1, after_db2, after_dgain, after_dbias]
  unfold Dat.owesAt Pipeline.owesWithin
  rw [show (dats m 0 c).owed t.castSucc = 0 from rfl, show (dats m 0 c).owed t.succ = 0 from rfl, state_castSucc m c t]
  rw [state_pos m c _ _ hz, acc_inner m c t h1, hw1, hw2]
  simp only [before_loss m c t hz, before_dm m c t h1, before_db1 m c t hz, before_db2 m c t hz, before_dgain m c t hz, before_dbias m c t hz]
  iintro ⟨⟨⟨HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runB c t (tile m c t) (accBefore m c t) h0 h1).2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, HS0, HS1, Hq0, Hq1, Hh0, Hh1, ⟨%W', HW'⟩⟩
  isplitl [HS0 HS1 Hg Hq0 Hq1 Hh0 Hh1]
  · isplitl [HS0 HS1]
    · isplitl [HS0]; · iexact HS0
      iexact HS1
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact B_read_loss c t (tile m c t) (accBefore m c t) h0 h1 _
  isplitl [H10]
  · unfold owns; iexists _; isplitr
    swap; · iexact H10
    ipureintro; exact B_read_dx c t (tile m c t) (accBefore m c t) h0 h1 _
  isplitl [H11]
  · unfold owns; iexists _; isplitr
    swap; · iexact H11
    ipureintro; exact B_read_h2 c t (tile m c t) (accBefore m c t) h0 h1 _
  isplitl [H12]
  · unfold owns; iexists _; isplitr
    swap; · iexact H12
    ipureintro; exact B_read_da1 c t (tile m c t) (accBefore m c t) h0 h1 _
  isplitl [H13]
  · unfold owns; iexists _; isplitr
    swap; · iexact H13
    ipureintro; exact B_read_r2 c t (tile m c t) (accBefore m c t) h0 h1 _
  isplitl [H14]
  · unfold owns; iexists _; isplitr
    swap; · iexact H14
    ipureintro; exact B_read_dmlp c t (tile m c t) (accBefore m c t) h0 h1 _
  isplitl [H15]
  · unfold owns; iexists _; isplitr
    swap; · iexact H15
    ipureintro; exact B_read_dm c t (tile m c t) (accBefore m c t) h0 h1 _
  isplitl [H16]
  · unfold owns; iexists _; isplitr
    swap; · iexact H16
    ipureintro; exact B_read_db1 c t (tile m c t) (accBefore m c t) h0 h1 _
  isplitl [H17]
  · unfold owns; iexists _; isplitr
    swap; · iexact H17
    ipureintro; exact B_read_db2 c t (tile m c t) (accBefore m c t) h0 h1 _
  isplitl [H18]
  · unfold owns; iexists _; isplitr
    swap; · iexact H18
    ipureintro; exact B_read_dgain c t (tile m c t) (accBefore m c t) h0 h1 _
  unfold owns; iexists _; isplitr
  swap; · iexact H19
  ipureintro; exact B_read_dbias c t (tile m c t) (accBefore m c t) h0 h1 _

/-- The body at every point. -/
theorem body (t : Fin cfg0.N) :
    bodyPre m c t ⊢ wp frame (wpE (defs₀ (F := F)) Variants.none c none) Set.univ (bodyAt0 t) (fun _ => bodyPost m c t) := by
  by_cases h0 : t.val % 32 = 0
  · exact body_first m c t h0 (by omega)
  · by_cases h1 : t.val % 8 = 0
    · exact body_start m c t h0 h1
    · exact body_inner m c t h0 h1

theorem defs_row (t : Fin cfg0.N) : defs₀ (F := F) .tc cfg0.body (cfg0.bodyArgs t (cfg0.slots t)) = bodyAt0 t := by
  unfold defs₀; rw [Defs.onTc_tc]

theorem obligation : BodyObligation (dats m 0 c) (defs₀ (F := F)) Variants.none () Set.univ := fun t => by
  rw [bigSep_W0, bigSep_W0, defs_row]
  exact triple_restated (body m c t) rfl .rfl fun _ => .rfl

/-! ### The run -/

theorem state_in : Pipeline.ΦD osem0 spec0 H0 (V m) c ⊢ (dats m 0 c).Φ 0 := by
  rw [show (dats m 0 c).Φ 0 = state m c 0 (Nat.zero_le _) from rfl, state_zero m c 0 _ rfl]
  try exact Idealize.SL.BI.Entails.refl _

theorem state_out : (dats m 0 c).Φ (Fin.last cfg0.N) ⊢ Pipeline.ΦD osem0 spec0 H0 (V m) c := by
  have hN : (Fin.last cfg0.N).val ≠ 0 := by rw [Fin.val_last]; have : cfg0.N = 32 := N_0; omega
  rw [show (dats m 0 c).Φ (Fin.last cfg0.N) = state m c (Fin.last cfg0.N).val (Nat.le_of_lt_succ (Fin.last cfg0.N).isLt) from rfl,
    state_pos m c _ _ hN, PhiD0_eq]
  iintro ⟨⟨HS0, HS1⟩, Hg, ⟨Hq0, Hq1⟩, ⟨Hh0, Hh1⟩⟩
  isplitl [HS0 HS1]
  · isplitl [HS0]
    · iexists _; iexact HS0
    iexists _; iexact HS1
  isplitl [Hg]; · iexact Hg
  isplitl [Hq0 Hq1]
  · isplitl [Hq0]; · iexact Hq0
    iexact Hq1
  isplitl [Hh0]; · iexact Hh0
  iexact Hh1

set_option backward.isDefEq.respectTransparency.types false in
/-- From any memory the program ends with every array of the region at what `dats` gives and all counters at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ
    main (hbody := fun c => (obligation m c).loose) (hq := fun _ _ _ => rfl) (howed := fun _ _ => rfl) (V := V m)
    (hmain := hmain m Variants.none) (hA := fun c w => A_eq m c w) (hin := state_in m) (hout := state_out m)

theorem run : θ_run defs (onTc (τ := τ) (main (F := F))) (s₀ m ρ) (Pipeline.FramePost cfgs (dats m) 0 (V m)) :=
  (θ_run defs _ _).mono (fun _ h => h.1) (run_quiescent m ρ)

end Cert.Step

end
-- ==== Proof.Frames.lean ====
/-
  Both frames of the kernel, from the one run of the region: at the floats as bits and at the ideal ones.
-/
module

public import proofs.«01_k».proof.Proof.Region
public import proofs.«01_k».proof.Proof.Gen.Kernel

@[expose] public section

set_option maxRecDepth 65536

noncomputable section

namespace Cert.Step

open Idealize.ShloMosaic Idealize.ShloMosaic.TcCoe
open Idealize.SL.Sem
open Cert.KernelIdeal Cert.KernelIdeal.Gen

/-- The program ends with its arguments as they were and its counters at zero. -/
theorem frame_ideal : Cert.quiescent_KernelIdeal (hKernelIdeal := Cert.KernelIdeal.Gen.facts) := fun m ρ _ =>
  θ_run_and (frame_of m ρ (dats m) (fun c w => A_eq m c w) (run m ρ)) ((θ_run defs _ _).mono (fun _ h => h.2) (run_quiescent m ρ))

set_option maxHeartbeats 4000000 in
/-- The two programs have one body. -/
theorem body_eq : @Cert.Kernel.cc0_mlp_step Bits _ Cert.Kernel.Gen.facts = @Cert.KernelIdeal.cc0_mlp_step Bits _ Cert.KernelIdeal.Gen.facts := by
  unfold Cert.Kernel.cc0_mlp_step Cert.KernelIdeal.cc0_mlp_step
  rfl

set_option maxHeartbeats 4000000 in
/-- And one body table. -/
theorem defs_eq : Cert.Kernel.defs₀ (F := Bits) = Cert.KernelIdeal.defs₀ (F := Bits) := by
  unfold Cert.Kernel.defs₀ Cert.KernelIdeal.defs₀
  rw [body_eq]
  refine congrArg Defs.onTc ?_
  funext l x
  match l, x with
  | 0, (t, s) => rfl

/-- So does the program as it is run. -/
theorem frame_kernel : Cert.quiescent_Kernel (hKernel := Cert.Kernel.Gen.facts) := by
  intro m ρ _
  have h := θ_run_and (frame_of (F := Bits) m ρ (dats m) (fun c w => A_eq m c w) (run m ρ))
    ((θ_run Cert.KernelIdeal.defs _ _).mono (fun _ h => h.2) (run_quiescent (F := Bits) m ρ))
  unfold Cert.KernelIdeal.defs at h
  unfold Cert.Kernel.defs
  rw [defs_eq]
  exact h

end Cert.Step

end
-- ==== Proof.Finite.lean ====
/-
  Extended reals that are real numbers, and that the operations of the step keep them so: sums, products, differences,
  the quotient by a positive number, the reciprocal square root of a positive number. What is proved of the step under
  its precondition (every argument element is finite) goes through these.
-/
module

public import Idealize.ShloMosaic.Lib.Pointwise
public import Idealize.ShloMosaic.Lib.IdealHost

@[expose] public section

noncomputable section

namespace Cert.Step

open Idealize.ShloMosaic

/-- The extended real is a real number. -/
def IsReal (a : EReal) : Prop := ∃ r : ℝ, a = (r : EReal)

/-- The extended real is a real number that is not negative. -/
def IsNonneg (a : EReal) : Prop := ∃ r : ℝ, 0 ≤ r ∧ a = (r : EReal)

/-- The extended real is a positive real number. -/
def IsPos (a : EReal) : Prop := ∃ r : ℝ, 0 < r ∧ a = (r : EReal)

theorem IsPos.isReal {a : EReal} : IsPos a → IsReal a := fun ⟨r, _, h⟩ => ⟨r, h⟩
theorem IsNonneg.isReal {a : EReal} : IsNonneg a → IsReal a := fun ⟨r, _, h⟩ => ⟨r, h⟩

theorem IsReal.ne_top {a : EReal} : IsReal a → a ≠ ⊤ := by rintro ⟨r, rfl⟩; exact EReal.coe_ne_top r
theorem IsReal.ne_bot {a : EReal} : IsReal a → a ≠ ⊥ := by rintro ⟨r, rfl⟩; exact EReal.coe_ne_bot r

theorem isReal_zero : IsReal 0 := ⟨0, EReal.coe_zero.symm⟩

theorem IsReal.add {a b : EReal} : IsReal a → IsReal b → IsReal (a + b) := by
  rintro ⟨r, rfl⟩ ⟨s, rfl⟩; exact ⟨r + s, (EReal.coe_add r s).symm⟩

theorem IsReal.neg {a : EReal} : IsReal a → IsReal (-a) := by
  rintro ⟨r, rfl⟩; exact ⟨-r, (EReal.coe_neg r).symm⟩

theorem IsReal.sub {a b : EReal} : IsReal a → IsReal b → IsReal (a - b) := by
  rintro ⟨r, rfl⟩ ⟨s, rfl⟩; exact ⟨r - s, (EReal.coe_sub r s).symm⟩

theorem IsReal.mul {a b : EReal} : IsReal a → IsReal b → IsReal (a * b) := by
  rintro ⟨r, rfl⟩ ⟨s, rfl⟩; exact ⟨r * s, (EReal.coe_mul r s).symm⟩

theorem IsReal.max {a b : EReal} : IsReal a → IsReal b → IsReal (max a b) := fun ha hb => by
  rcases max_choice a b with h | h <;> rw [h] <;> assumption

theorem IsReal.sum {ι : Type*} (s : Finset ι) {f : ι → EReal} (h : ∀ i, IsReal (f i)) : IsReal (∑ i ∈ s, f i) := by
  classical
  induction s using Finset.induction_on with
  | empty => rw [Finset.sum_empty]; exact isReal_zero
  | insert i s hi ih => rw [Finset.sum_insert hi]; exact (h i).add ih

theorem IsReal.mul_self {a : EReal} : IsReal a → IsNonneg (a * a) := by
  rintro ⟨r, rfl⟩; exact ⟨r * r, mul_self_nonneg r, (EReal.coe_mul r r).symm⟩

theorem IsNonneg.add {a b : EReal} : IsNonneg a → IsNonneg b → IsNonneg (a + b) := by
  rintro ⟨r, hr, rfl⟩ ⟨s, hs, rfl⟩; exact ⟨r + s, add_nonneg hr hs, (EReal.coe_add r s).symm⟩

theorem IsNonneg.sum {ι : Type*} (s : Finset ι) {f : ι → EReal} (h : ∀ i, IsNonneg (f i)) : IsNonneg (∑ i ∈ s, f i) := by
  classical
  induction s using Finset.induction_on with
  | empty => rw [Finset.sum_empty]; exact ⟨0, le_refl 0, EReal.coe_zero.symm⟩
  | insert i s hi ih => rw [Finset.sum_insert hi]; exact (h i).add ih

theorem IsNonneg.add_pos {a b : EReal} : IsNonneg a → IsPos b → IsPos (a + b) := by
  rintro ⟨r, hr, rfl⟩ ⟨s, hs, rfl⟩; exact ⟨r + s, add_pos_of_nonneg_of_pos hr hs, (EReal.coe_add r s).symm⟩

/-- A quotient by a positive number is the product with its reciprocal. -/
theorem IsPos.div_eq {b : EReal} : IsPos b → ∃ r : ℝ, 0 < r ∧ ∀ a, Ideal.div a b = a * (r : EReal) := by
  rintro ⟨s, hs, rfl⟩
  exact ⟨1 / s, one_div_pos.mpr hs, fun a => Ideal.div_coe hs.ne' a⟩

theorem IsReal.div {a b : EReal} (ha : IsReal a) (hb : IsPos b) : IsReal (Ideal.div a b) := by
  obtain ⟨r, _, h⟩ := hb.div_eq
  rw [h]; exact ha.mul ⟨r, rfl⟩

theorem IsNonneg.div {a b : EReal} (ha : IsNonneg a) (hb : IsPos b) : IsNonneg (Ideal.div a b) := by
  obtain ⟨r, hr, h⟩ := hb.div_eq
  obtain ⟨s, hs, rfl⟩ := ha
  rw [h]; exact ⟨s * r, mul_nonneg hs hr.le, (EReal.coe_mul s r).symm⟩

theorem IsPos.rsqrt {a : EReal} : IsPos a → IsReal (Ideal.rsqrt a) := by
  rintro ⟨r, hr, rfl⟩
  exact ⟨(Real.sqrt r)⁻¹, by rw [Ideal.rsqrt_coe, if_neg (not_lt.mpr hr.le), if_neg hr.ne']⟩

/-! ### Negation and products over sums of real numbers -/

theorem neg_add_real {a b : EReal} : IsReal a → IsReal b → -(a + b) = -a + -b := by
  rintro ⟨r, rfl⟩ ⟨s, rfl⟩
  rw [← EReal.coe_add, ← EReal.coe_neg, ← EReal.coe_neg, ← EReal.coe_neg, ← EReal.coe_add]
  exact congrArg _ (neg_add r s)

theorem mul_add_real {a b c : EReal} : IsReal a → IsReal b → IsReal c → a * (b + c) = a * b + a * c := by
  rintro ⟨r, rfl⟩ ⟨s, rfl⟩ ⟨t, rfl⟩
  rw [← EReal.coe_add, ← EReal.coe_mul, ← EReal.coe_mul, ← EReal.coe_mul, ← EReal.coe_add]
  exact congrArg _ (mul_add r s t)

theorem mul_sum_real {ι : Type*} (s : Finset ι) {a : EReal} {f : ι → EReal} (ha : IsReal a) (h : ∀ i, IsReal (f i)) :
    a * ∑ i ∈ s, f i = ∑ i ∈ s, a * f i := by
  classical
  induction s using Finset.induction_on with
  | empty => rw [Finset.sum_empty, Finset.sum_empty, mul_zero]
  | insert i s hi ih => rw [Finset.sum_insert hi, Finset.sum_insert hi, mul_add_real ha (h i) (IsReal.sum s h), ih]

/-! ### The constants of the step -/

/-- `1024.0`, the length of a row. -/
abbrev cLen : EReal := Ideal.ofBits .f32 0x44800000#32
/-- The layer normalisation's `1e-6`, rounded to f32. -/
abbrev cEps : EReal := Ideal.ofBits .f32 0x358637BD#32
/-- `-0.5`. -/
abbrev cNegHalf : EReal := Ideal.ofBits .f32 0xBF000000#32
/-- `0.5`. -/
abbrev cHalf : EReal := Ideal.ofBits .f32 0x3F000000#32
/-- `2.0`. -/
abbrev cTwo : EReal := Ideal.ofBits .f32 0x40000000#32
/-- `2 ** 0.25`, rounded to f32. -/
abbrev cAlpha : EReal := Ideal.ofBits .f32 0x3F9837F0#32
/-- `1 / 1024`. -/
abbrev cInvLen : EReal := Ideal.ofBits .f32 0x3A800000#32
/-- `0.5 / 1024`. -/
abbrev cHalfInvLen : EReal := Ideal.ofBits .f32 0x3A000000#32

theorem cLen_eq : cLen = ((1024 : ℝ) : EReal) := by
  simp [Ideal.ofBits, Ideal.ieee, -EReal.coe_mul]; norm_num
theorem cNegHalf_eq : cNegHalf = ((-(1 / 2) : ℝ) : EReal) := by
  simp [Ideal.ofBits, Ideal.ieee, -EReal.coe_mul, -EReal.coe_neg]; norm_num
theorem cHalf_eq : cHalf = ((1 / 2 : ℝ) : EReal) := by
  simp [Ideal.ofBits, Ideal.ieee, -EReal.coe_mul]; norm_num
theorem cTwo_eq : cTwo = ((2 : ℝ) : EReal) := by
  simp [Ideal.ofBits, Ideal.ieee, -EReal.coe_mul]; norm_num
theorem cInvLen_eq : cInvLen = ((1 / 1024 : ℝ) : EReal) := by
  simp [Ideal.ofBits, Ideal.ieee, -EReal.coe_mul]; norm_num
theorem cHalfInvLen_eq : cHalfInvLen = ((1 / 2048 : ℝ) : EReal) := by
  simp [Ideal.ofBits, Ideal.ieee, -EReal.coe_mul]; norm_num

theorem cLen_pos : IsPos cLen := ⟨1024, by norm_num, cLen_eq⟩
theorem cEps_pos : IsPos cEps := by
  refine ⟨8796093 / 2 ^ 43, by norm_num, ?_⟩
  simp [Ideal.ofBits, Ideal.ieee, -EReal.coe_mul]; norm_num
theorem cAlpha_real : IsReal cAlpha := by
  refine ⟨9975792 / 2 ^ 23, ?_⟩
  simp [Ideal.ofBits, Ideal.ieee, -EReal.coe_mul]; norm_num
theorem cNegHalf_real : IsReal cNegHalf := ⟨_, cNegHalf_eq⟩
theorem cTwo_real : IsReal cTwo := ⟨_, cTwo_eq⟩
theorem cInvLen_real : IsReal cInvLen := ⟨_, cInvLen_eq⟩

end Cert.Step

end
-- ==== Proof.Rows.lean ====
/-
  The mathematics of the step's second sub-layer, on one token's row of 1024 numbers: layer normalisation and its
  derivative, the modulation, the perceptron with the squared rectifier, the residual layer normalisation and the loss,
  and the gradients of all of it. Both programs are proved to compute these functions; no program is named here.

  The derivative of a layer normalisation appears twice: `lnBwd`, as differentiating one centred row gives it, and
  `lnBwdTwice`, as differentiating a text gives it that subtracts the mean once for the variance and once more for the
  result. The two are equal on rows of real numbers (`lnBwdTwice_eq`), and not on all rows: the second adds two sums where
  the first has the sum of the pairs.
-/
module

public import proofs.«01_k».proof.Proof.Finite

@[expose] public section

noncomputable section

namespace Cert.Step

open Idealize.ShloMosaic

/-- A row of `n` extended reals. -/
abbrev Row (n : Nat) := Fin n → EReal

/-! ### Layer normalisation of one row -/

/-- The mean of a row. -/
def mean (x : Row 1024) : EReal := Ideal.div (∑ k, x k) cLen
/-- The centred row. -/
def cen (x : Row 1024) : Row 1024 := fun j => x j - mean x
/-- The variance, with the constant added to it. -/
def vareps (x : Row 1024) : EReal := Ideal.div (∑ k, cen x k * cen x k) cLen + cEps
/-- The reciprocal standard deviation. -/
def rstd (x : Row 1024) : EReal := Ideal.rsqrt (vareps x)
/-- The derivative of the reciprocal square root. -/
def drstd (x : Row 1024) : EReal := cNegHalf * Ideal.div (rstd x) (vareps x)
/-- The normalised row. -/
def norm (x : Row 1024) : Row 1024 := fun j => cen x j * rstd x

/-- What the cotangent `g` of the normalised row gives the variance's sum of squares, one factor of the centred row. -/
def dvar (x g : Row 1024) : EReal := Ideal.div ((∑ k, cen x k * g k) * drstd x) cLen

/-- The cotangent of the centred row: through the product and, twice, through the squares. -/
def dcen (x g : Row 1024) : Row 1024 := fun j => (g j * rstd x + cen x j * dvar x g) + dvar x g * cen x j

/-- The derivative of a layer normalisation: the cotangent of the centred row less its mean. -/
def lnBwd (x g : Row 1024) : Row 1024 := fun j => dcen x g j + Ideal.div (∑ k, (0 - dcen x g k)) cLen

/-- The same derivative, the mean having been subtracted in two places: each gives its own sum. -/
def lnBwdTwice (x g : Row 1024) : Row 1024 := fun j =>
  (g j * rstd x + dvar x g * (cTwo * cen x j))
    + Ideal.div ((∑ k, -(g k * rstd x)) + ∑ k, -(dvar x g * (cTwo * cen x k))) cLen

/-- A row of real numbers. -/
def RealRow {n : Nat} (x : Row n) : Prop := ∀ j, IsReal (x j)

section Real
variable {x g : Row 1024} (hx : RealRow x) (hg : RealRow g)
include hx

theorem mean_real : IsReal (mean x) := (IsReal.sum _ hx).div cLen_pos
theorem cen_real : RealRow (cen x) := fun j => (hx j).sub (mean_real hx)
theorem vareps_pos : IsPos (vareps x) := ((IsNonneg.sum _ fun k => (cen_real hx k).mul_self).div cLen_pos).add_pos cEps_pos
theorem rstd_real : IsReal (rstd x) := (vareps_pos hx).rsqrt
theorem drstd_real : IsReal (drstd x) := cNegHalf_real.mul ((rstd_real hx).div (vareps_pos hx))
theorem norm_real : RealRow (norm x) := fun j => (cen_real hx j).mul (rstd_real hx)

include hg

theorem dvar_real : IsReal (dvar x g) :=
  ((IsReal.sum _ fun k => (cen_real hx k).mul (hg k)).mul (drstd_real hx)).div cLen_pos

theorem dcen_real : RealRow (dcen x g) := fun j =>
  (((hg j).mul (rstd_real hx)).add ((cen_real hx j).mul (dvar_real hx hg))).add ((dvar_real hx hg).mul (cen_real hx j))

theorem lnBwd_real : RealRow (lnBwd x g) := fun j =>
  (dcen_real hx hg j).add ((IsReal.sum _ fun k => isReal_zero.sub (dcen_real hx hg k)).div cLen_pos)

/-- The two products with the centred row are one with twice it. -/
theorem dcen_eq (j : Fin 1024) : dcen x g j = g j * rstd x + dvar x g * (cTwo * cen x j) := by
  obtain ⟨s, hs⟩ := dvar_real hx hg
  obtain ⟨c, hc⟩ := cen_real hx j
  have : dvar x g * (cTwo * cen x j) = cen x j * dvar x g + dvar x g * cen x j := by
    rw [hs, hc, cTwo_eq, ← EReal.coe_mul, ← EReal.coe_mul, ← EReal.coe_mul, ← EReal.coe_mul, ← EReal.coe_add]
    exact congrArg _ (by ring)
  rw [this, dcen, add_assoc]

/-- On rows of real numbers the two texts' derivatives are equal. -/
theorem lnBwdTwice_eq : lnBwdTwice x g = lnBwd x g := by
  funext j
  rw [lnBwdTwice, lnBwd, ← dcen_eq hx hg, ← Finset.sum_add_distrib]
  refine congrArg (fun s => dcen x g j + Ideal.div s cLen) (Finset.sum_congr rfl fun k _ => ?_)
  rw [zero_sub, dcen_eq hx hg]
  exact (neg_add_real ((hg k).mul (rstd_real hx)) ((dvar_real hx hg).mul (cTwo_real.mul (cen_real hx k)))).symm

end Real

/-! ### The sub-layer, one token -/

/-- The weights: the two products', their biases, the last normalisation's gain and bias. -/
structure Weights where
  w1 : Fin 1024 → Row 4096
  b1 : Row 4096
  w2 : Fin 4096 → Row 1024
  b2 : Row 1024
  gain : Row 1024
  bias : Row 1024

/-- One token: its row, its target, its batch element's shift, scale and gate. -/
structure Token where
  x : Row 1024
  target : Row 1024
  shift : Row 1024
  scale : Row 1024
  gate : Row 1024

variable (p : Weights) (v : Token)

/-- The modulated normalised row. -/
def hid : Row 1024 := fun j => norm v.x j * (1 + v.scale j) + v.shift j
/-- The pre-activation. -/
def pre : Row 4096 := fun k => (∑ j, hid v j * p.w1 j k) + p.b1 k
/-- The rectified pre-activation. -/
def act : Row 4096 := fun k => max (pre p v k) 0
/-- Its square. -/
def sq : Row 4096 := fun k => act p v k * act p v k
/-- The perceptron's output. -/
def mlp : Row 1024 := fun j => (∑ k, sq p v k * p.w2 k j) + p.b2 j
/-- The residual sum. -/
def res : Row 1024 := fun j => cAlpha * v.x j + v.gate j * mlp p v j
/-- The output less the target. -/
def diff : Row 1024 := fun j => norm (res p v) j * p.gain j + p.bias j - v.target j
/-- The sum of the squared differences. -/
def sqerr : EReal := ∑ j, diff p v j * diff p v j

/-- The cotangent of the output. -/
def dout : Row 1024 := fun j => diff p v j * cInvLen
/-- The token's part of the gain's gradient. -/
def dgain : Row 1024 := fun j => norm (res p v) j * dout p v j
/-- The cotangent of the residual sum. -/
def dres : Row 1024 := lnBwd (res p v) fun j => dout p v j * p.gain j
/-- The cotangent of the perceptron's output. -/
def dmlp : Row 1024 := fun j => v.gate j * dres p v j
/-- The token's part of the gate's gradient. -/
def dgate : Row 1024 := fun j => dres p v j * mlp p v j
/-- The cotangent of the pre-activation. -/
def dpre : Row 4096 := fun k => (∑ j, dmlp p v j * p.w2 k j) * (cTwo * act p v k)
/-- The cotangent of the modulated row; the token's part of the shift's gradient. -/
def dhid : Row 1024 := fun j => ∑ k, dpre p v k * p.w1 j k
/-- The token's part of the scale's gradient. -/
def dscale : Row 1024 := fun j => norm v.x j * dhid p v j
/-- The gradient of the token's row. -/
def dx : Row 1024 := fun j => cAlpha * dres p v j + lnBwd v.x (fun i => dhid p v i * (1 + v.scale i)) j

/-! ### Of real inputs, real values -/

/-- Weights that are real numbers. -/
structure Weights.Real (p : Weights) : Prop where
  w1 : ∀ j, RealRow (p.w1 j)
  b1 : RealRow p.b1
  w2 : ∀ k, RealRow (p.w2 k)
  b2 : RealRow p.b2
  gain : RealRow p.gain
  bias : RealRow p.bias

/-- A token whose numbers are real. -/
structure Token.Real (v : Token) : Prop where
  x : RealRow v.x
  target : RealRow v.target
  shift : RealRow v.shift
  scale : RealRow v.scale
  gate : RealRow v.gate

theorem isReal_one : IsReal 1 := ⟨1, EReal.coe_one.symm⟩

section
variable {p v} (hp : p.Real) (hv : v.Real)
include hv

theorem hid_real : RealRow (hid v) := fun j =>
  ((norm_real hv.x j).mul (isReal_one.add (hv.scale j))).add (hv.shift j)

include hp

theorem act_real : RealRow (act p v) := fun k =>
  ((IsReal.sum _ fun j => (hid_real hv j).mul (hp.w1 j k)).add (hp.b1 k)).max isReal_zero
theorem mlp_real : RealRow (mlp p v) := fun j =>
  (IsReal.sum _ fun k => ((act_real hp hv k).mul (act_real hp hv k)).mul (hp.w2 k j)).add (hp.b2 j)
theorem res_real : RealRow (res p v) := fun j =>
  (cAlpha_real.mul (hv.x j)).add ((hv.gate j).mul (mlp_real hp hv j))
theorem diff_real : RealRow (diff p v) := fun j =>
  (((norm_real (res_real hp hv) j).mul (hp.gain j)).add (hp.bias j)).sub (hv.target j)
theorem dout_real : RealRow (dout p v) := fun j => (diff_real hp hv j).mul cInvLen_real
theorem dout_gain_real : RealRow (fun j => dout p v j * p.gain j) := fun j => (dout_real hp hv j).mul (hp.gain j)
theorem dres_real : RealRow (dres p v) := lnBwd_real (res_real hp hv) (dout_gain_real hp hv)
theorem dmlp_real : RealRow (dmlp p v) := fun j => (hv.gate j).mul (dres_real hp hv j)
theorem dpre_real : RealRow (dpre p v) := fun k =>
  (IsReal.sum _ fun j => (dmlp_real hp hv j).mul (hp.w2 k j)).mul (cTwo_real.mul (act_real hp hv k))
theorem dhid_real : RealRow (dhid p v) := fun j => IsReal.sum _ fun k => (dpre_real hp hv k).mul (hp.w1 j k)
theorem dhid_scale_real : RealRow (fun j => dhid p v j * (1 + v.scale j)) := fun j =>
  (dhid_real hp hv j).mul (isReal_one.add (hv.scale j))

end

/-! ### The other text's spellings -/

/-- The derivative of the rectifier by a test of the sign: where the pre-activation is not positive the product with
    twice the rectified value is zero. -/
theorem relu_select (a d : EReal) : (if 0 < a then d * (cTwo * max a 0) else 0) = d * (cTwo * max a 0) := by
  split_ifs with h
  · rfl
  · rw [max_eq_right (not_lt.mp h), mul_zero, mul_zero]

/-- The cotangent of the output, from the derivative of the square and the two scalings of the loss. -/
theorem dout_eq (d : EReal) : Ideal.div (cHalf * 1) cLen * (cTwo * d) = d * cInvLen := by
  rw [mul_one, cLen_eq, Ideal.div_coe (by norm_num), ← mul_assoc, cHalf_eq, cTwo_eq, cInvLen_eq, ← EReal.coe_mul, ← EReal.coe_mul,
    mul_comm]
  exact congrArg (fun r : ℝ => d * (r : EReal)) (by norm_num)

/-- The loss: half the sum of the tokens' means is the tokens' sums times one constant, each at its own place. -/
theorem loss_eq {ι : Type*} [Fintype ι] {f : ι → EReal} (h : ∀ i, IsReal (f i)) :
    cHalf * ∑ i, Ideal.div (f i) cLen = ∑ i, cHalfInvLen * f i := by
  rw [mul_sum_real _ ⟨_, cHalf_eq⟩ fun i => (h i).div cLen_pos]
  refine Finset.sum_congr rfl fun i _ => ?_
  rw [cLen_eq, Ideal.div_coe (by norm_num), cHalf_eq, cHalfInvLen_eq, mul_comm (f i), ← mul_assoc, ← EReal.coe_mul]
  exact congrArg (fun r : ℝ => (r : EReal) * f i) (by norm_num)

end Cert.Step

end
-- ==== Proof.Payloads.lean ====
/-
  The kernel's arithmetic read at an element: each named intermediate of the body, at row `r` of the tile and a column,
  is the row functions of `Rows.lean` of the tile's row `r`; each sum over the tile is the sum of them over its rows.
-/
module

public import proofs.«01_k».proof.Proof.Rows
public import proofs.«01_k».proof.Proof.Tile

@[expose] public section

set_option maxRecDepth 16384

noncomputable section

namespace Cert.Step

open Idealize.ShloMosaic Idealize.ShloMosaic.TcCoe Cert.KernelIdeal Cert.KernelIdeal.Gen

/-- Row `r` of a block of rows. -/
abbrev row {a b : Nat} {φ : FTy} (x : FVec Ideal ⟨2, ![a, b]⟩ φ) (r : Fin a) : Row b := fun k => x (ix2 r k)

namespace Tile

variable (T : Tile Ideal)

/-- The weights the body reads. -/
def wts : Weights where
  w1 j k := T.w1 (ix2 j k)
  b1 k := T.b1 (ix2 0 k)
  w2 k j := T.w2 (ix2 k j)
  b2 j := T.b2 (ix2 0 j)
  gain j := T.g (ix2 0 j)
  bias j := T.b (ix2 0 j)

/-- The token in row `r`. -/
def tok (r : Fin 256) : Token where
  x := row T.x r
  target := row T.t r
  shift j := T.sh (ix4 0 0 0 j)
  scale j := T.sc (ix4 0 0 0 j)
  gate j := T.gt (ix4 0 0 0 j)

variable (r : Fin 256) (j : Fin 1024) (k : Fin 4096)

/-! ### The forward pass -/

theorem vSh_apply : T.vSh (ix2 0 j) = (T.tok r).shift j := by
  unfold vSh; pointwise [k0_pay9]; rfl

theorem vSc_apply : T.vSc (ix2 0 j) = (T.tok r).scale j := by
  unfold vSc; pointwise [k0_pay10]; rfl

theorem vGt_apply : T.vGt (ix2 0 j) = (T.tok r).gate j := by
  unfold vGt; pointwise [k0_pay22]; rfl

theorem vCen_apply : T.vCen (ix2 r j) = cen (T.tok r).x j := by
  unfold vCen; pointwise [k0_pay11]; rfl

theorem vVar_apply : T.vVar (ix2 r 0) + eps = vareps (T.tok r).x := by
  have h : ∀ i, (k0_pay11 T.x : FVec Ideal S256x1024 .f32) (ix2 r i) = cen (T.tok r).x i := fun i => T.vCen_apply r i
  unfold vVar; pointwise [k0_pay12]
  simp only [h]; rfl

theorem vRstd_apply : (k0_pay14 T.vVar eps : FVec Ideal S256x1 .f32) (ix2 r 0) = rstd (T.tok r).x := by
  have h := T.vVar_apply r
  pointwise [k0_pay14, k0_pay13] at h ⊢
  rw [h]; rfl

theorem vDrstd_apply : (k0_pay15 T.vVar eps : FVec Ideal S256x1 .f32) (ix2 r 0) = drstd (T.tok r).x := by
  have h := T.vVar_apply r
  pointwise [k0_pay15, k0_pay14, k0_pay13] at h ⊢
  rw [h]; rfl

theorem vNorm_apply : T.vNorm (ix2 r j) = norm (T.tok r).x j := by
  have h := T.vRstd_apply r
  unfold vNorm; pointwise [k0_pay16]
  rw [h, T.vCen_apply]; rfl

theorem vScale1_apply : (k0_pay17 T.vSc : FVec Ideal S1x1024 .f32) (ix2 0 j) = 1 + (T.tok r).scale j := by
  pointwise [k0_pay17]
  rw [T.vSc_apply r]

theorem vHid_apply : T.vHid (ix2 r j) = hid (T.tok r) j := by
  have h := T.vNorm_apply r j
  unfold vNorm at h
  unfold vHid; pointwise [k0_pay18]
  rw [h, T.vScale1_apply r, T.vSh_apply r]; rfl

theorem vAct_apply : T.vAct (ix2 r k) = act T.wts (T.tok r) k := by
  have h : ∀ i, (k0_pay18 T.vSh T.vSc T.vCen T.vVar eps : FVec Ideal S256x1024 .bf16) (ix2 r i) = hid (T.tok r) i :=
    fun i => T.vHid_apply r i
  unfold vAct; pointwise [k0_pay19]
  simp only [h]; rfl

theorem vSq_apply : T.vSq (ix2 r k) = sq T.wts (T.tok r) k := by
  have h := T.vAct_apply r k
  unfold vAct at h
  unfold vSq; pointwise [k0_pay20]
  rw [h]; rfl

theorem vMlp_apply : T.vMlp (ix2 r j) = mlp T.wts (T.tok r) j := by
  have h : ∀ i, (k0_pay20 T.vSh T.vSc T.vCen T.vVar eps T.w1 T.b1 : FVec Ideal S256x4096 .bf16) (ix2 r i) = sq T.wts (T.tok r) i :=
    fun i => T.vSq_apply r i
  unfold vMlp; pointwise [k0_pay21]
  simp only [h]; rfl

theorem vCen2_apply : T.vCen2 (ix2 r j) = cen (res T.wts (T.tok r)) j := by
  unfold vCen2; pointwise [k0_pay23]
  simp only [T.vMlp_apply, T.vGt_apply r]; rfl

theorem vVar2_apply : (k0_pay24 T.x T.vMlp T.vGt : FVec Ideal S256x1 .f32) (ix2 r 0) = vareps (res T.wts (T.tok r)) := by
  have h : ∀ i, (k0_pay23 T.x T.vMlp T.vGt : FVec Ideal S256x1024 .f32) (ix2 r i) = cen (res T.wts (T.tok r)) i :=
    fun i => T.vCen2_apply r i
  pointwise [k0_pay24]
  simp only [h]; rfl

theorem vRstd2_apply : T.vRstd2 (ix2 r 0) = rstd (res T.wts (T.tok r)) := by
  unfold vRstd2; pointwise [k0_pay25]
  rw [T.vVar2_apply]; rfl

theorem vDrstd2_apply : T.vDrstd2 (ix2 r 0) = drstd (res T.wts (T.tok r)) := by
  have h := T.vRstd2_apply r
  unfold vRstd2 at h
  unfold vDrstd2; pointwise [k0_pay26]
  rw [h, T.vVar2_apply]; rfl

theorem vNorm2_apply : T.vNorm2 (ix2 r j) = norm (res T.wts (T.tok r)) j := by
  have h := T.vRstd2_apply r
  have h' := T.vCen2_apply r j
  unfold vRstd2 at h
  unfold vCen2 at h'
  unfold vNorm2; pointwise [k0_pay27]
  rw [h, h']; rfl

theorem vDiff_apply : T.vDiff (ix2 r j) = diff T.wts (T.tok r) j := by
  have h := T.vNorm2_apply r j
  unfold vNorm2 at h
  unfold vDiff; pointwise [k0_pay28]
  rw [h]; rfl

/-! ### The gradients -/

theorem vDout_apply : (k0_pay30 T.vDiff inv : FVec Ideal S256x1024 .f32) (ix2 r j) = dout T.wts (T.tok r) j := by
  pointwise [k0_pay30]
  rw [T.vDiff_apply]; rfl

theorem dres_apply : (k0_pay32 T.g T.vCen2 T.vRstd2 T.vDrstd2 T.vDiff inv : FVec Ideal S256x1024 .f32) (ix2 r j)
    = dres T.wts (T.tok r) j := by
  pointwise [k0_pay32]
  simp only [T.vDout_apply, T.vCen2_apply, Fin.sum_univ_one, Fin.isValue, T.vRstd2_apply, T.vDrstd2_apply]
  rfl

theorem vDmlp_apply : T.vDmlp (ix2 r j) = dmlp T.wts (T.tok r) j := by
  unfold vDmlp; pointwise [k0_pay33]
  rw [T.dres_apply, T.vGt_apply r]; rfl

theorem vDres_apply : T.vDres (ix2 r j) = cAlpha * dres T.wts (T.tok r) j := by
  unfold vDres; pointwise [k0_pay35]
  rw [T.dres_apply]

theorem vDpre_apply : T.vDpre (ix2 r k) = dpre T.wts (T.tok r) k := by
  unfold vDpre; pointwise [k0_pay41, k0_pay40]
  simp only [T.vDmlp_apply, T.vAct_apply]; rfl

theorem dhid_apply : (k0_pay44 T.vDpre T.w1 : FVec Ideal S256x1024 .f32) (ix2 r j) = dhid T.wts (T.tok r) j := by
  pointwise [k0_pay44, k0_pay43]
  simp only [T.vDpre_apply]; rfl

theorem vDx_apply : T.vDx (ix2 r j) = dx T.wts (T.tok r) j := by
  unfold vDx; pointwise [k0_pay47]
  simp only [T.dhid_apply, T.vCen_apply, Fin.sum_univ_one, Fin.isValue, T.vRstd_apply, T.vDrstd_apply, T.vScale1_apply r, T.vDres_apply]
  rfl

/-! ### The sums over the tile's rows -/

theorem vDgate_apply : T.vDgate (ix2 0 j) = ∑ r, dgate T.wts (T.tok r) j := by
  unfold vDgate; pointwise [k0_pay34]
  simp only [T.dres_apply, T.vMlp_apply]; rfl

theorem vDbias_apply : T.vDbias (ix2 0 j) = ∑ r, dout T.wts (T.tok r) j := by
  unfold vDbias; pointwise [k0_pay31]
  simp only [T.vDout_apply]

theorem vDshift_apply : T.vDshift (ix2 0 j) = ∑ r, dhid T.wts (T.tok r) j := by
  unfold vDshift; pointwise [k0_pay45]
  simp only [T.dhid_apply]

theorem vDscale_apply : T.vDscale (ix2 0 j) = ∑ r, dscale T.wts (T.tok r) j := by
  unfold vDscale; pointwise [k0_pay46]
  simp only [T.dhid_apply, T.vNorm_apply]; rfl

/-! ### The accumulators' updates -/

theorem loss_apply (a : FVec Ideal S8x128 .f32) (p : Fin 8) (q : Fin 128) :
    (k0_pay29 T.x T.vMlp T.vGt T.g T.b T.t a : FVec Ideal S8x128 .f32) (ix2 p q)
      = a (ix2 p q) + cHalfInvLen * ∑ r, sqerr T.wts (T.tok r) := by
  have h : ∀ r i, (k0_pay28 T.x T.vMlp T.vGt T.g T.b T.t : FVec Ideal S256x1024 .f32) (ix2 r i) = diff T.wts (T.tok r) i :=
    fun r i => T.vDiff_apply r i
  pointwise [k0_pay29]
  simp only [h]; rfl

theorem dgain_apply (a : FVec Ideal S1x1024 .f32) :
    (k0_pay36 T.vNorm2 T.vDiff inv a : FVec Ideal S1x1024 .f32) (ix2 0 j) = a (ix2 0 j) + ∑ r, dgain T.wts (T.tok r) j := by
  pointwise [k0_pay36]
  simp only [T.vNorm2_apply, T.vDout_apply]; rfl

theorem dbias_apply (a : FVec Ideal S1x1024 .f32) :
    (k0_pay37 T.vDbias a : FVec Ideal S1x1024 .f32) (ix2 0 j) = a (ix2 0 j) + ∑ r, dout T.wts (T.tok r) j := by
  pointwise [k0_pay37]
  rw [T.vDbias_apply]

theorem db2_apply (a : FVec Ideal S1x1024 .f32) :
    (k0_pay39 T.vDmlp a : FVec Ideal S1x1024 .f32) (ix2 0 j) = a (ix2 0 j) + ∑ r, dmlp T.wts (T.tok r) j := by
  pointwise [k0_pay39]
  simp only [T.vDmlp_apply]

theorem db1_apply (a : FVec Ideal S1x4096 .f32) :
    (k0_pay42 T.vAct T.vDmlp T.w2 a : FVec Ideal S1x4096 .f32) (ix2 0 k) = a (ix2 0 k) + ∑ r, dpre T.wts (T.tok r) k := by
  have h : ∀ r, (k0_pay41 T.vAct T.vDmlp T.w2 : FVec Ideal S256x4096 .f32) (ix2 r k) = dpre T.wts (T.tok r) k :=
    fun r => T.vDpre_apply r k
  pointwise [k0_pay42]
  simp only [h]

theorem dgate_apply (a : FVec Ideal S1x1x1024 .f32) :
    (k0_pay38 T.vDgate a : FVec Ideal S1x1x1024 .f32) (ix3 0 0 j) = a (ix3 0 0 j) + ∑ r, dgate T.wts (T.tok r) j := by
  pointwise [k0_pay38]
  rw [T.vDgate_apply]

theorem dshift_apply (a : FVec Ideal S1x1x1024 .f32) :
    (k0_pay1 T.vDshift a : FVec Ideal S1x1x1024 .f32) (ix3 0 0 j) = a (ix3 0 0 j) + ∑ r, dhid T.wts (T.tok r) j := by
  pointwise [k0_pay1]
  rw [T.vDshift_apply]

theorem dscale_apply (a : FVec Ideal S1x1x1024 .f32) :
    (k0_pay2 T.vDscale a : FVec Ideal S1x1x1024 .f32) (ix3 0 0 j) = a (ix3 0 0 j) + ∑ r, dscale T.wts (T.tok r) j := by
  pointwise [k0_pay2]
  rw [T.vDscale_apply]

end Tile

end Cert.Step

end
-- ==== Proof.Inputs.lean ====
/-
  The arguments of the two programs, the tokens they hold, and what each of the eleven results is, element by element: the
  row functions of `Rows.lean` of each token, and sums of them over the tokens.
-/
module

public import proofs.«01_k».proof.Proof.Rows
public import Idealize.ShloMosaic.Lib.Pointwise

@[expose] public section

set_option maxRecDepth 16384

noncomputable section

namespace Cert.Step

open Idealize.ShloMosaic Idealize.ShloMosaic.TcCoe

/-- The nine argument arrays. -/
structure Inputs where
  x : FVec Ideal ⟨2, ![8192, 1024]⟩ .f32
  tgt : FVec Ideal ⟨2, ![8192, 1024]⟩ .f32
  m4 : FVec Ideal ⟨4, ![8, 6, 1, 1024]⟩ .f32
  w1 : FVec Ideal ⟨2, ![1024, 4096]⟩ .f32
  b1 : FVec Ideal ⟨2, ![1, 4096]⟩ .f32
  w2 : FVec Ideal ⟨2, ![4096, 1024]⟩ .f32
  b2 : FVec Ideal ⟨2, ![1, 1024]⟩ .f32
  g : FVec Ideal ⟨2, ![1, 1024]⟩ .f32
  b : FVec Ideal ⟨2, ![1, 1024]⟩ .f32

/-- The row of a token: batch element `b`'s token `t`. -/
abbrev rowOf (b : Fin 4) (t : Fin 2048) : Fin 8192 := ⟨b.val * 2048 + t.val, by omega⟩

/-- The tokens of all batch elements, and the rows. -/
def rowEquiv : Fin 4 × Fin 2048 ≃ Fin 8192 where
  toFun p := rowOf p.1 p.2
  invFun n := (⟨n.val / 2048, by omega⟩, ⟨n.val % 2048, by omega⟩)
  left_inv p := by
    obtain ⟨⟨b, hb⟩, ⟨t, ht⟩⟩ := p
    refine Prod.ext (Fin.ext ?_) (Fin.ext ?_) <;> simp only [rowOf] <;> omega
  right_inv n := Fin.ext (by simp only [rowOf]; omega)

/-- A sum over batch elements and their tokens is the sum over the rows. -/
theorem sum_rows (f : Fin 8192 → EReal) : ∑ b : Fin 4, ∑ t : Fin 2048, f (rowOf b t) = ∑ n, f n := by
  rw [← Fintype.sum_prod_type' (f := fun b t => f (rowOf b t))]
  exact rowEquiv.sum_comp f

namespace Inputs

variable (I : Inputs)

def weights : Weights where
  w1 j k := I.w1 (ix2 j k)
  b1 k := I.b1 (ix2 0 k)
  w2 k j := I.w2 (ix2 k j)
  b2 j := I.b2 (ix2 0 j)
  gain j := I.g (ix2 0 j)
  bias j := I.b (ix2 0 j)

/-- The token in row `n`, modulated by the rows 3, 4, 5 of its batch element. -/
def token (n : Fin 8192) : Token where
  x j := I.x (ix2 n j)
  target j := I.tgt (ix2 n j)
  shift j := I.m4 (ix4 ⟨n.val / 2048, by omega⟩ 3 0 j)
  scale j := I.m4 (ix4 ⟨n.val / 2048, by omega⟩ 4 0 j)
  gate j := I.m4 (ix4 ⟨n.val / 2048, by omega⟩ 5 0 j)

theorem token_row (b : Fin 4) (t : Fin 2048) : I.token (rowOf b t) =
    { x := fun j => I.x (ix2 (rowOf b t) j), target := fun j => I.tgt (ix2 (rowOf b t) j),
      shift := fun j => I.m4 (ix4 ⟨b.val, by omega⟩ 3 0 j), scale := fun j => I.m4 (ix4 ⟨b.val, by omega⟩ 4 0 j),
      gate := fun j => I.m4 (ix4 ⟨b.val, by omega⟩ 5 0 j) } := by
  have h : (rowOf b t).val / 2048 = b.val := by simp only [rowOf]; omega
  simp only [token, h]

/-- The loss. -/
def loss : EReal := ∑ n, cHalfInvLen * sqerr I.weights (I.token n)
/-- The gradients summed over all the rows. -/
def db1 (k : Fin 4096) : EReal := ∑ n, dpre I.weights (I.token n) k
def db2 (j : Fin 1024) : EReal := ∑ n, dmlp I.weights (I.token n) j
def dgain (j : Fin 1024) : EReal := ∑ n, Step.dgain I.weights (I.token n) j
def dbias (j : Fin 1024) : EReal := ∑ n, dout I.weights (I.token n) j
/-- The gradients of one batch element's three modulation rows. -/
def dmod (b : Fin 4) (i : Fin 3) (j : Fin 1024) : EReal := match i with
  | 0 => ∑ t, dhid I.weights (I.token (rowOf b t)) j
  | 1 => ∑ t, dscale I.weights (I.token (rowOf b t)) j
  | 2 => ∑ t, dgate I.weights (I.token (rowOf b t)) j

/-- Every argument is an array of real numbers. -/
structure Real : Prop where
  x : ∀ i, IsReal (I.x i)
  tgt : ∀ i, IsReal (I.tgt i)
  m4 : ∀ i, IsReal (I.m4 i)
  w1 : ∀ i, IsReal (I.w1 i)
  b1 : ∀ i, IsReal (I.b1 i)
  w2 : ∀ i, IsReal (I.w2 i)
  b2 : ∀ i, IsReal (I.b2 i)
  g : ∀ i, IsReal (I.g i)
  b : ∀ i, IsReal (I.b i)

variable {I}

theorem Real.weights (h : I.Real) : I.weights.Real :=
  ⟨fun _ _ => h.w1 _, fun _ => h.b1 _, fun _ _ => h.w2 _, fun _ => h.b2 _, fun _ => h.g _, fun _ => h.b _⟩

theorem Real.token (h : I.Real) (n : Fin 8192) : (I.token n).Real :=
  ⟨fun _ => h.x _, fun _ => h.tgt _, fun _ => h.m4 _, fun _ => h.m4 _, fun _ => h.m4 _⟩

end Inputs

end Cert.Step

end
-- ==== Proof.Blocks.lean ====
/-
  The blocks the body reads, as rows of the argument arrays: row `r` of the block of point `t` is token `256 * t + r`, and the
  modulation rows are those of batch element `t / 8`.
-/
module

public import proofs.«01_k».proof.Proof.Carried
public import proofs.«01_k».proof.Proof.Payloads
public import proofs.«01_k».proof.Proof.Inputs
public import Idealize.ShloMosaic.Lib.Pipeline.ValueKit

@[expose] public section

set_option maxRecDepth 16384

noncomputable section

namespace Cert.Step

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The argument arrays of a device. -/
def inputs : Inputs where
  x := m ((c : Thread nD τ).loc main_arg0)
  tgt := m ((c : Thread nD τ).loc main_arg1)
  m4 := m ((c : Thread nD τ).loc main_arg2)
  w1 := m ((c : Thread nD τ).loc main_arg3)
  b1 := m ((c : Thread nD τ).loc main_arg4)
  w2 := m ((c : Thread nD τ).loc main_arg5)
  b2 := m ((c : Thread nD τ).loc main_arg6)
  g := m ((c : Thread nD τ).loc main_arg7)
  b := m ((c : Thread nD τ).loc main_arg8)

/-- The row of the arrays that row `r` of the block of point `t` is. -/
def rowAt (t : ℕ) (r : Fin 256) : Fin 8192 := Fin.ofNat 8192 (t * 256 + r.val)

theorem rowAt_val (t : Fin cfg0.N) (r : Fin 256) : (rowAt t.val r).val = t.val * 256 + r.val := by
  have hN : t.val < 32 := lt_of_lt_of_eq t.isLt (show cfg0.N = 32 from N_0)
  have := r.isLt
  exact Nat.mod_eq_of_lt (by omega)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val / 8, 3, 0, 0] := (by decide +kernel : ∀ t : Fin grid0.N, _)
theorem index3 : ∀ t : Fin cfg0.N, win0_3.index t = ![t.val / 8, 4, 0, 0] := (by decide +kernel : ∀ t : Fin grid0.N, _)
theorem index4 : ∀ t : Fin cfg0.N, win0_4.index t = ![t.val / 8, 5, 0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)

theorem tile_x (t : Fin cfg0.N) (r : Fin 256) (j : Fin 1024) : (tile m c t).x (ix2 r j) = (inputs m c).x (ix2 (rowAt t.val r) j) := by
  have h := rowAt_val t r
  show iblk m c 0 t (ix2 r j) = m ((c : Thread nD τ).loc main_arg0) _
  rw [← V_main_arg0 m c]
  blk_ext [iblk, index0 t, h]

theorem tile_t (t : Fin cfg0.N) (r : Fin 256) (j : Fin 1024) : (tile m c t).t (ix2 r j) = (inputs m c).tgt (ix2 (rowAt t.val r) j) := by
  have h := rowAt_val t r
  show iblk m c 1 t (ix2 r j) = m ((c : Thread nD τ).loc main_arg1) _
  rw [← V_main_arg1 m c]
  blk_ext [iblk, index1 t, h]

theorem tile_sh (t : Fin cfg0.N) (j : Fin 1024) (h : t.val / 8 < 8) :
    (tile m c t).sh (ix4 0 0 0 j) = (inputs m c).m4 (ix4 ⟨t.val / 8, h⟩ 3 0 j) := by
  show iblk m c 2 t (ix4 0 0 0 j) = m ((c : Thread nD τ).loc main_arg2) _
  rw [← V_main_arg2 m c]
  blk_ext [iblk, index2 t]

theorem tile_sc (t : Fin cfg0.N) (j : Fin 1024) (h : t.val / 8 < 8) :
    (tile m c t).sc (ix4 0 0 0 j) = (inputs m c).m4 (ix4 ⟨t.val / 8, h⟩ 4 0 j) := by
  show iblk m c 3 t (ix4 0 0 0 j) = m ((c : Thread nD τ).loc main_arg2) _
  rw [← V_main_arg2 m c]
  blk_ext [iblk, index3 t]

theorem tile_gt (t : Fin cfg0.N) (j : Fin 1024) (h : t.val / 8 < 8) :
    (tile m c t).gt (ix4 0 0 0 j) = (inputs m c).m4 (ix4 ⟨t.val / 8, h⟩ 5 0 j) := by
  show iblk m c 4 t (ix4 0 0 0 j) = m ((c : Thread nD τ).loc main_arg2) _
  rw [← V_main_arg2 m c]
  blk_ext [iblk, index4 t]

theorem tile_b1 (t : Fin cfg0.N) (k : Fin 4096) : (tile m c t).b1 (ix2 0 k) = (inputs m c).b1 (ix2 0 k) := by
  show iblk m c 5 t (ix2 0 k) = m ((c : Thread nD τ).loc main_arg4) _
  rw [← V_main_arg4 m c]
  blk_ext [iblk, index5 t]

theorem tile_b2 (t : Fin cfg0.N) (j : Fin 1024) : (tile m c t).b2 (ix2 0 j) = (inputs m c).b2 (ix2 0 j) := by
  show iblk m c 6 t (ix2 0 j) = m ((c : Thread nD τ).loc main_arg6) _
  rw [← V_main_arg6 m c]
  blk_ext [iblk, index6 t]

theorem tile_g (t : Fin cfg0.N) (j : Fin 1024) : (tile m c t).g (ix2 0 j) = (inputs m c).g (ix2 0 j) := by
  show iblk m c 7 t (ix2 0 j) = m ((c : Thread nD τ).loc main_arg7) _
  rw [← V_main_arg7 m c]
  blk_ext [iblk, index7 t]

theorem tile_b (t : Fin cfg0.N) (j : Fin 1024) : (tile m c t).b (ix2 0 j) = (inputs m c).b (ix2 0 j) := by
  show iblk m c 8 t (ix2 0 j) = m ((c : Thread nD τ).loc main_arg8) _
  rw [← V_main_arg8 m c]
  blk_ext [iblk, index8 t]

/-- The weights the launch was given are the arguments' in a narrower format, which over the extended reals changes nothing. -/
theorem tile_w1 (t : Fin cfg0.N) (j : Fin 1024) (k : Fin 4096) : (tile m c t).w1 (ix2 j k) = (inputs m c).w1 (ix2 j k) := by
  have h : V m c main_v0 = truncf (F := Ideal) .bf16 (inputs m c).w1 bitsLt_bf16_f32 := by
    show StableHlo.after hostOps0 _ (Proc.devRef .tc main_v0) = _
    after_results
    rfl
  show V m c main_v0 (ix2 j k) = _
  rw [h]; rfl

theorem tile_w2 (t : Fin cfg0.N) (k : Fin 4096) (j : Fin 1024) : (tile m c t).w2 (ix2 k j) = (inputs m c).w2 (ix2 k j) := by
  have h : V m c main_v1 = truncf (F := Ideal) .bf16 (inputs m c).w2 bitsLt_bf16_f32 := by
    show StableHlo.after hostOps0 _ (Proc.devRef .tc main_v1) = _
    after_results
    rfl
  show V m c main_v1 (ix2 k j) = _
  rw [h]; rfl

/-- The body reads the argument weights … -/
theorem tile_wts (t : Fin cfg0.N) : (tile m c t).wts = (inputs m c).weights := by
  simp only [Tile.wts, Inputs.weights, tile_w1, tile_w2, tile_b1, tile_b2, tile_g, tile_b]

/-- … and 256 tokens of one batch element. -/
theorem tile_tok (t : Fin cfg0.N) (r : Fin 256) : (tile m c t).tok r = (inputs m c).token (rowAt t.val r) := by
  have hN : t.val < 32 := lt_of_lt_of_eq t.isLt (show cfg0.N = 32 from N_0)
  have hv := rowAt_val t r
  have hr := r.isLt
  have h8 : t.val / 8 < 8 := by omega
  have hb : (⟨(rowAt t.val r).val / 2048, by omega⟩ : Fin 8) = ⟨t.val / 8, h8⟩ := Fin.ext (by show _ / 2048 = _ / 8; omega)
  have hx : row (tile m c t).x r = fun j => (inputs m c).x (ix2 (rowAt t.val r) j) := funext fun j => tile_x m c t r j
  have ht : row (tile m c t).t r = fun j => (inputs m c).tgt (ix2 (rowAt t.val r) j) := funext fun j => tile_t m c t r j
  simp only [Tile.tok, Inputs.token, hx, ht, hb, tile_sh m c t _ h8, tile_sc m c t _ h8, tile_gt m c t _ h8]

end Cert.Step

end
-- ==== Proof.Points.lean ====
/-
  What the accumulators hold after a point: the sums over the tokens of the points up to it, and, of the modulation gradients,
  over the tokens of the points of its batch element up to it.
-/
module

public import proofs.«01_k».proof.Proof.Blocks

@[expose] public section

set_option maxRecDepth 16384

noncomputable section

namespace Cert.Step

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-! ### Sums over points and rows -/

/-- The sum over the 256 tokens of point `t`. -/
def pointSum (f : Fin 8192 → EReal) (t : ℕ) : EReal := ∑ r : Fin 256, f (rowAt t r)

/-- The points and their rows are the tokens. -/
theorem sum_points (f : Fin 8192 → EReal) : ∑ t ∈ Finset.range 32, pointSum f t = ∑ n, f n := by
  rw [Finset.sum_range, ← (finProdFinEquiv (m := 32) (n := 256)).sum_comp f, Fintype.sum_prod_type]
  refine Finset.sum_congr rfl fun t _ => Finset.sum_congr rfl fun r _ => congrArg f (Fin.ext ?_)
  have := t.isLt; have := r.isLt
  show (t.val * 256 + r.val) % 8192 = r.val + 256 * t.val
  omega

/-- The eight points of a batch element and their rows are its tokens. -/
theorem sum_batch (f : Fin 8192 → EReal) (b : Fin 4) :
    ∑ s ∈ Finset.range 8, pointSum f (8 * b.val + s) = ∑ t, f (rowOf b t) := by
  rw [Finset.sum_range, ← (finProdFinEquiv (m := 8) (n := 256)).sum_comp fun t => f (rowOf b t), Fintype.sum_prod_type]
  refine Finset.sum_congr rfl fun s _ => Finset.sum_congr rfl fun r _ => congrArg f (Fin.ext ?_)
  have := s.isLt; have := r.isLt; have := b.isLt
  show ((8 * b.val + s.val) * 256 + r.val) % 8192 = b.val * 2048 + (r.val + 256 * s.val)
  omega

theorem acc_succ (n : ℕ) (h : n + 1 < cfg0.N) : acc m c (n + 1) h
    = (if (n + 1) % 8 = 0 then (acc m c n (Nat.lt_of_succ_lt h)).fresh else acc m c n (Nat.lt_of_succ_lt h)).next
      (tile m c ⟨n + 1, h⟩) := rfl

theorem acc_zero (h : 0 < cfg0.N) : acc m c 0 h = (Acc.zero (F := Ideal)).next (tile m c ⟨0, h⟩) := rfl

/-- An accumulator that starts at zero and adds every point's sum. -/
theorem acc_sum (a : Acc Ideal → EReal) (f : Fin 8192 → EReal) (h0 : a (Acc.zero (F := Ideal)) = 0) (hf : ∀ s : Acc Ideal, a s.fresh = a s)
    (hs : ∀ (s : Acc Ideal) (t : Fin cfg0.N), a (s.next (tile m c t)) = a s + pointSum f t.val) (n : ℕ) (h : n < cfg0.N) :
    a (acc m c n h) = ∑ t ∈ Finset.range (n + 1), pointSum f t := by
  induction n with
  | zero => rw [acc_zero, hs, h0, zero_add, zero_add, Finset.sum_range_one]
  | succ n ih =>
    have e : a (if (n + 1) % 8 = 0 then (acc m c n (Nat.lt_of_succ_lt h)).fresh else acc m c n (Nat.lt_of_succ_lt h))
        = a (acc m c n (Nat.lt_of_succ_lt h)) := by
      split
      · exact hf _
      · rfl
    rw [acc_succ, hs, Finset.sum_range_succ, e, ih]

/-- An accumulator that restarts with every batch element. -/
theorem acc_sum_batch (a : Acc Ideal → EReal) (f : Fin 8192 → EReal) (h0 : a (Acc.zero (F := Ideal)) = 0) (hf : ∀ s : Acc Ideal, a s.fresh = 0)
    (hs : ∀ (s : Acc Ideal) (t : Fin cfg0.N), a (s.next (tile m c t)) = a s + pointSum f t.val) (n : ℕ) (h : n < cfg0.N) :
    a (acc m c n h) = ∑ s ∈ Finset.range (n % 8 + 1), pointSum f (8 * (n / 8) + s) := by
  induction n with
  | zero =>
    rw [acc_zero, hs, h0, zero_add, Nat.zero_mod, Nat.zero_div, zero_add, Finset.sum_range_one]
  | succ n ih =>
    by_cases h8 : (n + 1) % 8 = 0
    · have e : 8 * ((n + 1) / 8) + 0 = n + 1 := by omega
      rw [acc_succ, hs, if_pos h8, hf, h8, zero_add, zero_add, Finset.sum_range_one, e]
    · have e1 : (n + 1) % 8 = n % 8 + 1 := by omega
      have e2 : (n + 1) / 8 = n / 8 := by omega
      have e3 : 8 * (n / 8) + (n % 8 + 1) = n + 1 := by omega
      rw [acc_succ, hs, if_neg h8, ih, e1, e2, Finset.sum_range_succ _ (n % 8 + 1), e3]

/-! ### The accumulators -/

/-- The accumulators start at zero. -/
theorem zero_loss (i : S8x128.Idx) : ((Acc.zero (F := Ideal)).loss i : EReal) = 0 := by
  show (k0_pay3 (F := Ideal) i : EReal) = 0
  pointwise [k0_pay3]
theorem zero_dm (i : S1x3x1024.Idx) : (k0_pay8 (F := Ideal) i : EReal) = 0 := by
  pointwise [k0_pay8]
theorem zero_db1 (i : S1x4096.Idx) : ((Acc.zero (F := Ideal)).db1 i : EReal) = 0 := by
  show (k0_pay4 (F := Ideal) i : EReal) = 0
  pointwise [k0_pay4]
theorem zero_db2 (i : S1x1024.Idx) : ((Acc.zero (F := Ideal)).db2 i : EReal) = 0 := by
  show (k0_pay5 (F := Ideal) i : EReal) = 0
  pointwise [k0_pay5]
theorem zero_dgain (i : S1x1024.Idx) : ((Acc.zero (F := Ideal)).dgain i : EReal) = 0 := by
  show (k0_pay6 (F := Ideal) i : EReal) = 0
  pointwise [k0_pay6]
theorem zero_dbias (i : S1x1024.Idx) : ((Acc.zero (F := Ideal)).dbias i : EReal) = 0 := by
  show (k0_pay7 (F := Ideal) i : EReal) = 0
  pointwise [k0_pay7]

variable (j : Fin 1024) (k : Fin 4096)

/-- The loss after the last point. -/
theorem acc_loss (hr : (inputs m c).Real) (h : 31 < cfg0.N) (p : Fin 8) (q : Fin 128) :
    ((acc m c 31 h).loss (ix2 p q) : EReal) = (inputs m c).loss := by
  refine (acc_sum m c (fun s => s.loss (ix2 p q)) (fun n => cHalfInvLen * sqerr (inputs m c).weights ((inputs m c).token n))
    (zero_loss _) (fun _ => rfl) (fun s t => ?_) 31 h).trans (sum_points _)
  refine ((tile m c t).loss_apply s.loss p q).trans (congrArg (s.loss (ix2 p q) + ·) ?_)
  simp only [tile_wts, tile_tok]
  exact mul_sum_real _ ⟨_, cHalfInvLen_eq⟩ fun r => IsReal.sum _ fun j =>
    (diff_real hr.weights (hr.token _) j).mul (diff_real hr.weights (hr.token _) j)

/-- The gradients of the weights' small arrays after the last point. -/
theorem acc_db1 (h : 31 < cfg0.N) : ((acc m c 31 h).db1 (ix2 0 k) : EReal) = (inputs m c).db1 k := by
  refine (acc_sum m c (fun s => s.db1 (ix2 0 k)) (fun n => dpre (inputs m c).weights ((inputs m c).token n) k)
    (zero_db1 _) (fun _ => rfl) (fun s t => ?_) 31 h).trans (sum_points _)
  refine ((tile m c t).db1_apply k s.db1).trans ?_
  simp only [tile_wts, tile_tok]; rfl

theorem acc_db2 (h : 31 < cfg0.N) : ((acc m c 31 h).db2 (ix2 0 j) : EReal) = (inputs m c).db2 j := by
  refine (acc_sum m c (fun s => s.db2 (ix2 0 j)) (fun n => dmlp (inputs m c).weights ((inputs m c).token n) j)
    (zero_db2 _) (fun _ => rfl) (fun s t => ?_) 31 h).trans (sum_points _)
  refine ((tile m c t).db2_apply j s.db2).trans ?_
  simp only [tile_wts, tile_tok]; rfl

theorem acc_dgain (h : 31 < cfg0.N) : ((acc m c 31 h).dgain (ix2 0 j) : EReal) = (inputs m c).dgain j := by
  refine (acc_sum m c (fun s => s.dgain (ix2 0 j)) (fun n => dgain (inputs m c).weights ((inputs m c).token n) j)
    (zero_dgain _) (fun _ => rfl) (fun s t => ?_) 31 h).trans (sum_points _)
  refine ((tile m c t).dgain_apply j s.dgain).trans ?_
  simp only [tile_wts, tile_tok]; rfl

theorem acc_dbias (h : 31 < cfg0.N) : ((acc m c 31 h).dbias (ix2 0 j) : EReal) = (inputs m c).dbias j := by
  refine (acc_sum m c (fun s => s.dbias (ix2 0 j)) (fun n => dout (inputs m c).weights ((inputs m c).token n) j)
    (zero_dbias _) (fun _ => rfl) (fun s t => ?_) 31 h).trans (sum_points _)
  refine ((tile m c t).dbias_apply j s.dbias).trans ?_
  simp only [tile_wts, tile_tok]; rfl

/-- The gradients of a batch element's modulation rows after its last point. -/
theorem acc_dm (t : Fin cfg0.N) (h7 : t.val % 8 = 7) (b : Fin 4) (hb : b.val = t.val / 8) (i : Fin 3) :
    ((acc m c t.val t.isLt).dm (ix3 0 i j) : EReal) = (inputs m c).dmod b i j := by
  have key : ∀ (i : Fin 3) (f : Fin 8192 → EReal),
      (∀ (s : Acc Ideal) (t : Fin cfg0.N), ((s.next (tile m c t)).dm (ix3 0 i j) : EReal) = s.dm (ix3 0 i j) + pointSum f t.val) →
      ((acc m c t.val t.isLt).dm (ix3 0 i j) : EReal) = ∑ r, f (rowOf b r) := fun i f hs => by
    rw [acc_sum_batch m c (fun s => s.dm (ix3 0 i j)) f (zero_dm (ix3 0 i j)) (fun _ => zero_dm (ix3 0 i j)) hs t.val t.isLt, h7, ← hb]
    exact sum_batch f b
  match i with
  | 0 =>
    refine key 0 (fun n => dhid (inputs m c).weights ((inputs m c).token n) j) fun s t => ?_
    refine ((tile m c t).dshift_apply j (modRow 0 s.dm)).trans ?_
    simp only [tile_wts, tile_tok]; rfl
  | 1 =>
    refine key 1 (fun n => dscale (inputs m c).weights ((inputs m c).token n) j) fun s t => ?_
    refine ((tile m c t).dscale_apply j (modRow 1 s.dm)).trans ?_
    simp only [tile_wts, tile_tok]; rfl
  | 2 =>
    refine key 2 (fun n => dgate (inputs m c).weights ((inputs m c).token n) j) fun s t => ?_
    refine ((tile m c t).dgate_apply j (modRow 2 s.dm)).trans ?_
    simp only [tile_wts, tile_tok]; rfl

end Cert.Step

end
-- ==== Proof.Results.lean ====
/-
  The eleven result arrays after the kernel's run, element by element.
-/
module

public import proofs.«01_k».proof.Proof.Points
public import proofs.«01_k».proof.Proof.Region

@[expose] public section

set_option maxRecDepth 16384

noncomputable section

namespace Cert.Step

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

theorem last_lt : 31 < cfg0.N := by rw [show cfg0.N = 32 from N_0]; decide

/-- The last point. -/
abbrev lastPoint : Fin cfg0.N := ⟨31, last_lt⟩

theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![t.val, 0] := (by decide +kernel : ∀ t : Fin grid0.N, _)
theorem index15 : ∀ t : Fin cfg0.N, win0_15.index t = ![t.val / 8, 0, 0] := (by decide +kernel : ∀ t : Fin grid0.N, _)

/-! ### The arrays of which each point writes its own rows -/

theorem result_dx : (dats m 0 c).arrAt 10 cfg0.N
    = fun i : S8192x1024.Idx => dx (inputs m c).weights ((inputs m c).token (i 0)) (i 1) := by
  refine (dats m 0 c).arrAt_eq_of_covers 10 _ (by decide +kernel) fun t hf y => ?_
  blk_simp
  rw [after_dx]
  obtain ⟨r, j, rfl⟩ : ∃ (r : Fin 256) (j : Fin 1024), y = ix2 r j := ⟨y 0, y 1, eq_ix2 y⟩
  have he : (win0_10.blk t).view.emb (ix2 r j) = ix2 (rowAt t.val r) j := by blk_ext [index10 t, rowAt_val t r]
  rw [he]
  refine ((tile m c t).vDx_apply r j).trans ?_
  rw [tile_wts, tile_tok]; rfl

theorem result_h2 : (dats m 0 c).arrAt 11 cfg0.N
    = fun i : S8192x1024.Idx => hid ((inputs m c).token (i 0)) (i 1) := by
  refine (dats m 0 c).arrAt_eq_of_covers 11 _ (by decide +kernel) fun t hf y => ?_
  blk_simp
  rw [after_h2]
  obtain ⟨r, j, rfl⟩ : ∃ (r : Fin 256) (j : Fin 1024), y = ix2 r j := ⟨y 0, y 1, eq_ix2 y⟩
  have he : (win0_11.blk t).view.emb (ix2 r j) = ix2 (rowAt t.val r) j := by blk_ext [index11 t, rowAt_val t r]
  rw [he]
  refine ((tile m c t).vHid_apply r j).trans ?_
  rw [tile_tok]; rfl

theorem result_da1 : (dats m 0 c).arrAt 12 cfg0.N
    = fun i : S8192x4096.Idx => dpre (inputs m c).weights ((inputs m c).token (i 0)) (i 1) := by
  refine (dats m 0 c).arrAt_eq_of_covers 12 _ (by decide +kernel) fun t hf y => ?_
  blk_simp
  rw [after_da1]
  obtain ⟨r, j, rfl⟩ : ∃ (r : Fin 256) (j : Fin 4096), y = ix2 r j := ⟨y 0, y 1, eq_ix2 y⟩
  have he : (win0_12.blk t).view.emb (ix2 r j) = ix2 (rowAt t.val r) j := by blk_ext [index12 t, rowAt_val t r]
  rw [he]
  refine ((tile m c t).vDpre_apply r j).trans ?_
  rw [tile_wts, tile_tok]; rfl

theorem result_r2 : (dats m 0 c).arrAt 13 cfg0.N
    = fun i : S8192x4096.Idx => sq (inputs m c).weights ((inputs m c).token (i 0)) (i 1) := by
  refine (dats m 0 c).arrAt_eq_of_covers 13 _ (by decide +kernel) fun t hf y => ?_
  blk_simp
  rw [after_r2]
  obtain ⟨r, j, rfl⟩ : ∃ (r : Fin 256) (j : Fin 4096), y = ix2 r j := ⟨y 0, y 1, eq_ix2 y⟩
  have he : (win0_13.blk t).view.emb (ix2 r j) = ix2 (rowAt t.val r) j := by blk_ext [index13 t, rowAt_val t r]
  rw [he]
  refine ((tile m c t).vSq_apply r j).trans ?_
  rw [tile_wts, tile_tok]; rfl

theorem result_dmlp : (dats m 0 c).arrAt 14 cfg0.N
    = fun i : S8192x1024.Idx => dmlp (inputs m c).weights ((inputs m c).token (i 0)) (i 1) := by
  refine (dats m 0 c).arrAt_eq_of_covers 14 _ (by decide +kernel) fun t hf y => ?_
  blk_simp
  rw [after_dmlp]
  obtain ⟨r, j, rfl⟩ : ∃ (r : Fin 256) (j : Fin 1024), y = ix2 r j := ⟨y 0, y 1, eq_ix2 y⟩
  have he : (win0_14.blk t).view.emb (ix2 r j) = ix2 (rowAt t.val r) j := by blk_ext [index14 t, rowAt_val t r]
  rw [he]
  refine ((tile m c t).vDmlp_apply r j).trans ?_
  rw [tile_wts, tile_tok]; rfl

/-- Each batch element's last point writes its block of the modulation gradients. -/
theorem result_dm : (dats m 0 c).arrAt 15 cfg0.N = fun i : S4x3x1024.Idx => (inputs m c).dmod (i 0) (i 1) (i 2) := by
  refine (dats m 0 c).arrAt_eq_of_covers 15 _ (by decide +kernel) fun t hf y => ?_
  have hN : t.val < 32 := lt_of_lt_of_eq t.isLt (show cfg0.N = 32 from N_0)
  have h7 := (flush0_15 t).mp hf
  blk_simp
  rw [after_dm]
  obtain ⟨a, i, j, rfl⟩ : ∃ (a : Fin 1) (i : Fin 3) (j : Fin 1024), y = ix3 a i j := ⟨y 0, y 1, y 2, eq_ix3 y⟩
  obtain rfl : a = 0 := Subsingleton.elim _ _
  have he : (win0_15.blk t).view.emb (ix3 0 i j) = ix3 (⟨t.val / 8, by omega⟩ : Fin 4) i j := by blk_ext [index15 t]
  rw [he]
  exact acc_dm m c j t h7 ⟨t.val / 8, by omega⟩ rfl i

/-! ### The arrays the last point writes whole -/

theorem result_loss (hr : (inputs m c).Real) : (dats m 0 c).arrAt 9 cfg0.N = fun _ : S8x128.Idx => (inputs m c).loss := by
  refine (dats m 0 c).arrAt_eq_of_after_last 9 lastPoint (by decide +kernel) _ fun i => ?_
  blk_simp
  rw [after_loss]
  exact (congrArg (acc m c 31 last_lt).loss (eq_ix2 _)).trans (acc_loss m c hr last_lt _ _)

theorem result_db1 : (dats m 0 c).arrAt 16 cfg0.N = fun i : S1x4096.Idx => (inputs m c).db1 (i 1) := by
  refine (dats m 0 c).arrAt_eq_of_after_last 16 lastPoint (by decide +kernel) _ fun i => ?_
  blk_simp
  rw [after_db1]
  obtain ⟨a, j, rfl⟩ : ∃ (a : Fin 1) (j : Fin 4096), i = ix2 a j := ⟨i 0, i 1, eq_ix2 i⟩
  obtain rfl : a = 0 := Subsingleton.elim _ _
  exact acc_db1 m c j last_lt

theorem result_db2 : (dats m 0 c).arrAt 17 cfg0.N = fun i : S1x1024.Idx => (inputs m c).db2 (i 1) := by
  refine (dats m 0 c).arrAt_eq_of_after_last 17 lastPoint (by decide +kernel) _ fun i => ?_
  blk_simp
  rw [after_db2]
  obtain ⟨a, j, rfl⟩ : ∃ (a : Fin 1) (j : Fin 1024), i = ix2 a j := ⟨i 0, i 1, eq_ix2 i⟩
  obtain rfl : a = 0 := Subsingleton.elim _ _
  exact acc_db2 m c j last_lt

theorem result_dgain : (dats m 0 c).arrAt 18 cfg0.N = fun i : S1x1024.Idx => (inputs m c).dgain (i 1) := by
  refine (dats m 0 c).arrAt_eq_of_after_last 18 lastPoint (by decide +kernel) _ fun i => ?_
  blk_simp
  rw [after_dgain]
  obtain ⟨a, j, rfl⟩ : ∃ (a : Fin 1) (j : Fin 1024), i = ix2 a j := ⟨i 0, i 1, eq_ix2 i⟩
  obtain rfl : a = 0 := Subsingleton.elim _ _
  exact acc_dgain m c j last_lt

theorem result_dbias : (dats m 0 c).arrAt 19 cfg0.N = fun i : S1x1024.Idx => (inputs m c).dbias (i 1) := by
  refine (dats m 0 c).arrAt_eq_of_after_last 19 lastPoint (by decide +kernel) _ fun i => ?_
  blk_simp
  rw [after_dbias]
  obtain ⟨a, j, rfl⟩ : ∃ (a : Fin 1) (j : Fin 1024), i = ix2 a j := ⟨i 0, i 1, eq_ix2 i⟩
  obtain rfl : a = 0 := Subsingleton.elim _ _
  exact acc_dbias m c j last_lt

end Cert.Step

end
-- ==== Proof.Reference.lean ====
/-
  The reference's arithmetic read at an element: each stage of its program, at batch element `b`, token `t` and a column, is
  the row functions of `Rows.lean` of that token, and each result is the sum of them the definitions in `Inputs.lean` name.
  The stages after the first normalisation's derivative use that the arguments are real numbers: the reference's text
  subtracts each mean twice.
-/
module

public import proofs.«01_k».proof.Proof.Inputs
public import proofs.«01_k».proof.Proof.Gen.ReferenceIdeal.Read

@[expose] public section

set_option maxRecDepth 16384

noncomputable section

namespace Cert.Step.Ref

open Idealize.ShloMosaic Idealize.ShloMosaic.TcCoe Cert.ReferenceIdeal Cert.ReferenceIdeal.Read

variable (I : Inputs) (b : Fin 4) (t : Fin 2048) (j : Fin 1024) (k : Fin 4096)

/-- A sum over the two leading axes, read at a column. -/
theorem hostReduceAdd_r3_a01 {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ x : Fin n0, ∑ y : Fin n1, v (ix3 x y j) := by
  rw [← Fintype.sum_prod_type' (f := fun x y => v (ix3 x y j))]
  refine congrArg (init + ·) (Finset.sum_filter_eq_sum_of_fiber _ (fun p : Fin n0 × Fin n1 => ix3 p.1 p.2 j)
    (fun _ _ e => Prod.ext (congrFun e 0) (congrFun e 1)) (fun i => ⟨fun e => ⟨(i 0, i 1), ?_⟩, ?_⟩) v)
  · funext a
    match a with
    | ⟨0, _⟩ => rfl
    | ⟨1, _⟩ => rfl
    | ⟨2, _⟩ => exact Fin.ext (congrArg Fin.val (congrFun e 0)).symm
  · rintro ⟨p, rfl⟩
    funext a
    match a with
    | ⟨0, _⟩ => rfl

/-- The token. -/
abbrev tok (I : Inputs) (b : Fin 4) (t : Fin 2048) : Token := I.token (rowOf b t)

theorem cen1 : (val_main_v15 (F := Ideal) I.x (ix3 b t j) : EReal) = cen (tok I b t).x j := by
  pointwise [val_main_v15, val_main_v0, val_main_v14, val_main_v13, val_main_v11, val_main_v10, val_main_cst_1,
    val_main_v12, val_main_cst_2]
  rfl

theorem cen1' : (val_main_v24 (F := Ideal) I.x (ix3 b t j) : EReal) = cen (tok I b t).x j := by
  pointwise [val_main_v24, val_main_v0, val_main_v23, val_main_v13, val_main_v11, val_main_v10, val_main_cst_1,
    val_main_v12, val_main_cst_2]
  rfl

theorem var1 : (val_main_v26 (F := Ideal) I.x (ix3 b t 0) : EReal) = vareps (tok I b t).x := by
  pointwise [val_main_v26, val_main_v22, val_main_v20, val_main_v19, val_main_v16, val_main_cst_4, val_main_v21,
    val_main_cst_5, val_main_v25, val_main_cst_6]
  simp only [cen1]; rfl

theorem rstd1 : (val_main_v27 (F := Ideal) I.x (ix3 b t 0) : EReal) = rstd (tok I b t).x := by
  pointwise [val_main_v27]
  rw [var1]; rfl

theorem drstd1 : (val_main_v30 (F := Ideal) I.x (ix3 b t 0) : EReal) = drstd (tok I b t).x := by
  pointwise [val_main_v30, val_main_v29, val_main_cst_7, val_main_v28]
  rw [rstd1, var1]; rfl

theorem norm1 : (val_main_v32 (F := Ideal) I.x (ix3 b t j) : EReal) = norm (tok I b t).x j := by
  pointwise [val_main_v32, val_main_v31]
  rw [rstd1, cen1']; rfl

theorem scale1 : (val_main_v34 (F := Ideal) I.m4 (ix3 b 0 j) : EReal) = 1 + (tok I b t).scale j := by
  pointwise [val_main_v34, val_main_v33, val_main_cst_8, val_main_v4, val_main_v3]
  rw [tok, I.token_row]

theorem hid1 : (val_main_v38 (F := Ideal) I.x I.m4 (ix3 b t j) : EReal) = hid (tok I b t) j := by
  pointwise [val_main_v38, val_main_v36, val_main_v35, val_main_v37, val_main_v2, val_main_v1]
  rw [norm1, scale1 I b t]; simp only [hid, tok, I.token_row]

theorem pre1 : (val_main_v43 (F := Ideal) I.x I.m4 I.w1 I.b1 (ix3 b t k) : EReal) = pre I.weights (tok I b t) k := by
  pointwise [val_main_v43, val_main_v42, val_main_v39, val_main_v41, val_main_v40, val_main_v7, val_main_cst]
  simp only [hid1, add_zero]; rfl

theorem act1 : (val_main_v44 (F := Ideal) I.x I.m4 I.w1 I.b1 (ix3 b t k) : EReal) = act I.weights (tok I b t) k := by
  pointwise [val_main_v44, val_main_call0_v0, val_main_call0_cst]
  rw [pre1]; rfl

theorem sq1 : (val_main_v48 (F := Ideal) I.x I.m4 I.w1 I.b1 (ix3 b t k) : EReal) = sq I.weights (tok I b t) k := by
  pointwise [val_main_v48]
  rw [act1]; rfl

theorem mlp1 : (val_main_v57 (F := Ideal) I.x I.m4 I.w1 I.b1 I.w2 I.b2 (ix3 b t j) : EReal) = mlp I.weights (tok I b t) j := by
  pointwise [val_main_v57, val_main_v56, val_main_v53, val_main_v55, val_main_v54, val_main_v8, val_main_cst_0]
  simp only [sq1, add_zero]; rfl

theorem res1 : (val_main_v60 (F := Ideal) I.x I.m4 I.w1 I.b1 I.w2 I.b2 (ix3 b t j) : EReal) = res I.weights (tok I b t) j := by
  pointwise [val_main_v60, val_main_v52, val_main_v51, val_main_cst_12, val_main_v0, val_main_v59, val_main_v58,
    val_main_v6, val_main_v5]
  rw [mlp1]; simp only [res, tok, I.token_row]

theorem cen2 : (val_main_v66 (F := Ideal) I.x I.m4 I.w1 I.b1 I.w2 I.b2 (ix3 b t j) : EReal) = cen (res I.weights (tok I b t)) j := by
  pointwise [val_main_v66, val_main_v65, val_main_v64, val_main_v62, val_main_v61, val_main_cst_13, val_main_v63,
    val_main_cst_14]
  simp only [res1]; rfl

theorem cen2' : (val_main_v75 (F := Ideal) I.x I.m4 I.w1 I.b1 I.w2 I.b2 (ix3 b t j) : EReal) = cen (res I.weights (tok I b t)) j := by
  pointwise [val_main_v75, val_main_v74, val_main_v64, val_main_v62, val_main_v61, val_main_cst_13, val_main_v63,
    val_main_cst_14]
  simp only [res1]; rfl

theorem var2 : (val_main_v77 (F := Ideal) I.x I.m4 I.w1 I.b1 I.w2 I.b2 (ix3 b t 0) : EReal) = vareps (res I.weights (tok I b t)) := by
  pointwise [val_main_v77, val_main_v73, val_main_v71, val_main_v70, val_main_v67, val_main_cst_16, val_main_v72,
    val_main_cst_17, val_main_v76, val_main_cst_18]
  simp only [cen2]; rfl

theorem rstd2 : (val_main_v78 (F := Ideal) I.x I.m4 I.w1 I.b1 I.w2 I.b2 (ix3 b t 0) : EReal) = rstd (res I.weights (tok I b t)) := by
  pointwise [val_main_v78]
  rw [var2]; rfl

theorem drstd2 : (val_main_v81 (F := Ideal) I.x I.m4 I.w1 I.b1 I.w2 I.b2 (ix3 b t 0) : EReal) = drstd (res I.weights (tok I b t)) := by
  pointwise [val_main_v81, val_main_v80, val_main_cst_19, val_main_v79]
  rw [rstd2, var2]; rfl

theorem norm2 : (val_main_v83 (F := Ideal) I.x I.m4 I.w1 I.b1 I.w2 I.b2 (ix3 b t j) : EReal) = norm (res I.weights (tok I b t)) j := by
  pointwise [val_main_v83, val_main_v82]
  rw [rstd2, cen2']; rfl

theorem diff1 : (val_main_v90 (F := Ideal) I.x I.tgt I.m4 I.w1 I.b1 I.w2 I.b2 I.g I.b (ix3 b t j) : EReal) = diff I.weights (tok I b t) j := by
  pointwise [val_main_v90, val_main_v89, val_main_v86, val_main_v85, val_main_v84, val_main_v88, val_main_v87, val_main_v9]
  rw [norm2]; rfl

theorem twodiff : (val_main_v93 (F := Ideal) I.x I.tgt I.m4 I.w1 I.b1 I.w2 I.b2 I.g I.b (ix3 b t j) : EReal) = cTwo * diff I.weights (tok I b t) j := by
  pointwise [val_main_v93, val_main_v92, val_main_cst_20]
  rw [diff1]

theorem dout1 : (val_main_v104 (F := Ideal) I.x I.tgt I.m4 I.w1 I.b1 I.w2 I.b2 I.g I.b (ix3 b t j) : EReal) = dout I.weights (tok I b t) j := by
  pointwise [val_main_v104, val_main_v103, val_main_v102, val_main_v100, val_main_v99, val_main_cst_25, val_main_cst_26,
    val_main_v101, val_main_cst_27]
  rw [twodiff]; rw [← mul_one (Ideal.ofBits FTy.f32 1056964608#32)]; exact dout_eq _

theorem doutg : (val_main_v113 (F := Ideal) I.x I.tgt I.m4 I.w1 I.b1 I.w2 I.b2 I.g I.b (ix3 b t j) : EReal) = dout I.weights (tok I b t) j * I.weights.gain j := by
  pointwise [val_main_v113, val_main_v112, val_main_v84]
  rw [dout1]; rfl

theorem dvar2 : (val_main_v126 (F := Ideal) I.x I.tgt I.m4 I.w1 I.b1 I.w2 I.b2 I.g I.b (ix3 b t 0) : EReal) = dvar (res I.weights (tok I b t)) (fun j => dout I.weights (tok I b t) j * I.weights.gain j) := by
  pointwise [val_main_v126, val_main_v121, val_main_v118, val_main_v117, val_main_v116, val_main_cst_32, val_main_v125,
    val_main_cst_34]
  simp only [doutg, cen2', drstd2]; rfl

theorem dres1 (h : I.Real) : (val_main_v139 (F := Ideal) I.x I.tgt I.m4 I.w1 I.b1 I.w2 I.b2 I.g I.b (ix3 b t j) : EReal) = dres I.weights (tok I b t) j := by
  pointwise [val_main_v139, val_main_v133, val_main_v120, val_main_v119, val_main_v129, val_main_v128, val_main_v127,
    val_main_cst_35, val_main_v69, val_main_v68, val_main_cst_15, val_main_v138, val_main_v137, val_main_v136,
    val_main_v134, val_main_v124, val_main_v123, val_main_v122, val_main_cst_33, val_main_v132, val_main_v131,
    val_main_v130, val_main_cst_36, val_main_v135, val_main_cst_37, val_main_cst_38]
  simp only [doutg, rstd2, dvar2, cen2, Fin.sum_univ_one, Fin.isValue]
  exact congrFun (lnBwdTwice_eq (res_real h.weights (h.token _)) (dout_gain_real h.weights (h.token _))) j

theorem dmlp1 (h : I.Real) : (val_main_v141 (F := Ideal) I.x I.tgt I.m4 I.w1 I.b1 I.w2 I.b2 I.g I.b (ix3 b t j) : EReal) = dmlp I.weights (tok I b t) j := by
  pointwise [val_main_v141, val_main_v140, val_main_v6, val_main_v5]
  rw [dres1 I b t _ h]; simp only [dmlp, tok, I.token_row]

theorem dpre1 (h : I.Real) : (val_main_v154 (F := Ideal) I.x I.tgt I.m4 I.w1 I.b1 I.w2 I.b2 I.g I.b (ix3 b t k) : EReal) = dpre I.weights (tok I b t) k := by
  pointwise [val_main_v154, val_main_v46, val_main_v45, val_main_cst_9, val_main_v152, val_main_v149, val_main_v50,
    val_main_v49, val_main_cst_11, val_main_v153, val_main_cst_43]
  simp only [dmlp1 I b t _ h, act1, pre1]
  exact relu_select _ _

theorem dhid1 (h : I.Real) : (val_main_v159 (F := Ideal) I.x I.tgt I.m4 I.w1 I.b1 I.w2 I.b2 I.g I.b (ix3 b t j) : EReal) = dhid I.weights (tok I b t) j := by
  pointwise [val_main_v159]
  simp only [dpre1 I b t _ h]; rfl

theorem dhidsc (h : I.Real) : (val_main_v166 (F := Ideal) I.x I.tgt I.m4 I.w1 I.b1 I.w2 I.b2 I.g I.b (ix3 b t j) : EReal) = dhid I.weights (tok I b t) j * (1 + (tok I b t).scale j) := by
  pointwise [val_main_v166, val_main_v165]
  rw [dhid1 I b t _ h, scale1 I b t]

theorem dvar1 (h : I.Real) : (val_main_v178 (F := Ideal) I.x I.tgt I.m4 I.w1 I.b1 I.w2 I.b2 I.g I.b (ix3 b t 0) : EReal) = dvar (tok I b t).x (fun j => dhid I.weights (tok I b t) j * (1 + (tok I b t).scale j)) := by
  pointwise [val_main_v178, val_main_v172, val_main_v169, val_main_v168, val_main_v167, val_main_cst_48, val_main_v177,
    val_main_cst_50]
  simp only [dhidsc I b t _ h, cen1', drstd1]; rfl

theorem dx1 (h : I.Real) : (val_main_v191 (F := Ideal) I.x I.tgt I.m4 I.w1 I.b1 I.w2 I.b2 I.g I.b (ix3 b t j) : EReal) = dx I.weights (tok I b t) j := by
  pointwise [val_main_v191, val_main_v185, val_main_v176, val_main_v151, val_main_v150, val_main_cst_42, val_main_v171,
    val_main_v170, val_main_v181, val_main_v180, val_main_v179, val_main_cst_51, val_main_v18, val_main_v17,
    val_main_cst_3, val_main_v190, val_main_v189, val_main_v188, val_main_v186, val_main_v175, val_main_v174,
    val_main_v173, val_main_cst_49, val_main_v184, val_main_v183, val_main_v182, val_main_cst_52, val_main_v187,
    val_main_cst_53, val_main_cst_54]
  simp only [dres1 I b t _ h, dhidsc I b t _ h, rstd1, dvar1 I b t h, cen1, Fin.sum_univ_one, Fin.isValue]
  rw [dx, ← lnBwdTwice_eq (h.token _).x (dhid_scale_real h.weights (h.token _)), lnBwdTwice, ← add_assoc, ← add_assoc]

/-! ### The results -/

theorem loss1 (h : I.Real) (i : S8x128.Idx) : (val_main_v192 (F := Ideal) I.x I.tgt I.m4 I.w1 I.b1 I.w2 I.b2 I.g I.b i : EReal) = I.loss := by
  pointwise [val_main_v192, val_main_v98, val_main_cst_24, val_main_v97, val_main_v96, val_main_v94, val_main_v91,
    val_main_cst_21, val_main_v95, val_main_cst_22, val_main_cst_23]
  simp only [diff1]
  rw [← Fintype.sum_prod_type' (f := fun b t => Ideal.div (∑ j, diff I.weights (tok I b t) j * diff I.weights (tok I b t) j) cLen)]
  refine (?_ : cHalf * ∑ p : Fin 4 × Fin 2048, Ideal.div (sqerr I.weights (tok I p.1 p.2)) cLen = _)
  rw [loss_eq (f := fun p : Fin 4 × Fin 2048 => sqerr I.weights (tok I p.1 p.2)) fun p => IsReal.sum _ fun j =>
    (diff_real h.weights (h.token _) j).mul (diff_real h.weights (h.token _) j)]
  exact rowEquiv.sum_comp fun n => cHalfInvLen * sqerr I.weights (I.token n)

theorem dbias1 : (val_main_v108 (F := Ideal) I.x I.tgt I.m4 I.w1 I.b1 I.w2 I.b2 I.g I.b (ix2 0 j) : EReal) = I.dbias j := by
  pointwise [hostReduceAdd_r3_a01, val_main_v108, val_main_v107, val_main_v106, val_main_v105, val_main_cst_28,
    val_main_cst_29]
  simp only [dout1, Fin.sum_univ_one, Fin.isValue, zero_add]
  exact sum_rows fun n => dout I.weights (I.token n) j

theorem dgain1 : (val_main_v115 (F := Ideal) I.x I.tgt I.m4 I.w1 I.b1 I.w2 I.b2 I.g I.b (ix2 0 j) : EReal) = I.dgain j := by
  pointwise [hostReduceAdd_r3_a01, val_main_v115, val_main_v114, val_main_v111, val_main_v110, val_main_v109,
    val_main_cst_30, val_main_cst_31]
  simp only [dout1, norm2, Fin.sum_univ_one, Fin.isValue, zero_add]
  exact sum_rows fun n => Step.dgain I.weights (I.token n) j

theorem db21 (h : I.Real) : (val_main_v148 (F := Ideal) I.x I.tgt I.m4 I.w1 I.b1 I.w2 I.b2 I.g I.b (ix2 0 j) : EReal) = I.db2 j := by
  pointwise [hostReduceAdd_r3_a01, val_main_v148, val_main_v147, val_main_v146, val_main_v145, val_main_cst_40,
    val_main_cst_41]
  simp only [dmlp1 I _ _ _ h, Fin.sum_univ_one, Fin.isValue, zero_add]
  exact sum_rows fun n => dmlp I.weights (I.token n) j

theorem db11 (h : I.Real) : (val_main_v158 (F := Ideal) I.x I.tgt I.m4 I.w1 I.b1 I.w2 I.b2 I.g I.b (ix2 0 k) : EReal) = I.db1 k := by
  pointwise [hostReduceAdd_r3_a01, val_main_v158, val_main_v157, val_main_v156, val_main_v155, val_main_cst_44,
    val_main_cst_45]
  simp only [dpre1 I _ _ _ h, Fin.sum_univ_one, Fin.isValue, zero_add]
  exact sum_rows fun n => dpre I.weights (I.token n) k

theorem dgate1 (h : I.Real) : (val_main_v144 (F := Ideal) I.x I.tgt I.m4 I.w1 I.b1 I.w2 I.b2 I.g I.b (ix3 b 0 j) : EReal) = I.dmod b 2 j := by
  pointwise [val_main_v144, val_main_v143, val_main_v142, val_main_cst_39]
  simp only [dres1 I _ _ _ h, mlp1]; rfl

theorem dshift1 (h : I.Real) : (val_main_v161 (F := Ideal) I.x I.tgt I.m4 I.w1 I.b1 I.w2 I.b2 I.g I.b (ix3 b 0 j) : EReal) = I.dmod b 0 j := by
  pointwise [val_main_v161, val_main_v160, val_main_cst_46]
  simp only [dhid1 I _ _ _ h]; rfl

theorem dscale1 (h : I.Real) : (val_main_v164 (F := Ideal) I.x I.tgt I.m4 I.w1 I.b1 I.w2 I.b2 I.g I.b (ix3 b 0 j) : EReal) = I.dmod b 1 j := by
  pointwise [val_main_v164, val_main_v163, val_main_v162, val_main_cst_47]
  simp only [dhid1 I _ _ _ h, norm1]; rfl

theorem dmod1 (h : I.Real) (i : Fin 3) : (val_main_v202 (F := Ideal) I.x I.tgt I.m4 I.w1 I.b1 I.w2 I.b2 I.g I.b (ix3 b i j) : EReal) = I.dmod b i j := by
  pointwise [val_main_v202]
  match i with
  | 0 => exact dshift1 I b j h
  | 1 => exact dscale1 I b j h
  | 2 => exact dgate1 I b j h

theorem dx_row (h : I.Real) (n : Fin 8192) : (val_main_v193 (F := Ideal) I.x I.tgt I.m4 I.w1 I.b1 I.w2 I.b2 I.g I.b (ix2 n j) : EReal) = dx I.weights (I.token n) j := by
  pointwise [val_main_v193]
  have e : rowOf ⟨n.val / 2048, by omega⟩ ⟨n.val % 2048, by omega⟩ = n := rowEquiv.right_inv n
  rw [dx1 I _ _ _ h, tok, e]

theorem hid_row (n : Fin 8192) : (val_main_v195 (F := Ideal) I.x I.m4 (ix2 n j) : EReal) = hid (I.token n) j := by
  pointwise [val_main_v195, val_main_v194]
  have e : rowOf ⟨n.val / 2048, by omega⟩ ⟨n.val % 2048, by omega⟩ = n := rowEquiv.right_inv n
  rw [hid1, tok, e]

theorem dpre_row (h : I.Real) (n : Fin 8192) : (val_main_v197 (F := Ideal) I.x I.tgt I.m4 I.w1 I.b1 I.w2 I.b2 I.g I.b (ix2 n k) : EReal) = dpre I.weights (I.token n) k := by
  pointwise [val_main_v197, val_main_v196]
  have e : rowOf ⟨n.val / 2048, by omega⟩ ⟨n.val % 2048, by omega⟩ = n := rowEquiv.right_inv n
  rw [dpre1 I _ _ _ h, tok, e]

theorem sq_row (n : Fin 8192) : (val_main_v199 (F := Ideal) I.x I.m4 I.w1 I.b1 (ix2 n k) : EReal) = sq I.weights (I.token n) k := by
  pointwise [val_main_v199, val_main_v198]
  have e : rowOf ⟨n.val / 2048, by omega⟩ ⟨n.val % 2048, by omega⟩ = n := rowEquiv.right_inv n
  rw [sq1, tok, e]

theorem dmlp_row (h : I.Real) (n : Fin 8192) : (val_main_v201 (F := Ideal) I.x I.tgt I.m4 I.w1 I.b1 I.w2 I.b2 I.g I.b (ix2 n j) : EReal) = dmlp I.weights (I.token n) j := by
  pointwise [val_main_v201, val_main_v200]
  have e : rowOf ⟨n.val / 2048, by omega⟩ ⟨n.val % 2048, by omega⟩ = n := rowEquiv.right_inv n
  rw [dmlp1 I _ _ _ h, tok, e]

end Cert.Step.Ref

end
-- ==== Proof.Pre.lean ====
/-
  The precondition, read: every element of every argument is a real number.
-/
module

public import proofs.«01_k».proof.Defs
public import proofs.«01_k».proof.Proof.Blocks
public import Idealize.ShloMosaic.Lib.ReduceAll

@[expose] public section

set_option maxRecDepth 16384

noncomputable section

namespace Cert.Step

open Idealize.ShloMosaic Idealize.ShloMosaic.TcCoe Cert.KernelIdeal

theorem preFacts : Cert.Pre_finite.Facts := by
  constructor <;> decide

/-- A magnitude below infinity is a real number's. -/
theorem isReal_of_abs_lt {S : Shape} (hb : Cert.Pre_finite.S_.BroadcastsInDim S (![] : Fin 0 → Fin S.rank)) (x : FVec Ideal S .f32) (i : S.Idx)
    (h : cmpf .olt (Host.absf x) (broadcastInDim S ![] hb (constant (F := Ideal) Cert.Pre_finite.S_ .f32 0x7F800000#32)) i = 1#1) :
    IsReal (x i) := by
  revert h
  pointwise [cmpf, Host.absf]
  intro h
  have htop : Ideal.ofBits .f32 0x7F800000#32 = ⊤ := by simp [Ideal.ofBits, Ideal.ieee]
  rw [htop] at h
  have h' : max (x i : EReal) (-(x i)) < ⊤ := by
    by_contra hn
    have h2 : BitVec.ofBool (decide (max (x i : EReal) (-(x i)) < ⊤)) = 1#1 := h
    rw [decide_eq_false hn] at h2
    exact absurd h2 (by decide)
  generalize (x i : EReal) = a at h'
  induction a using EReal.rec with
  | bot => simp at h'
  | top => simp at h'
  | coe r => exact ⟨r, rfl⟩

instance : Subsingleton Cert.Pre_finite.S_.Idx := ⟨fun a b => funext fun d => d.elim0⟩

/-- The precondition's conjunct of one argument. -/
theorem real_of_all {S : Shape} {ds : List (Fin S.rank)} (hb : Cert.Pre_finite.S_.BroadcastsInDim S (![] : Fin 0 → Fin S.rank))
    (hr : S.ReducesTo ds Cert.Pre_finite.S_) (hu : 0 < Cert.Pre_finite.S_.numel) (x : FVec Ideal S .f32) (j : Cert.Pre_finite.S_.Idx)
    (h : Host.reduce IntOp.andi (cmpf .olt (Host.absf x) (broadcastInDim S ![] hb (constant (F := Ideal) Cert.Pre_finite.S_ .f32 0x7F800000#32)))
      (constantI Cert.Pre_finite.S_ 1 1#1) hr hu j = 1#1) (i : S.Idx) : IsReal (x i) :=
  isReal_of_abs_lt hb x i (Host.reduce_andi_all _ _ hr hu j h i)

theorem inputs_real (m : (ℓ : Loc nD τ sig) → Buf (Elt Ideal) ℓ) (c : Dev nD)
    (h : Cert.Pre_KernelIdeal_finite (hPre_finite := preFacts) m) : (inputs m c).Real := by
  have h0 := congrFun (h c) (fun d => d.elim0)
  clear h
  obtain ⟨h1, r8⟩ := IntOp.andi_eq_one.mp h0
  clear h0
  obtain ⟨h2, r7⟩ := IntOp.andi_eq_one.mp h1
  clear h1
  obtain ⟨h3, r6⟩ := IntOp.andi_eq_one.mp h2
  clear h2
  obtain ⟨h4, r5⟩ := IntOp.andi_eq_one.mp h3
  clear h3
  obtain ⟨h5, r4⟩ := IntOp.andi_eq_one.mp h4
  clear h4
  obtain ⟨h6, r3⟩ := IntOp.andi_eq_one.mp h5
  clear h5
  obtain ⟨h7, r2⟩ := IntOp.andi_eq_one.mp h6
  clear h6
  obtain ⟨h8, r1⟩ := IntOp.andi_eq_one.mp h7
  clear h7
  have a0 := fun i => real_of_all preFacts.bcast_S_S8192x1024 preFacts.reducesTo_S8192x1024_S_d0_1 preFacts.h_S_ _ _ h8 i
  clear h8
  have a1 := fun i => real_of_all preFacts.bcast_S_S8192x1024 preFacts.reducesTo_S8192x1024_S_d0_1 preFacts.h_S_ _ _ r1 i
  clear r1
  have a2 := fun i => real_of_all preFacts.bcast_S_S8x6x1x1024 preFacts.reducesTo_S8x6x1x1024_S_d0_1_2_3 preFacts.h_S_ _ _ r2 i
  clear r2
  have a3 := fun i => real_of_all preFacts.bcast_S_S1024x4096 preFacts.reducesTo_S1024x4096_S_d0_1 preFacts.h_S_ _ _ r3 i
  clear r3
  have a4 := fun i => real_of_all preFacts.bcast_S_S1x4096 preFacts.reducesTo_S1x4096_S_d0_1 preFacts.h_S_ _ _ r4 i
  clear r4
  have a5 := fun i => real_of_all preFacts.bcast_S_S4096x1024 preFacts.reducesTo_S4096x1024_S_d0_1 preFacts.h_S_ _ _ r5 i
  clear r5
  have a6 := fun i => real_of_all preFacts.bcast_S_S1x1024 preFacts.reducesTo_S1x1024_S_d0_1 preFacts.h_S_ _ _ r6 i
  clear r6
  have a7 := fun i => real_of_all preFacts.bcast_S_S1x1024 preFacts.reducesTo_S1x1024_S_d0_1 preFacts.h_S_ _ _ r7 i
  clear r7
  have a8 := fun i => real_of_all preFacts.bcast_S_S1x1024 preFacts.reducesTo_S1x1024_S_d0_1 preFacts.h_S_ _ _ r8 i
  clear r8
  exact ⟨a0, a1, a2, a3, a4, a5, a6, a7, a8⟩

end Cert.Step

end
-- ==== Proof.Algebraic.lean ====
/-
  The kernel's results and the reference's are the same functions of the arguments.
-/
module

public import proofs.«01_k».proof.Defs
public import proofs.«01_k».proof.Proof.Results
public import proofs.«01_k».proof.Proof.Reference
public import proofs.«01_k».proof.Proof.Pre

@[expose] public section

set_option maxRecDepth 16384

noncomputable section

namespace Cert.Step

open Idealize.ShloMosaic Idealize.ShloMosaic.TcCoe Idealize.ShloMosaic.StableHlo Idealize.SL.Sem

/-! ## The results as arrays -/

namespace Inputs

variable (I : Inputs)

def lossArray : Cert.KernelIdeal.S8x128.Idx → EReal := fun _ => I.loss
def dxArray : Cert.KernelIdeal.S8192x1024.Idx → EReal := fun i => dx I.weights (I.token (i 0)) (i 1)
def hidArray : Cert.KernelIdeal.S8192x1024.Idx → EReal := fun i => hid (I.token (i 0)) (i 1)
def dpreArray : Cert.KernelIdeal.S8192x4096.Idx → EReal := fun i => dpre I.weights (I.token (i 0)) (i 1)
def sqArray : Cert.KernelIdeal.S8192x4096.Idx → EReal := fun i => sq I.weights (I.token (i 0)) (i 1)
def dmlpArray : Cert.KernelIdeal.S8192x1024.Idx → EReal := fun i => dmlp I.weights (I.token (i 0)) (i 1)
def dmArray : Cert.KernelIdeal.S4x3x1024.Idx → EReal := fun i => I.dmod (i 0) (i 1) (i 2)
def db1Array : Cert.KernelIdeal.S1x4096.Idx → EReal := fun i => I.db1 (i 1)
def db2Array : Cert.KernelIdeal.S1x1024.Idx → EReal := fun i => I.db2 (i 1)
def dgainArray : Cert.KernelIdeal.S1x1024.Idx → EReal := fun i => I.dgain (i 1)
def dbiasArray : Cert.KernelIdeal.S1x1024.Idx → EReal := fun i => I.dbias (i 1)

end Inputs

/-! ## The reference's results -/

namespace Ref

open Cert.ReferenceIdeal Cert.ReferenceIdeal.Read

variable (I : Inputs)

theorem loss_array (h : I.Real) : val_main_v192 (F := Ideal) I.x I.tgt I.m4 I.w1 I.b1 I.w2 I.b2 I.g I.b = I.lossArray :=
  funext fun i => Ref.loss1 I h i

theorem dx_array (h : I.Real) : val_main_v193 (F := Ideal) I.x I.tgt I.m4 I.w1 I.b1 I.w2 I.b2 I.g I.b = I.dxArray :=
  funext fun i => by
    obtain ⟨n, j, rfl⟩ : ∃ (n : Fin 8192) (j : Fin 1024), i = ix2 n j := ⟨i 0, i 1, eq_ix2 i⟩
    exact Ref.dx_row I j h n

theorem hid_array : val_main_v195 (F := Ideal) I.x I.m4 = I.hidArray :=
  funext fun i => by
    obtain ⟨n, j, rfl⟩ : ∃ (n : Fin 8192) (j : Fin 1024), i = ix2 n j := ⟨i 0, i 1, eq_ix2 i⟩
    exact Ref.hid_row I j n

theorem dpre_array (h : I.Real) : val_main_v197 (F := Ideal) I.x I.tgt I.m4 I.w1 I.b1 I.w2 I.b2 I.g I.b = I.dpreArray :=
  funext fun i => by
    obtain ⟨n, j, rfl⟩ : ∃ (n : Fin 8192) (j : Fin 4096), i = ix2 n j := ⟨i 0, i 1, eq_ix2 i⟩
    exact Ref.dpre_row I j h n

theorem sq_array : val_main_v199 (F := Ideal) I.x I.m4 I.w1 I.b1 = I.sqArray :=
  funext fun i => by
    obtain ⟨n, j, rfl⟩ : ∃ (n : Fin 8192) (j : Fin 4096), i = ix2 n j := ⟨i 0, i 1, eq_ix2 i⟩
    exact Ref.sq_row I j n

theorem dmlp_array (h : I.Real) : val_main_v201 (F := Ideal) I.x I.tgt I.m4 I.w1 I.b1 I.w2 I.b2 I.g I.b = I.dmlpArray :=
  funext fun i => by
    obtain ⟨n, j, rfl⟩ : ∃ (n : Fin 8192) (j : Fin 1024), i = ix2 n j := ⟨i 0, i 1, eq_ix2 i⟩
    exact Ref.dmlp_row I j h n

theorem dm_array (h : I.Real) : val_main_v202 (F := Ideal) I.x I.tgt I.m4 I.w1 I.b1 I.w2 I.b2 I.g I.b = I.dmArray :=
  funext fun i => by
    obtain ⟨b, k, j, rfl⟩ : ∃ (b : Fin 4) (k : Fin 3) (j : Fin 1024), i = ix3 b k j := ⟨i 0, i 1, i 2, eq_ix3 i⟩
    exact Ref.dmod1 I b j h k

theorem db1_array (h : I.Real) : val_main_v158 (F := Ideal) I.x I.tgt I.m4 I.w1 I.b1 I.w2 I.b2 I.g I.b = I.db1Array :=
  funext fun i => by
    obtain ⟨a, j, rfl⟩ : ∃ (a : Fin 1) (j : Fin 4096), i = ix2 a j := ⟨i 0, i 1, eq_ix2 i⟩
    obtain rfl : a = 0 := Subsingleton.elim _ _
    exact Ref.db11 I j h

theorem db2_array (h : I.Real) : val_main_v148 (F := Ideal) I.x I.tgt I.m4 I.w1 I.b1 I.w2 I.b2 I.g I.b = I.db2Array :=
  funext fun i => by
    obtain ⟨a, j, rfl⟩ : ∃ (a : Fin 1) (j : Fin 1024), i = ix2 a j := ⟨i 0, i 1, eq_ix2 i⟩
    obtain rfl : a = 0 := Subsingleton.elim _ _
    exact Ref.db21 I j h

theorem dgain_array : val_main_v115 (F := Ideal) I.x I.tgt I.m4 I.w1 I.b1 I.w2 I.b2 I.g I.b = I.dgainArray :=
  funext fun i => by
    obtain ⟨a, j, rfl⟩ : ∃ (a : Fin 1) (j : Fin 1024), i = ix2 a j := ⟨i 0, i 1, eq_ix2 i⟩
    obtain rfl : a = 0 := Subsingleton.elim _ _
    exact Ref.dgain1 I j

theorem dbias_array : val_main_v108 (F := Ideal) I.x I.tgt I.m4 I.w1 I.b1 I.w2 I.b2 I.g I.b = I.dbiasArray :=
  funext fun i => by
    obtain ⟨a, j, rfl⟩ : ∃ (a : Fin 1) (j : Fin 1024), i = ix2 a j := ⟨i 0, i 1, eq_ix2 i⟩
    obtain rfl : a = 0 := Subsingleton.elim _ _
    exact Ref.dbias1 I j

end Ref

/-- The reference's arguments, as the mathematics reads them. -/
def refInputs (m : (ℓ : Loc Cert.ReferenceIdeal.nD Cert.ReferenceIdeal.τ Cert.ReferenceIdeal.sig) → Buf (Elt Ideal) ℓ)
    (c : Dev Cert.ReferenceIdeal.nD) : Inputs where
  x := m ((c.tc : Thread Cert.ReferenceIdeal.nD Cert.ReferenceIdeal.τ).loc Cert.ReferenceIdeal.main_arg0)
  tgt := m ((c.tc : Thread Cert.ReferenceIdeal.nD Cert.ReferenceIdeal.τ).loc Cert.ReferenceIdeal.main_arg1)
  m4 := m ((c.tc : Thread Cert.ReferenceIdeal.nD Cert.ReferenceIdeal.τ).loc Cert.ReferenceIdeal.main_arg2)
  w1 := m ((c.tc : Thread Cert.ReferenceIdeal.nD Cert.ReferenceIdeal.τ).loc Cert.ReferenceIdeal.main_arg3)
  b1 := m ((c.tc : Thread Cert.ReferenceIdeal.nD Cert.ReferenceIdeal.τ).loc Cert.ReferenceIdeal.main_arg4)
  w2 := m ((c.tc : Thread Cert.ReferenceIdeal.nD Cert.ReferenceIdeal.τ).loc Cert.ReferenceIdeal.main_arg5)
  b2 := m ((c.tc : Thread Cert.ReferenceIdeal.nD Cert.ReferenceIdeal.τ).loc Cert.ReferenceIdeal.main_arg6)
  g := m ((c.tc : Thread Cert.ReferenceIdeal.nD Cert.ReferenceIdeal.τ).loc Cert.ReferenceIdeal.main_arg7)
  b := m ((c.tc : Thread Cert.ReferenceIdeal.nD Cert.ReferenceIdeal.τ).loc Cert.ReferenceIdeal.main_arg8)

/-! ## The frames of the reference -/

/-- The reference runs, its arguments end unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2.2.2.2.2.2, sem_eq_zero_of_no_sems (by decide) r.2⟩)
    (Cert.ReferenceIdeal.Value.run (F := Ideal) m ρ)

/-! ## The two runs with their results -/

section Runs

open Cert.KernelIdeal

set_option maxHeartbeats 2000000 in
/-- The kernel's run: each result is its array, the arguments unchanged. -/
theorem kernel_run (m : (ℓ : Loc nD τ sig) → Buf (Elt Ideal) ℓ) (ρ : Dev nD → PrngReg) (hr : ∀ c, (inputs m c).Real) :
    θ_run (defs (F := Ideal)) (onTc (τ := τ) (main (F := Ideal))) ⟨m, fun _ => 0, ρ⟩ fun r => ∀ c : Dev nD,
      r.2.mem ((c.tc : Thread nD τ).loc main_v2_0) = (inputs m c).lossArray
      ∧ r.2.mem ((c.tc : Thread nD τ).loc main_v2_1) = (inputs m c).dxArray
      ∧ r.2.mem ((c.tc : Thread nD τ).loc main_v2_2) = (inputs m c).hidArray
      ∧ r.2.mem ((c.tc : Thread nD τ).loc main_v2_3) = (inputs m c).dpreArray
      ∧ r.2.mem ((c.tc : Thread nD τ).loc main_v2_4) = (inputs m c).sqArray
      ∧ r.2.mem ((c.tc : Thread nD τ).loc main_v2_5) = (inputs m c).dmlpArray
      ∧ r.2.mem ((c.tc : Thread nD τ).loc main_v2_6) = (inputs m c).dmArray
      ∧ r.2.mem ((c.tc : Thread nD τ).loc main_v2_7) = (inputs m c).db1Array
      ∧ r.2.mem ((c.tc : Thread nD τ).loc main_v2_8) = (inputs m c).db2Array
      ∧ r.2.mem ((c.tc : Thread nD τ).loc main_v2_9) = (inputs m c).dgainArray
      ∧ r.2.mem ((c.tc : Thread nD τ).loc main_v2_10) = (inputs m c).dbiasArray
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (run m ρ)
  refine ⟨((h c).1 9).trans (result_loss m c (hr c)),
    ((h c).1 10).trans (result_dx m c),
    ((h c).1 11).trans (result_h2 m c),
    ((h c).1 12).trans (result_da1 m c),
    ((h c).1 13).trans (result_r2 m c),
    ((h c).1 14).trans (result_dmlp m c),
    ((h c).1 15).trans (result_dm m c),
    ((h c).1 16).trans (result_db1 m c),
    ((h c).1 17).trans (result_db2 m c),
    ((h c).1 18).trans (result_dgain m c),
    ((h c).1 19).trans (result_dbias m c),
    ((h c).1 0).trans (((dats m 0 c).arrAt_in 0 rfl _).trans ((A_eq m c 0).trans (Cert.KernelIdeal.Gen.V_main_arg0 m c))),
    ((h c).1 1).trans (((dats m 0 c).arrAt_in 1 rfl _).trans ((A_eq m c 1).trans (Cert.KernelIdeal.Gen.V_main_arg1 m c))),
    ((h c).1 4).trans (((dats m 0 c).arrAt_in 4 rfl _).trans ((A_eq m c 4).trans (Cert.KernelIdeal.Gen.V_main_arg2 m c))),
    ((h c).2 main_arg3 (Pipeline.mem_restRefs_of main_arg3 (by decide) (by decide))).trans (Cert.KernelIdeal.Gen.V_main_arg3 m c),
    ((h c).1 5).trans (((dats m 0 c).arrAt_in 5 rfl _).trans ((A_eq m c 5).trans (Cert.KernelIdeal.Gen.V_main_arg4 m c))),
    ((h c).2 main_arg5 (Pipeline.mem_restRefs_of main_arg5 (by decide) (by decide))).trans (Cert.KernelIdeal.Gen.V_main_arg5 m c),
    ((h c).1 6).trans (((dats m 0 c).arrAt_in 6 rfl _).trans ((A_eq m c 6).trans (Cert.KernelIdeal.Gen.V_main_arg6 m c))),
    ((h c).1 7).trans (((dats m 0 c).arrAt_in 7 rfl _).trans ((A_eq m c 7).trans (Cert.KernelIdeal.Gen.V_main_arg7 m c))),
    ((h c).1 8).trans (((dats m 0 c).arrAt_in 8 rfl _).trans ((A_eq m c 8).trans (Cert.KernelIdeal.Gen.V_main_arg8 m c)))⟩

end Runs

section RefRuns

open Cert.ReferenceIdeal

set_option maxHeartbeats 2000000 in
/-- The reference's run: each result is the same array of its arguments. -/
theorem reference_run (m : (ℓ : Loc nD τ sig) → Buf (Elt Ideal) ℓ) (ρ : Dev nD → PrngReg) (hr : ∀ c, (refInputs m c).Real) :
    θ_run (defs (F := Ideal)) (onTc (τ := τ) (main (F := Ideal))) ⟨m, fun _ => 0, ρ⟩ fun r => ∀ c : Dev nD,
      r.2.mem ((c.tc : Thread nD τ).loc main_v192) = (refInputs m c).lossArray
      ∧ r.2.mem ((c.tc : Thread nD τ).loc main_v193) = (refInputs m c).dxArray
      ∧ r.2.mem ((c.tc : Thread nD τ).loc main_v195) = (refInputs m c).hidArray
      ∧ r.2.mem ((c.tc : Thread nD τ).loc main_v197) = (refInputs m c).dpreArray
      ∧ r.2.mem ((c.tc : Thread nD τ).loc main_v199) = (refInputs m c).sqArray
      ∧ r.2.mem ((c.tc : Thread nD τ).loc main_v201) = (refInputs m c).dmlpArray
      ∧ r.2.mem ((c.tc : Thread nD τ).loc main_v202) = (refInputs m c).dmArray
      ∧ r.2.mem ((c.tc : Thread nD τ).loc main_v158) = (refInputs m c).db1Array
      ∧ r.2.mem ((c.tc : Thread nD τ).loc main_v148) = (refInputs m c).db2Array
      ∧ r.2.mem ((c.tc : Thread nD τ).loc main_v115) = (refInputs m c).dgainArray
      ∧ r.2.mem ((c.tc : Thread nD τ).loc main_v108) = (refInputs m c).dbiasArray
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.ReferenceIdeal.Value.run (F := Ideal) m ρ)
  obtain ⟨h0, h1, h2, h3, h4, h5, h6, h7, h8, h9, h10, ha⟩ := h c
  refine ⟨h0.trans ((Read.val_main_v192_eq (launchContents m c)).trans (Ref.loss_array (refInputs m c) (hr c))),
    h1.trans ((Read.val_main_v193_eq (launchContents m c)).trans (Ref.dx_array (refInputs m c) (hr c))),
    h2.trans ((Read.val_main_v195_eq (launchContents m c)).trans (Ref.hid_array (refInputs m c))),
    h3.trans ((Read.val_main_v197_eq (launchContents m c)).trans (Ref.dpre_array (refInputs m c) (hr c))),
    h4.trans ((Read.val_main_v199_eq (launchContents m c)).trans (Ref.sq_array (refInputs m c))),
    h5.trans ((Read.val_main_v201_eq (launchContents m c)).trans (Ref.dmlp_array (refInputs m c) (hr c))),
    h6.trans ((Read.val_main_v202_eq (launchContents m c)).trans (Ref.dm_array (refInputs m c) (hr c))),
    h7.trans ((Read.val_main_v158_eq (launchContents m c)).trans (Ref.db1_array (refInputs m c) (hr c))),
    h8.trans ((Read.val_main_v148_eq (launchContents m c)).trans (Ref.db2_array (refInputs m c) (hr c))),
    h9.trans ((Read.val_main_v115_eq (launchContents m c)).trans (Ref.dgain_array (refInputs m c))),
    h10.trans ((Read.val_main_v108_eq (launchContents m c)).trans (Ref.dbias_array (refInputs m c))), ha⟩

end RefRuns

theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  have hr : ∀ c, (inputs m c).Real := fun c => inputs_real m c hpre
  have e : ∀ c, refInputs m' c = inputs m c := fun c => by
    obtain ⟨h0, h1, h2, h3, h4, h5, h6, h7, h8⟩ := hagree c
    unfold refInputs inputs
    rw [h0, h1, h2, h3, h4, h5, h6, h7, h8]
  refine ⟨fun c => (inputs m c).lossArray, fun c => (inputs m c).dxArray, fun c => (inputs m c).hidArray, fun c => (inputs m c).dpreArray, fun c => (inputs m c).sqArray, fun c => (inputs m c).dmlpArray, fun c => (inputs m c).dmArray, fun c => (inputs m c).db1Array, fun c => (inputs m c).db2Array, fun c => (inputs m c).dgainArray, fun c => (inputs m c).dbiasArray, kernel_run m ρ hr, ?_⟩
  refine (θ_run Cert.ReferenceIdeal.defs _ _).mono (fun r h c => ?_) (reference_run m' ρ' fun c => (e c).symm ▸ hr c)
  have h := h c
  rw [e c] at h
  exact h

end Cert.Step

end
-- ==== Proof.Tokens.lean ====
/-
  The 8192 tokens in eight blocks of 1024, and sums over them.
-/
module

public import Idealize.ShloMosaic.Lib.ValueIdx
public import Idealize.ShloMosaic.PureOps.Ideal.Laws

@[expose] public section

noncomputable section

namespace Cert.Step

/-- The token that row `r` of block `s` is. -/
def tokenIn (s : ℕ) (r : Fin 1024) : Fin 8192 := Fin.ofNat 8192 (s * 1024 + r.val)

theorem tokenIn_val (s : ℕ) (hs : s < 8) (r : Fin 1024) : (tokenIn s r).val = s * 1024 + r.val := by
  have := r.isLt
  exact Nat.mod_eq_of_lt (by omega)

/-- The blocks and their rows are the tokens. -/
theorem sum_tokens (f : Fin 8192 → EReal) : ∑ s ∈ Finset.range 8, ∑ r : Fin 1024, f (tokenIn s r) = ∑ n, f n := by
  rw [Finset.sum_range, ← (finProdFinEquiv (m := 8) (n := 1024)).sum_comp f, Fintype.sum_prod_type]
  refine Finset.sum_congr rfl fun s _ => Finset.sum_congr rfl fun r _ => congrArg f (Fin.ext ?_)
  have := s.isLt; have := r.isLt
  show (s.val * 1024 + r.val) % 8192 = r.val + 1024 * s.val
  omega

end Cert.Step

end
-- ==== Proof.DwOne.lean ====
/-
  The product that gives the gradient of `w_mlp1`: each block of the result is the sum over eight blocks of 1024 tokens.
-/
module

public import proofs.«01_k».proof.Proof.Tokens
public import proofs.«01_k».proof.Proof.Gen.Kernel2
public import proofs.«01_k».proof.Proof.Gen.Kernel2Ideal.Value
public import proofs.«01_k».proof.Proof.Gen.Reference2Ideal.Read
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

namespace Cert.DwOne

open Idealize.ShloMosaic Idealize.ShloMosaic.TcCoe Idealize.ShloMosaic.Tactic Idealize.SL.Sem
open Cert.Step (tokenIn tokenIn_val sum_tokens)

section Kernel

open Cert.Kernel2Ideal Cert.Kernel2Ideal.Gen Cert.Kernel2Ideal.Value

variable (m : (ℓ : Loc nD τ sig) → Buf (Elt Ideal) ℓ) (c : Dev nD)

/-- The two arguments. -/
abbrev hid : S8192x1024.Idx → EReal := m ((c : Thread nD τ).loc main_arg0)
abbrev dpre : S8192x4096.Idx → EReal := m ((c : Thread nD τ).loc main_arg1)

theorem index0 : ∀ t : Fin cfg0.N, win0_0.index t = ![t.val % 8, 0] := (by decide +kernel : ∀ t : Fin grid0.N, _)
theorem index1 : ∀ t : Fin cfg0.N, win0_1.index t = ![t.val % 8, t.val / 8] := (by decide +kernel : ∀ t : Fin grid0.N, _)

/-- The blocks of the two arguments at a point. -/
abbrev left (t : Fin cfg0.N) : S1024x1024.Idx → EReal := iblk m c 0 t
abbrev right (t : Fin cfg0.N) : S1024x1024.Idx → EReal := iblk m c 1 t

/-- What the point `n` adds to the block of the result, at `i`. -/
def addend (n : ℕ) (i : S1024x1024.Idx) : EReal :=
  if h : n < cfg0.N then ∑ r : Fin 1024, (left m c ⟨n, h⟩ (ix2 r (i 0)) : EReal) * right m c ⟨n, h⟩ (ix2 r (i 1)) else 0

theorem pay_apply (acc : FVec Ideal S1024x1024 .f32) (a b : FVec Ideal S1024x1024 .bf16) (p q : Fin 1024) :
    (k0_pay2 (F := Ideal) acc a b (ix2 p q) : EReal) = acc (ix2 p q) + ∑ r : Fin 1024, a (ix2 r p) * b (ix2 r q) := by
  pointwise [k0_pay2]

theorem zero_apply (i : S1024x1024.Idx) : (k0_pay1 (F := Ideal) i : EReal) = 0 := by
  pointwise [k0_pay1]

theorem reset_apply (n : ℕ) (h : n < cfg0.N) (i : S1024x1024.Idx) : (reset2 m c n h i : EReal) = 0 + addend m c n i := by
  obtain ⟨p, q, rfl⟩ : ∃ (p : Fin 1024) (q : Fin 1024), i = ix2 p q := ⟨i 0, i 1, eq_ix2 i⟩
  unfold reset2 addend
  rw [pay_apply, zero_apply, dif_pos h]
  rfl

theorem step_apply (n : ℕ) (h : n < cfg0.N) (acc : S1024x1024.Idx → EReal) (i : S1024x1024.Idx) :
    (step2 m c n h acc i : EReal) = acc i + addend m c n i := by
  obtain ⟨p, q, rfl⟩ : ∃ (p : Fin 1024) (q : Fin 1024), i = ix2 p q := ⟨i 0, i 1, eq_ix2 i⟩
  unfold step2 addend
  rw [pay_apply, dif_pos h]
  rfl

theorem blk0 (t : Fin cfg0.N) (r p : Fin 1024) (p' : Fin 1024) (h : p'.val = 1024 * (0) + p.val) :
    iblk m c 0 t (ix2 r p) = hid m c (ix2 (tokenIn (t.val % 8) r) p') := by
  have h' := tokenIn_val (t.val % 8) (Nat.mod_lt _ (by decide)) r
  show iblk m c 0 t (ix2 r p) = m ((c : Thread nD τ).loc main_arg0) _
  rw [← V_main_arg0 m c]
  blk_ext [iblk, index0 t, h', h]

theorem blk1 (t : Fin cfg0.N) (r q : Fin 1024) (q' : Fin 4096) (h : q'.val = 1024 * (t.val / 8) + q.val) :
    iblk m c 1 t (ix2 r q) = dpre m c (ix2 (tokenIn (t.val % 8) r) q') := by
  have h' := tokenIn_val (t.val % 8) (Nat.mod_lt _ (by decide)) r
  show iblk m c 1 t (ix2 r q) = m ((c : Thread nD τ).loc main_arg1) _
  rw [← V_main_arg1 m c]
  blk_ext [iblk, index1 t, h', h]

/-- The result: the sum over the tokens. -/
def product (a : S8192x1024.Idx → EReal) (b : S8192x4096.Idx → EReal) : S1024x4096.Idx → EReal := fun i =>
  ∑ n : Fin 8192, a (ix2 n (i 0)) * b (ix2 n (i 1))

theorem addend_eq (q s : ℕ) (hq : q < 4) (hs : s < 8) (i : S1024x4096.Idx) (hi : run2Of i = q) :
    addend m c (8 * q + s) (loc2Of i) = ∑ r : Fin 1024, hid m c (ix2 (tokenIn s r) (i 0)) * dpre m c (ix2 (tokenIn s r) (i 1)) := by
  have hN : 8 * q + s < cfg0.N := lt_of_lt_of_eq (by omega : 8 * q + s < 32) (show 32 = cfg0.N from N_0.symm)
  have e1 : (8 * q + s) % 8 = s := by omega
  have e2 : (8 * q + s) / 8 = q := by omega
  have b0 : (i 0).val < 1024 := (i 0).isLt
  have b1 : (i 1).val < 4096 := (i 1).isLt
  unfold run2Of at hi
  unfold addend
  rw [dif_pos hN]
  refine Finset.sum_congr rfl fun r _ => ?_
  have h0 := blk0 m c ⟨8 * q + s, hN⟩ r (loc2Of i 0) (i 0) (by
    show (i 0).val = 1024 * (0) + (i 0).val % 1024
    omega)
  have h1 := blk1 m c ⟨8 * q + s, hN⟩ r (loc2Of i 1) (i 1) (by
    show (i 1).val = 1024 * ((8 * q + s) / 8) + (i 1).val % 1024
    omega)
  have e : (⟨8 * q + s, hN⟩ : Fin cfg0.N).val % 8 = s := e1
  rw [e] at h0 h1
  exact congrArg₂ (· * ·) h0 h1

theorem result : G2 m c = product (hid m c) (dpre m c) := funext fun i => by
  have b0 : (i 0).val < 1024 := (i 0).isLt
  have b1 : (i 1).val < 4096 := (i 1).isLt
  have hq : run2Of i < 4 := by unfold run2Of; omega
  have hN : 8 * run2Of i + 7 < cfg0.N := lt_of_lt_of_eq (by omega : 8 * run2Of i + 7 < 32) (show 32 = cfg0.N from N_0.symm)
  unfold G2
  rw [dif_pos hN]
  refine (Pipeline.accAt_add_apply (β := EReal) (reset2 m c) (step2 m c) (fun _ => 0) (addend m c) (8 * run2Of i) 7
    (fun h j => reset_apply m c _ h j) (fun n h acc j _ _ => step_apply m c n h acc j) 7 (Nat.le_refl 7) hN (loc2Of i)).trans ?_
  rw [zero_add]
  unfold product
  rw [← sum_tokens]
  exact Finset.sum_congr rfl fun s hs => addend_eq m c _ s hq (Finset.mem_range.mp hs) i rfl

/-- The program ends with its arguments as they were and its counters at zero. -/
theorem frame_ideal : Cert.quiescent_Kernel2Ideal (hKernel2Ideal := Cert.Kernel2Ideal.Gen.facts) := fun m ρ _ =>
  Cert.Kernel2Ideal.Gen.frame (F := Ideal) m ρ

/-- The two body tables are one. -/
theorem defs_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

/-- So does the program as it is run. -/
theorem frame_kernel : Cert.quiescent_Kernel2 (hKernel2 := Cert.Kernel2.Gen.facts) := by
  intro m ρ _
  have h := Cert.Kernel2Ideal.Gen.frame (F := Bits) m ρ
  unfold Cert.Kernel2Ideal.defs at h
  unfold Cert.Kernel2.defs
  rw [defs_eq]
  exact h

end Kernel

/-- The reference runs, its arguments end unchanged and every counter at zero. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Reference2Ideal.Read in
theorem reference_result (a : Cert.Kernel2Ideal.S8192x1024.Idx → EReal) (b : Cert.Kernel2Ideal.S8192x4096.Idx → EReal) :
    val_main_v5 (F := Ideal) a b = product a b := funext fun i => by
  rw [val_main_v5_apply, val_main_v4_apply]
  unfold product
  refine Finset.sum_congr rfl fun n _ => ?_
  rw [mul_comm]
  refine congrArg₂ (· * ·) (congrArg a ?_) (congrArg b ?_)
  · exact funext fun k => by fin_cases k <;> rfl
  · exact funext fun k => by fin_cases k <;> rfl

theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => product (hid m c) (dpre m c), ?_, ?_⟩
  · refine (θ_run Cert.Kernel2Ideal.defs _ _).mono (fun r h c => ?_) (Cert.Kernel2Ideal.Value.run (F := Ideal) m ρ)
    exact ⟨(h c).1.trans (result m c), (h c).2⟩
  · refine (θ_run Cert.Reference2Ideal.defs _ _).mono (fun r h c => ?_) (Cert.Reference2Ideal.Value.run (F := Ideal) m' ρ')
    refine ⟨(h c).1.trans ?_, (h c).2⟩
    rw [(hagree c).1, (hagree c).2]
    exact reference_result _ _

end Cert.DwOne

end
-- ==== Proof.DwTwo.lean ====
/-
  The product that gives the gradient of `w_mlp2`: each block of the result is the sum over eight blocks of 1024 tokens.
-/
module

public import proofs.«01_k».proof.Proof.Tokens
public import proofs.«01_k».proof.Proof.Gen.Kernel3
public import proofs.«01_k».proof.Proof.Gen.Kernel3Ideal.Value
public import proofs.«01_k».proof.Proof.Gen.Reference3Ideal.Read
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

namespace Cert.DwTwo

open Idealize.ShloMosaic Idealize.ShloMosaic.TcCoe Idealize.ShloMosaic.Tactic Idealize.SL.Sem
open Cert.Step (tokenIn tokenIn_val sum_tokens)

section Kernel

open Cert.Kernel3Ideal Cert.Kernel3Ideal.Gen Cert.Kernel3Ideal.Value

variable (m : (ℓ : Loc nD τ sig) → Buf (Elt Ideal) ℓ) (c : Dev nD)

/-- The two arguments. -/
abbrev sq : S8192x4096.Idx → EReal := m ((c : Thread nD τ).loc main_arg0)
abbrev dmlp : S8192x1024.Idx → EReal := m ((c : Thread nD τ).loc main_arg1)

theorem index0 : ∀ t : Fin cfg0.N, win0_0.index t = ![t.val % 8, t.val / 8] := (by decide +kernel : ∀ t : Fin grid0.N, _)
theorem index1 : ∀ t : Fin cfg0.N, win0_1.index t = ![t.val % 8, 0] := (by decide +kernel : ∀ t : Fin grid0.N, _)

/-- The blocks of the two arguments at a point. -/
abbrev left (t : Fin cfg0.N) : S1024x1024.Idx → EReal := iblk m c 0 t
abbrev right (t : Fin cfg0.N) : S1024x1024.Idx → EReal := iblk m c 1 t

/-- What the point `n` adds to the block of the result, at `i`. -/
def addend (n : ℕ) (i : S1024x1024.Idx) : EReal :=
  if h : n < cfg0.N then ∑ r : Fin 1024, (left m c ⟨n, h⟩ (ix2 r (i 0)) : EReal) * right m c ⟨n, h⟩ (ix2 r (i 1)) else 0

theorem pay_apply (acc : FVec Ideal S1024x1024 .f32) (a b : FVec Ideal S1024x1024 .bf16) (p q : Fin 1024) :
    (k0_pay2 (F := Ideal) acc a b (ix2 p q) : EReal) = acc (ix2 p q) + ∑ r : Fin 1024, a (ix2 r p) * b (ix2 r q) := by
  pointwise [k0_pay2]

theorem zero_apply (i : S1024x1024.Idx) : (k0_pay1 (F := Ideal) i : EReal) = 0 := by
  pointwise [k0_pay1]

theorem reset_apply (n : ℕ) (h : n < cfg0.N) (i : S1024x1024.Idx) : (reset2 m c n h i : EReal) = 0 + addend m c n i := by
  obtain ⟨p, q, rfl⟩ : ∃ (p : Fin 1024) (q : Fin 1024), i = ix2 p q := ⟨i 0, i 1, eq_ix2 i⟩
  unfold reset2 addend
  rw [pay_apply, zero_apply, dif_pos h]
  rfl

theorem step_apply (n : ℕ) (h : n < cfg0.N) (acc : S1024x1024.Idx → EReal) (i : S1024x1024.Idx) :
    (step2 m c n h acc i : EReal) = acc i + addend m c n i := by
  obtain ⟨p, q, rfl⟩ : ∃ (p : Fin 1024) (q : Fin 1024), i = ix2 p q := ⟨i 0, i 1, eq_ix2 i⟩
  unfold step2 addend
  rw [pay_apply, dif_pos h]
  rfl

theorem blk0 (t : Fin cfg0.N) (r p : Fin 1024) (p' : Fin 4096) (h : p'.val = 1024 * (t.val / 8) + p.val) :
    iblk m c 0 t (ix2 r p) = sq m c (ix2 (tokenIn (t.val % 8) r) p') := by
  have h' := tokenIn_val (t.val % 8) (Nat.mod_lt _ (by decide)) r
  show iblk m c 0 t (ix2 r p) = m ((c : Thread nD τ).loc main_arg0) _
  rw [← V_main_arg0 m c]
  blk_ext [iblk, index0 t, h', h]

theorem blk1 (t : Fin cfg0.N) (r q : Fin 1024) (q' : Fin 1024) (h : q'.val = 1024 * (0) + q.val) :
    iblk m c 1 t (ix2 r q) = dmlp m c (ix2 (tokenIn (t.val % 8) r) q') := by
  have h' := tokenIn_val (t.val % 8) (Nat.mod_lt _ (by decide)) r
  show iblk m c 1 t (ix2 r q) = m ((c : Thread nD τ).loc main_arg1) _
  rw [← V_main_arg1 m c]
  blk_ext [iblk, index1 t, h', h]

/-- The result: the sum over the tokens. -/
def product (a : S8192x4096.Idx → EReal) (b : S8192x1024.Idx → EReal) : S4096x1024.Idx → EReal := fun i =>
  ∑ n : Fin 8192, a (ix2 n (i 0)) * b (ix2 n (i 1))

theorem addend_eq (q s : ℕ) (hq : q < 4) (hs : s < 8) (i : S4096x1024.Idx) (hi : run2Of i = q) :
    addend m c (8 * q + s) (loc2Of i) = ∑ r : Fin 1024, sq m c (ix2 (tokenIn s r) (i 0)) * dmlp m c (ix2 (tokenIn s r) (i 1)) := by
  have hN : 8 * q + s < cfg0.N := lt_of_lt_of_eq (by omega : 8 * q + s < 32) (show 32 = cfg0.N from N_0.symm)
  have e1 : (8 * q + s) % 8 = s := by omega
  have e2 : (8 * q + s) / 8 = q := by omega
  have b0 : (i 0).val < 4096 := (i 0).isLt
  have b1 : (i 1).val < 1024 := (i 1).isLt
  unfold run2Of at hi
  unfold addend
  rw [dif_pos hN]
  refine Finset.sum_congr rfl fun r _ => ?_
  have h0 := blk0 m c ⟨8 * q + s, hN⟩ r (loc2Of i 0) (i 0) (by
    show (i 0).val = 1024 * ((8 * q + s) / 8) + (i 0).val % 1024
    omega)
  have h1 := blk1 m c ⟨8 * q + s, hN⟩ r (loc2Of i 1) (i 1) (by
    show (i 1).val = 1024 * (0) + (i 1).val % 1024
    omega)
  have e : (⟨8 * q + s, hN⟩ : Fin cfg0.N).val % 8 = s := e1
  rw [e] at h0 h1
  exact congrArg₂ (· * ·) h0 h1

theorem result : G2 m c = product (sq m c) (dmlp m c) := funext fun i => by
  have b0 : (i 0).val < 4096 := (i 0).isLt
  have b1 : (i 1).val < 1024 := (i 1).isLt
  have hq : run2Of i < 4 := by unfold run2Of; omega
  have hN : 8 * run2Of i + 7 < cfg0.N := lt_of_lt_of_eq (by omega : 8 * run2Of i + 7 < 32) (show 32 = cfg0.N from N_0.symm)
  unfold G2
  rw [dif_pos hN]
  refine (Pipeline.accAt_add_apply (β := EReal) (reset2 m c) (step2 m c) (fun _ => 0) (addend m c) (8 * run2Of i) 7
    (fun h j => reset_apply m c _ h j) (fun n h acc j _ _ => step_apply m c n h acc j) 7 (Nat.le_refl 7) hN (loc2Of i)).trans ?_
  rw [zero_add]
  unfold product
  rw [← sum_tokens]
  exact Finset.sum_congr rfl fun s hs => addend_eq m c _ s hq (Finset.mem_range.mp hs) i rfl

/-- The program ends with its arguments as they were and its counters at zero. -/
theorem frame_ideal : Cert.quiescent_Kernel3Ideal (hKernel3Ideal := Cert.Kernel3Ideal.Gen.facts) := fun m ρ _ =>
  Cert.Kernel3Ideal.Gen.frame (F := Ideal) m ρ

/-- The two body tables are one. -/
theorem defs_eq : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) => rfl

/-- So does the program as it is run. -/
theorem frame_kernel : Cert.quiescent_Kernel3 (hKernel3 := Cert.Kernel3.Gen.facts) := by
  intro m ρ _
  have h := Cert.Kernel3Ideal.Gen.frame (F := Bits) m ρ
  unfold Cert.Kernel3Ideal.defs at h
  unfold Cert.Kernel3.defs
  rw [defs_eq]
  exact h

end Kernel

/-- The reference runs, its arguments end unchanged and every counter at zero. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

open Cert.Reference3Ideal.Read in
theorem reference_result (a : Cert.Kernel3Ideal.S8192x4096.Idx → EReal) (b : Cert.Kernel3Ideal.S8192x1024.Idx → EReal) :
    val_main_v5 (F := Ideal) a b = product a b := funext fun i => by
  rw [val_main_v5_apply, val_main_v4_apply]
  unfold product
  refine Finset.sum_congr rfl fun n _ => ?_
  rw [mul_comm]
  refine congrArg₂ (· * ·) (congrArg a ?_) (congrArg b ?_)
  · exact funext fun k => by fin_cases k <;> rfl
  · exact funext fun k => by fin_cases k <;> rfl

theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => product (sq m c) (dmlp m c), ?_, ?_⟩
  · refine (θ_run Cert.Kernel3Ideal.defs _ _).mono (fun r h c => ?_) (Cert.Kernel3Ideal.Value.run (F := Ideal) m ρ)
    exact ⟨(h c).1.trans (result m c), (h c).2⟩
  · refine (θ_run Cert.Reference3Ideal.defs _ _).mono (fun r h c => ?_) (Cert.Reference3Ideal.Value.run (F := Ideal) m' ρ')
    refine ⟨(h c).1.trans ?_, (h c).2⟩
    rw [(hagree c).1, (hagree c).2]
    exact reference_result _ _

end Cert.DwTwo

end
-- ==== Proof.DwIn.lean ====
/-
  The product that gives the gradient of `w_in`: each block of the result is the sum over eight blocks of 1024 tokens and one
  block of 1024 context tokens.
-/
module

public import proofs.«01_k».proof.Proof.Tokens
public import proofs.«01_k».proof.Proof.Gen.Kernel4
public import proofs.«01_k».proof.Proof.Gen.Kernel4Ideal.Value
public import proofs.«01_k».proof.Proof.Gen.Reference4Ideal.Read
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

namespace Cert.DwIn

open Idealize.ShloMosaic Idealize.ShloMosaic.TcCoe Idealize.ShloMosaic.Tactic Idealize.SL.Sem
open Cert.Step (tokenIn tokenIn_val sum_tokens)

section Kernel

open Cert.Kernel4Ideal Cert.Kernel4Ideal.Gen Cert.Kernel4Ideal.Value

/-! ### What the body leaves in its block at a point -/

section Body

variable (c : Dev nD) (i : grid0.Coords) (arg3 : Memref sig .tc .vmem S1024x1024 .bf16) (harg3 : arg3.IsWhole)
  (arg4 : Memref sig .tc .vmem S1024x1152 .bf16) (harg4 : arg4.IsWhole) (arg5 : Memref sig .tc .vmem S1024x1024 .bf16) (harg5 : arg5.IsWhole)
  (arg6 : Memref sig .tc .vmem S1024x1152 .bf16) (harg6 : arg6.IsWhole) (arg7 : Memref sig .tc .vmem S1024x1152 .f32) (harg7 : arg7.IsWhole)
  (x0 : Vec Ideal S1024x1024 .bf16) (x1 : Vec Ideal S1024x1152 .bf16) (x2 : Vec Ideal S1024x1024 .bf16) (x3 : Vec Ideal S1024x1152 .bf16)
  (acc : Vec Ideal S1024x1152 .f32)

theorem start : (![0, 0] : Fin 2 → Nat) = fun _ => 0 := funext fun a => by fin_cases a <;> rfl

/-- The first block of tokens: zero is written and read back. -/
theorem out_first (hc0 : cond0_0 i) (hc1 : cond0_1 i) (hc2 : ¬cond0_2 i) :
    out0_A_4 c i arg3 harg3 arg4 harg4 arg5 harg5 arg6 harg6 arg7 harg7 hc0 hc1 hc2 x0 x1 x2 x3 = k0_pay2 (k0_pay1 (F := Ideal)) x0 x1 := by
  unfold out0_A_4
  rw [View.read_writes_eq_canon _ _ _ (cover0_A_4 c i arg3 harg3 arg4 harg4 arg5 harg5 arg6 harg6 arg7 harg7 hc0 hc1 hc2 x0 x1 x2 x3)]
  unfold kernelRun0_A
  dsimp only
  try sl_unfold_words
  rw [View.canon_cons_unit_zero (S := S1024x1152) start, View.readCov_unit_zero (S := S1024x1152) _ start]
  simp only [View.readAt_eq_ld, harg3.read_unread, harg4.read_unread, harg7.read_unread, View.ld_unit_zero (S := S1024x1024) start,
    View.ld_unit_zero (S := S1024x1152) start, shapeCast_self]

/-- The other blocks of tokens. -/
theorem out_token (hc0 : ¬cond0_0 i) (hc1 : cond0_1 i) (hc2 : ¬cond0_2 i) :
    out0_B_4 c i arg3 harg3 arg4 harg4 arg5 harg5 arg6 harg6 arg7 harg7 hc0 hc1 hc2 x0 x1 x2 x3 acc = k0_pay2 acc x0 x1 := by
  unfold out0_B_4
  rw [View.read_writes_eq_canon _ _ _ (cover0_B_4 c i arg3 harg3 arg4 harg4 arg5 harg5 arg6 harg6 arg7 harg7 hc0 hc1 hc2 x0 x1 x2 x3 acc)]
  unfold kernelRun0_B
  dsimp only
  try sl_unfold_words
  rw [View.canon_unit_zero start]
  simp only [View.readAt_eq_ld, harg3.read_unread, harg4.read_unread, harg7.read_unread, View.ld_unit_zero (S := S1024x1024) start,
    View.ld_unit_zero (S := S1024x1152) start, shapeCast_self]

/-- The block of context tokens. -/
theorem out_context (hc0 : ¬cond0_0 i) (hc1 : ¬cond0_1 i) (hc2 : cond0_2 i) :
    out0_C_4 c i arg3 harg3 arg4 harg4 arg5 harg5 arg6 harg6 arg7 harg7 hc0 hc1 hc2 x0 x1 x2 x3 acc = k0_pay3 acc x2 x3 := by
  unfold out0_C_4
  rw [View.read_writes_eq_canon _ _ _ (cover0_C_4 c i arg3 harg3 arg4 harg4 arg5 harg5 arg6 harg6 arg7 harg7 hc0 hc1 hc2 x0 x1 x2 x3 acc)]
  unfold kernelRun0_C
  dsimp only
  try sl_unfold_words
  rw [View.canon_unit_zero start]
  simp only [View.readAt_eq_ld, harg5.read_unread, harg6.read_unread, harg7.read_unread, View.ld_unit_zero (S := S1024x1024) start,
    View.ld_unit_zero (S := S1024x1152) start, shapeCast_self]

end Body

variable (m : (ℓ : Loc nD τ sig) → Buf (Elt Ideal) ℓ) (c : Dev nD)

/-! ### The block over the nine points that fill it -/

/-- What the first of nine points leaves. -/
def reset (n : ℕ) (h : n < cfg0.N) : Vec Ideal S1024x1152 .f32 :=
  k0_pay2 (k0_pay1 (F := Ideal)) (iblk m c 0 ⟨n, h⟩) (iblk m c 1 ⟨n, h⟩)

/-- What each later one leaves, over what the point before left. -/
def step (n : ℕ) (h : n < cfg0.N) (acc : Vec Ideal S1024x1152 .f32) : Vec Ideal S1024x1152 .f32 :=
  if n % 9 ≤ 7 then k0_pay2 acc (iblk m c 0 ⟨n, h⟩) (iblk m c 1 ⟨n, h⟩) else k0_pay3 acc (iblk m c 2 ⟨n, h⟩) (iblk m c 3 ⟨n, h⟩)

theorem outs_eq (t : Fin cfg0.N) :
    outsAt0 m c t.val t.isLt = Pipeline.accAt (reset m c) (step m c) (9 * (t.val / 9)) (t.val % 9)
      (by have h1 := t.isLt; have h2 := Nat.div_add_mod t.val 9; omega) :=
  Pipeline.eq_accAt_of_mod (fun n h => outsAt0 m c n h) 9 (reset m c) (step m c)
    (fun n h hn => by
      rw [outsAt0_A m c ⟨n, h⟩ hn (by (try dsimp only); omega) (by (try dsimp only); omega)]
      exact out_first ..)
    (fun n h hn => by
      unfold step
      by_cases h7 : (n + 1) % 9 ≤ 7
      · rw [outsAt0_B m c ⟨n + 1, h⟩ hn h7 (by (try dsimp only); omega), if_pos h7]
        exact out_token ..
      · rw [outsAt0_C m c ⟨n + 1, h⟩ hn h7 (by (try dsimp only); omega), if_neg h7]
        exact out_context ..)
    (by decide) t.val t.isLt _

/-- The block that holds an index of the result, and the index's place in it. -/
abbrev blockOf (i : S1024x10368.Idx) : ℕ := (i 1).val / 1152
set_option backward.proofsInPublic true in
abbrev placeOf (i : S1024x10368.Idx) : S1024x1152.Idx := ix2 (i 0) ⟨(i 1).val % 1152, Nat.mod_lt _ (by decide)⟩

/-- What the result's array ends holding. -/
def final : Buf (Elt Ideal) ((c : Thread nD τ).loc main_v0) := fun i =>
  if h : 9 * blockOf i + 8 < cfg0.N then Pipeline.accAt (reset m c) (step m c) (9 * blockOf i) 8 h (placeOf i)
  else V m c (Pipeline.arrRef spec0 4) i

theorem index4 : ∀ t : Fin cfg0.N, win0_4.index t = ![0, t.val / 9] := (by decide +kernel : ∀ t : Fin grid0.N, _)

theorem flushed_eq (t : Fin cfg0.N) (hf : (cfg0.win 4).flush t = true) :
    (dats m 0 c).flushed 4 t = ((cfg0.win 4).blk t).view.read (Elt Ideal) (final m c) := by
  rw [flushed4, outs_eq]
  have hm : t.val % 9 = 8 := (flush0_4 t).mp hf
  have e0 : win0_4.index t (0 : Fin 2) = 0 := congrFun (index4 t) 0
  have e1 : win0_4.index t (1 : Fin 2) = t.val / 9 := congrFun (index4 t) 1
  funext y
  have hy0 : (y 0).val < 1024 := (y 0).isLt
  have hy1 : (y 1).val < 1152 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 1152 + 1 * (y 1).val := rfl
  rw [e0] at hb0
  rw [e1] at hb1
  have hr : blockOf (((cfg0.win 4).blk t).view.emb y) = t.val / 9 := by
    show (((cfg0.win 4).blk t).view.emb y 1).val / 1152 = _
    rw [hb1]; omega
  have hl : placeOf (((cfg0.win 4).blk t).view.emb y) = (cfg0.win 4).xinj (grid0.coords t) y := by
    funext a; apply Fin.ext
    match a with
    | ⟨0, _⟩ => show (((cfg0.win 4).blk t).view.emb y 0).val = (y 0).val; rw [hb0]; omega
    | ⟨1, _⟩ => show (((cfg0.win 4).blk t).view.emb y 1).val % 1152 = (y 1).val; rw [hb1]; omega
  show (Pipeline.accAt (reset m c) (step m c) (9 * (t.val / 9)) (t.val % 9) _) ((cfg0.win 4).xinj (grid0.coords t) y)
    = final m c (((cfg0.win 4).blk t).view.emb y)
  unfold final
  rw [dif_pos (by rw [hr]; have := t.isLt; have := Nat.div_add_mod t.val 9; omega), hl]
  have e : ∀ (b j : ℕ) (h : b + j < cfg0.N) (b' j' : ℕ) (h' : b' + j' < cfg0.N), b = b' → j = j' →
      Pipeline.accAt (reset m c) (step m c) b j h = Pipeline.accAt (reset m c) (step m c) b' j' h' := by
    intro b j h b' j' h' hb hj; subst hb; subst hj; rfl
  exact congrFun (e _ _ _ _ _ _ (by rw [hr]) hm) _

/-- The blocks written back are the whole array. -/
theorem covered (i : S1024x10368.Idx) : ∃ t : Fin cfg0.N, (cfg0.win 4).flush t = true ∧ i ∈ ((cfg0.win 4).blk t).view.set := by
  have b0 : (i 0).val < 1024 := (i 0).isLt
  have b1 : (i 1).val < 10368 := (i 1).isLt
  have hN : 9 * ((i 1).val / 1152) + 8 < cfg0.N := lt_of_lt_of_eq (by omega : 9 * ((i 1).val / 1152) + 8 < 81) (show 81 = cfg0.N from N_0.symm)
  refine ⟨⟨9 * ((i 1).val / 1152) + 8, hN⟩, (flush0_4 _).mpr (by (try dsimp only); omega), ?_⟩
  show i ∈ ((View.whole main_v0).slice (win0_4.rect ⟨9 * ((i 1).val / 1152) + 8, hN⟩)).set
  rw [View.set_slice_whole, Rect.mem_set_unit]
  have e := index4 ⟨9 * ((i 1).val / 1152) + 8, hN⟩
  have e0 := congrFun e 0
  have e1 := congrFun e 1
  have d : (9 * ((i 1).val / 1152) + 8) / 9 = (i 1).val / 1152 := by omega
  intro a
  match a with
  | ⟨0, _⟩ =>
    show win0_4.index ⟨9 * ((i 1).val / 1152) + 8, hN⟩ (0 : Fin 2) * 1024 ≤ (i 0).val
      ∧ (i 0).val < win0_4.index ⟨9 * ((i 1).val / 1152) + 8, hN⟩ (0 : Fin 2) * 1024 + 1024
    rw [e0]
    show 0 * 1024 ≤ (i 0).val ∧ (i 0).val < 0 * 1024 + 1024
    omega
  | ⟨1, _⟩ =>
    show win0_4.index ⟨9 * ((i 1).val / 1152) + 8, hN⟩ (1 : Fin 2) * 1152 ≤ (i 1).val
      ∧ (i 1).val < win0_4.index ⟨9 * ((i 1).val / 1152) + 8, hN⟩ (1 : Fin 2) * 1152 + 1152
    rw [e1]
    show (9 * ((i 1).val / 1152) + 8) / 9 * 1152 ≤ (i 1).val ∧ (i 1).val < (9 * ((i 1).val / 1152) + 8) / 9 * 1152 + 1152
    rw [d]
    omega

theorem final_eq : (dats m 0 c).arrAt 4 cfg0.N = final m c :=
  (dats m 0 c).arrAt_eq_of_cover 4 _ (fun t hf => flushed_eq m c t hf) covered

/-! ### The block as a sum -/

/-- The four arguments. -/
abbrev hid : S8192x1024.Idx → EReal := m ((c : Thread nD τ).loc main_arg0)
abbrev dproj : S8192x10368.Idx → EReal := m ((c : Thread nD τ).loc main_arg1)
abbrev hidCtx : S1024x1024.Idx → EReal := m ((c : Thread nD τ).loc main_arg2)
abbrev dprojCtx : S1024x10368.Idx → EReal := m ((c : Thread nD τ).loc main_arg3)

theorem index0 : ∀ t : Fin cfg0.N, t.val % 9 ≤ 7 → win0_0.index t = ![t.val % 9, 0] :=
  (by decide +kernel : ∀ t : Fin grid0.N, t.val % 9 ≤ 7 → win0_0.index t = ![t.val % 9, 0])
theorem index1 : ∀ t : Fin cfg0.N, t.val % 9 ≤ 7 → win0_1.index t = ![t.val % 9, t.val / 9] :=
  (by decide +kernel : ∀ t : Fin grid0.N, t.val % 9 ≤ 7 → win0_1.index t = ![t.val % 9, t.val / 9])
theorem index2 : ∀ t : Fin cfg0.N, win0_2.index t = ![0, 0] := (by decide +kernel : ∀ t : Fin grid0.N, _)
theorem index3 : ∀ t : Fin cfg0.N, win0_3.index t = ![0, t.val / 9] := (by decide +kernel : ∀ t : Fin grid0.N, _)

/-- The blocks of the arguments at a point. -/
abbrev left (t : Fin cfg0.N) : S1024x1024.Idx → EReal := iblk m c 0 t
abbrev right (t : Fin cfg0.N) : S1024x1152.Idx → EReal := iblk m c 1 t
abbrev leftCtx (t : Fin cfg0.N) : S1024x1024.Idx → EReal := iblk m c 2 t
abbrev rightCtx (t : Fin cfg0.N) : S1024x1152.Idx → EReal := iblk m c 3 t

/-- What the point `n` adds to the block of the result, at `i`. -/
def addend (n : ℕ) (i : S1024x1152.Idx) : EReal :=
  if h : n < cfg0.N then
    if n % 9 ≤ 7 then ∑ r : Fin 1024, (left m c ⟨n, h⟩ (ix2 r (i 0)) : EReal) * right m c ⟨n, h⟩ (ix2 r (i 1))
    else ∑ r : Fin 1024, (leftCtx m c ⟨n, h⟩ (ix2 r (i 0)) : EReal) * rightCtx m c ⟨n, h⟩ (ix2 r (i 1))
  else 0

theorem pay_apply (acc : FVec Ideal S1024x1152 .f32) (a : FVec Ideal S1024x1024 .bf16) (b : FVec Ideal S1024x1152 .bf16) (p : Fin 1024)
    (q : Fin 1152) : (k0_pay2 (F := Ideal) acc a b (ix2 p q) : EReal) = acc (ix2 p q) + ∑ r : Fin 1024, a (ix2 r p) * b (ix2 r q) := by
  pointwise [k0_pay2]

theorem pay_ctx : k0_pay3 (F := Ideal) = k0_pay2 (F := Ideal) := rfl

theorem zero_apply (i : S1024x1152.Idx) : (k0_pay1 (F := Ideal) i : EReal) = 0 := by
  pointwise [k0_pay1]

theorem reset_apply (n : ℕ) (h : n < cfg0.N) (hn : n % 9 = 0) (i : S1024x1152.Idx) : (reset m c n h i : EReal) = 0 + addend m c n i := by
  obtain ⟨p, q, rfl⟩ : ∃ (p : Fin 1024) (q : Fin 1152), i = ix2 p q := ⟨i 0, i 1, eq_ix2 i⟩
  unfold reset addend
  rw [pay_apply, zero_apply, dif_pos h, if_pos (by omega)]
  rfl

theorem step_apply (n : ℕ) (h : n < cfg0.N) (acc : S1024x1152.Idx → EReal) (i : S1024x1152.Idx) :
    (step m c n h acc i : EReal) = acc i + addend m c n i := by
  obtain ⟨p, q, rfl⟩ : ∃ (p : Fin 1024) (q : Fin 1152), i = ix2 p q := ⟨i 0, i 1, eq_ix2 i⟩
  unfold step addend
  rw [dif_pos h]
  by_cases h7 : n % 9 ≤ 7
  · rw [if_pos h7, if_pos h7, pay_apply]
    rfl
  · rw [if_neg h7, if_neg h7, pay_ctx, pay_apply]
    rfl

theorem blk0 (t : Fin cfg0.N) (h7 : t.val % 9 ≤ 7) (r p : Fin 1024) (p' : Fin 1024) (h : p'.val = 1024 * (0) + p.val) :
    iblk m c 0 t (ix2 r p) = hid m c (ix2 (tokenIn (t.val % 9) r) p') := by
  have h' := tokenIn_val (t.val % 9) (by omega) r
  show iblk m c 0 t (ix2 r p) = m ((c : Thread nD τ).loc main_arg0) _
  rw [← V_main_arg0 m c]
  blk_ext [iblk, index0 t h7, h', h]

theorem blk1 (t : Fin cfg0.N) (h7 : t.val % 9 ≤ 7) (r : Fin 1024) (q : Fin 1152) (q' : Fin 10368) (h : q'.val = 1152 * (t.val / 9) + q.val) :
    iblk m c 1 t (ix2 r q) = dproj m c (ix2 (tokenIn (t.val % 9) r) q') := by
  have h' := tokenIn_val (t.val % 9) (by omega) r
  show iblk m c 1 t (ix2 r q) = m ((c : Thread nD τ).loc main_arg1) _
  rw [← V_main_arg1 m c]
  blk_ext [iblk, index1 t h7, h', h]

theorem blk2 (t : Fin cfg0.N) (r p : Fin 1024) (p' : Fin 1024) (h : p'.val = 1024 * (0) + p.val) :
    iblk m c 2 t (ix2 r p) = hidCtx m c (ix2 r p') := by
  show iblk m c 2 t (ix2 r p) = m ((c : Thread nD τ).loc main_arg2) _
  rw [← V_main_arg2 m c]
  blk_ext [iblk, index2 t, h]

theorem blk3 (t : Fin cfg0.N) (r : Fin 1024) (q : Fin 1152) (q' : Fin 10368) (h : q'.val = 1152 * (t.val / 9) + q.val) :
    iblk m c 3 t (ix2 r q) = dprojCtx m c (ix2 r q') := by
  show iblk m c 3 t (ix2 r q) = m ((c : Thread nD τ).loc main_arg3) _
  rw [← V_main_arg3 m c]
  blk_ext [iblk, index3 t, h]

/-- The result: the sum over the tokens and the context tokens. -/
def product (a : S8192x1024.Idx → EReal) (b : S8192x10368.Idx → EReal) (a' : S1024x1024.Idx → EReal) (b' : S1024x10368.Idx → EReal) :
    S1024x10368.Idx → EReal := fun i =>
  ∑ n : Fin 8192, a (ix2 n (i 0)) * b (ix2 n (i 1)) + ∑ n : Fin 1024, a' (ix2 n (i 0)) * b' (ix2 n (i 1))

theorem addend_token (q s : ℕ) (hq : q < 9) (hs : s < 8) (i : S1024x10368.Idx) (hi : blockOf i = q) :
    addend m c (9 * q + s) (placeOf i) = ∑ r : Fin 1024, hid m c (ix2 (tokenIn s r) (i 0)) * dproj m c (ix2 (tokenIn s r) (i 1)) := by
  have hN : 9 * q + s < cfg0.N := lt_of_lt_of_eq (by omega : 9 * q + s < 81) (show 81 = cfg0.N from N_0.symm)
  have e1 : (9 * q + s) % 9 = s := by omega
  have e2 : (9 * q + s) / 9 = q := by omega
  have b1 : (i 1).val < 10368 := (i 1).isLt
  unfold blockOf at hi
  unfold addend
  rw [dif_pos hN, if_pos (by omega)]
  refine Finset.sum_congr rfl fun r _ => ?_
  have h0 := blk0 m c ⟨9 * q + s, hN⟩ (by show (9 * q + s) % 9 ≤ 7; omega) r (placeOf i 0) (i 0) (by
    show (i 0).val = 1024 * (0) + (i 0).val
    omega)
  have h1 := blk1 m c ⟨9 * q + s, hN⟩ (by show (9 * q + s) % 9 ≤ 7; omega) r (placeOf i 1) (i 1) (by
    show (i 1).val = 1152 * ((9 * q + s) / 9) + (i 1).val % 1152
    omega)
  have e : (⟨9 * q + s, hN⟩ : Fin cfg0.N).val % 9 = s := e1
  rw [e] at h0 h1
  exact congrArg₂ (· * ·) h0 h1

theorem addend_context (q : ℕ) (hq : q < 9) (i : S1024x10368.Idx) (hi : blockOf i = q) :
    addend m c (9 * q + 8) (placeOf i) = ∑ r : Fin 1024, hidCtx m c (ix2 r (i 0)) * dprojCtx m c (ix2 r (i 1)) := by
  have hN : 9 * q + 8 < cfg0.N := lt_of_lt_of_eq (by omega : 9 * q + 8 < 81) (show 81 = cfg0.N from N_0.symm)
  have b1 : (i 1).val < 10368 := (i 1).isLt
  unfold blockOf at hi
  unfold addend
  rw [dif_pos hN, if_neg (by omega)]
  refine Finset.sum_congr rfl fun r _ => ?_
  have h0 := blk2 m c ⟨9 * q + 8, hN⟩ r (placeOf i 0) (i 0) (by
    show (i 0).val = 1024 * (0) + (i 0).val
    omega)
  have h1 := blk3 m c ⟨9 * q + 8, hN⟩ r (placeOf i 1) (i 1) (by
    show (i 1).val = 1152 * ((9 * q + 8) / 9) + (i 1).val % 1152
    omega)
  exact congrArg₂ (· * ·) h0 h1

theorem result : final m c = product (hid m c) (dproj m c) (hidCtx m c) (dprojCtx m c) := funext fun i => by
  have b1 : (i 1).val < 10368 := (i 1).isLt
  have hq : blockOf i < 9 := by unfold blockOf; omega
  have hN : 9 * blockOf i + 8 < cfg0.N := lt_of_lt_of_eq (by omega : 9 * blockOf i + 8 < 81) (show 81 = cfg0.N from N_0.symm)
  unfold final
  rw [dif_pos hN]
  refine (Pipeline.accAt_add_apply (β := EReal) (reset m c) (step m c) (fun _ => 0) (addend m c) (9 * blockOf i) 8
    (fun h j => reset_apply m c _ h (by omega) j) (fun n h acc j _ _ => step_apply m c n h acc j) 8 (Nat.le_refl 8) hN (placeOf i)).trans ?_
  rw [zero_add, Finset.sum_range_succ, addend_context m c _ hq i rfl]
  unfold product
  rw [← sum_tokens]
  refine congrArg (· + _) ?_
  exact Finset.sum_congr rfl fun s hs => addend_token m c _ s hq (Finset.mem_range.mp hs) i rfl

/-- The program ends with its arguments as they were and its counters at zero. -/
theorem frame_ideal : Cert.quiescent_Kernel4Ideal (hKernel4Ideal := Cert.Kernel4Ideal.Gen.facts) := fun m ρ _ =>
  Cert.Kernel4Ideal.Gen.frame (F := Ideal) m ρ

/-- The two body tables are one. -/
theorem defs_eq : Cert.Kernel4.defs₀ (F := Bits) = Cert.Kernel4Ideal.defs₀ (F := Bits) := by
  unfold Cert.Kernel4.defs₀ Cert.Kernel4Ideal.defs₀
  refine congrArg Defs.onTc ?_
  funext l x
  match l, x with
  | 0, (t, s) => rfl

/-- So does the program as it is run. -/
theorem frame_kernel : Cert.quiescent_Kernel4 (hKernel4 := Cert.Kernel4.Gen.facts) := by
  intro m ρ _
  have h := Cert.Kernel4Ideal.Gen.frame (F := Bits) m ρ
  unfold Cert.Kernel4Ideal.defs at h
  unfold Cert.Kernel4.defs
  rw [defs_eq]
  exact h

end Kernel

/-- The reference runs, its arguments end unchanged and every counter at zero. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Reference4Ideal.Read in
theorem reference_result (a : Cert.Kernel4Ideal.S8192x1024.Idx → EReal) (b : Cert.Kernel4Ideal.S8192x10368.Idx → EReal)
    (a' : Cert.Kernel4Ideal.S1024x1024.Idx → EReal) (b' : Cert.Kernel4Ideal.S1024x10368.Idx → EReal) :
    val_main_v11 (F := Ideal) a b a' b' = product a b a' b' := funext fun i => by
  rw [val_main_v11_apply, val_main_v8_apply, val_main_v10_apply, val_main_v7_apply, val_main_v9_apply]
  unfold product
  refine (add_comm (G := EReal) _ _).trans (congrArg₂ (· + ·) (Finset.sum_congr rfl fun n _ => ?_) (Finset.sum_congr rfl fun n _ => ?_))
  all_goals
    rw [mul_comm]
    refine congrArg₂ (· * ·) (congrArg _ ?_) (congrArg _ ?_)
    · exact funext fun k => by fin_cases k <;> rfl
    · exact funext fun k => by fin_cases k <;> rfl

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => product (hid m c) (dproj m c) (hidCtx m c) (dprojCtx m c), ?_, ?_⟩
  · refine (θ_run Cert.Kernel4Ideal.defs _ _).mono (fun r h c => ?_) (Cert.Kernel4Ideal.Value.run_blocks (F := Ideal) m ρ)
    exact ⟨(h c).1.trans ((final_eq m c).trans (result m c)), (h c).2⟩
  · refine (θ_run Cert.Reference4Ideal.defs _ _).mono (fun r h c => ?_) (Cert.Reference4Ideal.Value.run (F := Ideal) m' ρ')
    refine ⟨(h c).1.trans ?_, (h c).2⟩
    rw [(hagree c).1, (hagree c).2.1, (hagree c).2.2.1, (hagree c).2.2.2]
    exact reference_result _ _ _ _

end Cert.DwIn

end
-- ==== Proof.InFwd.lean ====
/-
  The input projection of the tokens: each row of the result is the modulated layer normalisation of a token's row, times the
  weights, which the first grid point copies and the later ones find where it left them.
-/
module

public import proofs.«01_k».proof.Proof.Inputs
public import proofs.«01_k».proof.Proof.Gen.Kernel5
public import proofs.«01_k».proof.Proof.Gen.Kernel5Ideal.Value
public import proofs.«01_k».proof.Proof.Gen.Reference5Ideal.Read
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

namespace Cert.InFwd

open Idealize.ShloMosaic Idealize.ShloMosaic.TcCoe Idealize.ShloMosaic.Tactic Idealize.SL.Sem
open Cert.Step (Row mean cen vareps rstd norm rowOf)

/-- A token's row, normalised and modulated. -/
def modulated (x shift scale : Row 1024) : Row 1024 := fun j => norm x j * (1 + scale j) + shift j

section Kernel

open Cert.Kernel5Ideal Cert.Kernel5Ideal.Gen Cert.Kernel5Ideal.Value

/-! ### What the body leaves in its blocks at a point -/

theorem hid_apply (x : FVec Ideal S128x1024 .f32) (sh sc : FVec Ideal S1x1x1x1024 .f32) (r : Fin 128) (j : Fin 1024) :
    (k0_pay3 (F := Ideal) x sh sc (ix2 r j) : EReal)
      = modulated (fun k => x (ix2 r k)) (fun k => sh (ix4 0 0 0 k)) (fun k => sc (ix4 0 0 0 k)) j := by
  pointwise [k0_pay3]; rfl

/-- The product's block: each row of the modulated block times the weights. -/
def prodOf (h : S128x1024.Idx → EReal) (w : S1024x10368.Idx → EReal) : S128x10368.Idx → EReal := fun i =>
  ∑ k : Fin 1024, h (ix2 (i 0) k) * w (ix2 k (i 1))

theorem start : (![0, 0] : Fin 2 → Nat) = fun _ => 0 := funext fun a => by fin_cases a <;> rfl
theorem start4 : (![0, 0, 0, 0] : Fin 4 → Nat) = fun _ => 0 := funext fun a => by fin_cases a <;> rfl

theorem pay1_apply (h : FVec Ideal S128x1024 .bf16) (w : FVec Ideal S1024x3456 .bf16) (p : Fin 128) (q : Fin 3456) :
    (k0_pay1 (F := Ideal) h w (ix2 p q) : EReal) = ∑ k : Fin 1024, h (ix2 p k) * w (ix2 k q) := by
  pointwise [k0_pay1]

theorem pay2_eq : k0_pay2 (F := Ideal) = k0_pay1 (F := Ideal) := rfl
theorem pay4_eq (x : FVec Ideal S128x1024 .f32) (sh sc : FVec Ideal S1x1x1x1024 .f32) (w : FVec Ideal S1024x3456 .bf16) :
    k0_pay4 (F := Ideal) x sh sc w = k0_pay1 (F := Ideal) (k0_pay3 (F := Ideal) x sh sc) w := rfl

/-- One of the three blocks of columns. -/
theorem cols (o : Nat) (ho : o + 3456 ≤ 10368) (h : FVec Ideal S128x1024 .bf16) (w : FVec Ideal S1024x3456 .bf16) (W : FVec Ideal S1024x10368 .bf16)
    (inb : ∀ a, (![0, o] : Fin 2 → Nat) a + S128x3456.size a ≤ S128x10368.size a)
    (hw : ∀ (k : Fin 1024) (q : Fin 3456), w (ix2 k q) = W (ix2 k ⟨o + q.val, by omega⟩)) (x : S128x3456.Idx) :
    k0_pay1 (F := Ideal) h w x = prodOf h W ((Rect.unit (s := S128x10368) ![0, o] S128x3456.size inb).emb x) := by
  obtain ⟨p, q, rfl⟩ : ∃ (p : Fin 128) (q : Fin 3456), x = ix2 p q := ⟨x 0, x 1, eq_ix2 x⟩
  rw [pay1_apply]
  unfold prodOf
  refine Finset.sum_congr rfl fun k _ => ?_
  have e0 : ((Rect.unit (s := S128x10368) ![0, o] S128x3456.size inb).emb (ix2 p q)) 0 = p := Fin.ext (by
    show 0 + 1 * p.val = p.val; omega)
  have e1 : ((Rect.unit (s := S128x10368) ![0, o] S128x3456.size inb).emb (ix2 p q)) 1 = (⟨o + q.val, by omega⟩ : Fin 10368) := Fin.ext (by
    show o + 1 * q.val = o + q.val; omega)
  rw [e0, e1, hw]

/-- A copy of the whole array, read at an index. -/
theorem copied (W : Vec Ideal S1024x10368 .bf16) (y : S1024x10368.Idx) :
    View.canon (Val := Elt Ideal) (e := .bf16) [(⟨Rect.whole S1024x10368, W⟩ : View.Piece (Elt Ideal) S1024x10368 .bf16)] y = W y := by
  have e := View.canon_cons_emb (Val := Elt Ideal) (e := .bf16) (Rect.whole S1024x10368) W [] y
  rw [Rect.emb_whole_apply] at e
  exact e

section Body

variable (c : Dev nD) (i : grid0.Coords) (arg1 : Memref sig .tc .vmem S128x1024 .f32) (harg1 : arg1.IsWhole)
  (arg2 : Memref sig .tc .vmem S1x1x1x1024 .f32) (harg2 : arg2.IsWhole) (arg3 : Memref sig .tc .vmem S1x1x1x1024 .f32) (harg3 : arg3.IsWhole)
  (arg5 : Memref sig .tc .vmem S128x10368 .f32) (harg5 : arg5.IsWhole) (arg6 : Memref sig .tc .vmem S128x1024 .bf16) (harg6 : arg6.IsWhole)
  (arg7 : Memref sig .tc .vmem S1024x10368 .bf16) (harg7 : arg7.IsWhole)
  (x0 : Vec Ideal S128x1024 .f32) (x1 : Vec Ideal S1x1x1x1024 .f32) (x2 : Vec Ideal S1x1x1x1024 .f32)
  (w : Vec Ideal S1024x10368 .bf16) (fh : HbBuf0 (F := Ideal) c hbM0_0)

theorem loads : k0_pay3 (F := Ideal)
      (View.readAt (Elt Ideal) arg1.view (Rect.unit ![0, 0] S128x1024.size inb_S128x1024_S128x1024_0_0).toLoadRect (harg1.unread x0))
      (View.readAt (Elt Ideal) arg2.view (Rect.unit ![0, 0, 0, 0] S1x1x1x1024.size inb_S1x1x1x1024_S1x1x1x1024_0_0_0_0).toLoadRect (harg2.unread x1))
      (View.readAt (Elt Ideal) arg3.view (Rect.unit ![0, 0, 0, 0] S1x1x1x1024.size inb_S1x1x1x1024_S1x1x1x1024_0_0_0_0).toLoadRect (harg3.unread x2))
    = k0_pay3 x0 x1 x2 := by
  simp only [View.readAt_eq_ld, harg1.read_unread, harg2.read_unread, harg3.read_unread, View.ld_unit_zero (S := S128x1024) start,
    View.ld_unit_zero (S := S1x1x1x1024) start4]

/-- A block of columns of the weights where an earlier point left them. -/
theorem kept_cols (o : Nat) (ho : o + 3456 ≤ 10368) (inb : ∀ a, (![0, o] : Fin 2 → Nat) a + S1024x3456.size a ≤ S1024x10368.size a)
    (k : Fin 1024) (q : Fin 3456) :
    View.readAt (Elt Ideal) arg7.view (Rect.unit (s := S1024x10368) ![0, o] S1024x3456.size inb).toLoadRect (harg7.unread w) (ix2 k q)
      = w (ix2 k ⟨o + q.val, by omega⟩) := by
  rw [View.readAt_eq_ld, harg7.read_unread]
  refine congrArg w (funext fun a => Fin.ext ?_)
  match a with
  | ⟨0, _⟩ => show 0 + 1 * k.val = k.val; omega
  | ⟨1, _⟩ => show o + 1 * q.val = o + q.val; omega

/-- A block of columns of the weights just copied. -/
theorem copied_cols (o : Nat) (ho : o + 3456 ≤ 10368) (inb : ∀ a, (![0, o] : Fin 2 → Nat) a + S1024x3456.size a ≤ S1024x10368.size a)
    (k : Fin 1024) (q : Fin 3456) :
    arg7.view.readCov [(⟨Rect.whole S1024x10368, w⟩ : View.Piece (Elt Ideal) S1024x10368 .bf16)]
      (Rect.unit (s := S1024x10368) ![0, o] S1024x3456.size inb).toLoadRect (ix2 k q) = w (ix2 k ⟨o + q.val, by omega⟩) := by
  rw [View.readCov_eq_canon']
  refine (copied w _).trans (congrArg w (funext fun a => Fin.ext ?_))
  match a with
  | ⟨0, _⟩ => show 0 + 1 * k.val = k.val; omega
  | ⟨1, _⟩ => show o + 1 * q.val = o + q.val; omega

theorem prod_later (hc0 : ¬cond0_0 i) :
    out0_B_3 c i arg1 harg1 arg2 harg2 arg3 harg3 arg5 harg5 arg6 harg6 arg7 harg7 hc0 x0 x1 x2 w fh = prodOf (k0_pay3 x0 x1 x2) w := by
  unfold out0_B_3
  have hcov := cover0_B_3 c i arg1 harg1 arg2 harg2 arg3 harg3 arg5 harg5 arg6 harg6 arg7 harg7 hc0 x0 x1 x2 w fh
  rw [View.read_writes_eq_canon _ _ _ hcov]
  funext y
  refine View.canon_apply_of_pieces (prodOf (k0_pay3 x0 x1 x2) w) _ (fun p hp x => ?_) y (hcov y)
  have hr : kernelRun0_B.sl.r c arg1 harg1 arg2 harg2 arg3 harg3 x0 x1 x2 = k0_pay3 x0 x1 x2 := loads arg1 harg1 arg2 harg2 arg3 harg3 x0 x1 x2
  unfold kernelRun0_B at hp
  dsimp only at hp
  simp only [List.mem_cons, List.not_mem_nil, or_false] at hp
  rcases hp with rfl | rfl | rfl
  · dsimp only
    rw [hr, pay2_eq]
    exact cols 6912 (by omega) _ _ w _ (fun k q => kept_cols arg7 harg7 w 6912 (by omega) _ k q) x
  · dsimp only
    rw [hr]
    exact cols 3456 (by omega) _ _ w _ (fun k q => kept_cols arg7 harg7 w 3456 (by omega) _ k q) x
  · dsimp only
    unfold kernelRun0_B.sl.r_1
    rw [pay4_eq, loads arg1 harg1 arg2 harg2 arg3 harg3 x0 x1 x2]
    exact cols 0 (by omega) _ _ w _ (fun k q => kept_cols arg7 harg7 w 0 (by omega) _ k q) x

theorem prod_first (hc0 : cond0_0 i) :
    out0_A_3 c i arg1 harg1 arg2 harg2 arg3 harg3 arg5 harg5 arg6 harg6 arg7 harg7 hc0 x0 x1 x2 fh = prodOf (k0_pay3 x0 x1 x2) fh := by
  unfold out0_A_3
  have hcov := cover0_A_3 c i arg1 harg1 arg2 harg2 arg3 harg3 arg5 harg5 arg6 harg6 arg7 harg7 hc0 x0 x1 x2 fh
  rw [View.read_writes_eq_canon _ _ _ hcov]
  funext y
  refine View.canon_apply_of_pieces (prodOf (k0_pay3 x0 x1 x2) fh) _ (fun p hp x => ?_) y (hcov y)
  have hr : kernelRun0_A.sl.r c arg1 harg1 arg2 harg2 arg3 harg3 x0 x1 x2 = k0_pay3 x0 x1 x2 := loads arg1 harg1 arg2 harg2 arg3 harg3 x0 x1 x2
  unfold kernelRun0_A at hp
  dsimp only at hp
  simp only [List.mem_cons, List.not_mem_nil, or_false] at hp
  rcases hp with rfl | rfl | rfl
  · dsimp only
    rw [hr, pay2_eq]
    exact cols 6912 (by omega) _ _ fh _ (fun k q => copied_cols arg7 fh 6912 (by omega) _ k q) x
  · dsimp only
    rw [hr]
    exact cols 3456 (by omega) _ _ fh _ (fun k q => copied_cols arg7 fh 3456 (by omega) _ k q) x
  · dsimp only
    unfold kernelRun0_A.sl.r_1
    rw [pay4_eq, loads arg1 harg1 arg2 harg2 arg3 harg3 x0 x1 x2]
    exact cols 0 (by omega) _ _ fh _ (fun k q => copied_cols arg7 fh 0 (by omega) _ k q) x

theorem hid_later (hc0 : ¬cond0_0 i) :
    out0_B_4 c i arg1 harg1 arg2 harg2 arg3 harg3 arg5 harg5 arg6 harg6 arg7 harg7 hc0 x0 x1 x2 w fh = k0_pay3 x0 x1 x2 := by
  unfold out0_B_4
  rw [View.read_writes_eq_canon _ _ _ (cover0_B_4 c i arg1 harg1 arg2 harg2 arg3 harg3 arg5 harg5 arg6 harg6 arg7 harg7 hc0 x0 x1 x2 w fh)]
  unfold kernelRun0_B
  dsimp only
  rw [View.canon_unit_zero start]
  exact loads arg1 harg1 arg2 harg2 arg3 harg3 x0 x1 x2

theorem hid_first (hc0 : cond0_0 i) :
    out0_A_4 c i arg1 harg1 arg2 harg2 arg3 harg3 arg5 harg5 arg6 harg6 arg7 harg7 hc0 x0 x1 x2 fh = k0_pay3 x0 x1 x2 := by
  unfold out0_A_4
  rw [View.read_writes_eq_canon _ _ _ (cover0_A_4 c i arg1 harg1 arg2 harg2 arg3 harg3 arg5 harg5 arg6 harg6 arg7 harg7 hc0 x0 x1 x2 fh)]
  unfold kernelRun0_A
  dsimp only
  rw [View.canon_unit_zero start]
  exact loads arg1 harg1 arg2 harg2 arg3 harg3 x0 x1 x2

theorem weights_first (hc0 : cond0_0 i) :
    sout0_A_0 c i arg1 harg1 arg2 harg2 arg3 harg3 arg5 harg5 arg6 harg6 arg7 harg7 hc0 x0 x1 x2 fh = fh := by
  unfold sout0_A_0
  rw [View.read_writes_eq_canon _ _ _ (scover0_A_0 c i arg1 harg1 arg2 harg2 arg3 harg3 arg5 harg5 arg6 harg6 arg7 harg7 hc0 x0 x1 x2 fh)]
  funext y
  exact copied fh y

end Body

variable (m : (ℓ : Loc nD τ sig) → Buf (Elt Ideal) ℓ) (c : Dev nD)

/-- The three arguments. -/
abbrev toks : S8192x1024.Idx → EReal := m ((c : Thread nD τ).loc main_arg0)
abbrev mods : S8x6x1x1024.Idx → EReal := m ((c : Thread nD τ).loc main_arg1)
abbrev wts : S1024x10368.Idx → EReal := m ((c : Thread nD τ).loc main_arg2)

/-- The weights stay where the first point copied them. -/
theorem weights_kept (n : ℕ) (h : n < cfg0.N) : (outsAt0 m c n h).2.2 = wts m c := by
  have hN : cfg0.N = 64 := N_0
  induction n with
  | zero =>
    rw [outsAt0_A m c ⟨0, h⟩ rfl]
    dsimp only
    rw [weights_first]
  | succ n ih =>
    rw [outsAt0_B m c ⟨n + 1, h⟩ (by show ¬(n + 1) % 64 = 0; omega)]
    dsimp only
    unfold sout0_B_0
    exact ih _

/-- The blocks of the arguments at a point. -/
abbrev blkX (t : Fin cfg0.N) : S128x1024.Idx → EReal := iblk m c 0 t
abbrev blkSh (t : Fin cfg0.N) : S1x1x1x1024.Idx → EReal := iblk m c 1 t
abbrev blkSc (t : Fin cfg0.N) : S1x1x1x1024.Idx → EReal := iblk m c 2 t

/-- What a point leaves in the two results' blocks. -/
theorem outs (t : Fin cfg0.N) :
    (outsAt0 m c t.val t.isLt).1 = prodOf (k0_pay3 (F := Ideal) (blkX m c t) (blkSh m c t) (blkSc m c t)) (wts m c)
      ∧ (outsAt0 m c t.val t.isLt).2.1 = k0_pay3 (F := Ideal) (blkX m c t) (blkSh m c t) (blkSc m c t) := by
  by_cases h0 : t.val % 64 = 0
  · rw [outsAt0_A m c t h0]
    dsimp only
    rw [prod_first, hid_first]
    exact ⟨congrArg _ (V_main_arg2 m c), rfl⟩
  · rw [outsAt0_B m c t h0]
    dsimp only
    rw [prod_later, hid_later, weights_kept]
    exact ⟨rfl, rfl⟩

theorem index0 : ∀ t : Fin cfg0.N, win0_0.index t = ![t.val, 0] := (by decide +kernel : ∀ t : Fin grid0.N, _)
theorem index1 : ∀ t : Fin cfg0.N, win0_1.index t = ![t.val / 16, 0, 0, 0] := (by decide +kernel : ∀ t : Fin grid0.N, _)
theorem index2 : ∀ t : Fin cfg0.N, win0_2.index t = ![t.val / 16, 1, 0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)

/-- Row `n` of the tokens, modulated by its batch element's shift and scale. -/
def hidRow (x : S8192x1024.Idx → EReal) (m4 : S8x6x1x1024.Idx → EReal) (n : Fin 8192) : Row 1024 :=
  modulated (fun k => x (ix2 n k)) (fun k => m4 (ix4 ⟨n.val / 2048, by omega⟩ 0 0 k)) (fun k => m4 (ix4 ⟨n.val / 2048, by omega⟩ 1 0 k))

/-- The two results. -/
def hidden (x : S8192x1024.Idx → EReal) (m4 : S8x6x1x1024.Idx → EReal) : S8192x1024.Idx → EReal := fun i => hidRow x m4 (i 0) (i 1)
def projected (x : S8192x1024.Idx → EReal) (m4 : S8x6x1x1024.Idx → EReal) (w : S1024x10368.Idx → EReal) : S8192x10368.Idx → EReal := fun i =>
  ∑ k : Fin 1024, hidRow x m4 (i 0) k * w (ix2 k (i 1))

set_option backward.proofsInPublic true in
/-- The row of the arguments that is row `r` of point `t`'s block. -/
abbrev rowAt (t : Fin cfg0.N) (r : Fin 128) : Fin 8192 := ⟨128 * t.val + r.val, by
  have h : t.val < 64 := lt_of_lt_of_eq t.isLt N_0
  omega⟩

theorem blkX_apply (t : Fin cfg0.N) (r : Fin 128) (k : Fin 1024) : blkX m c t (ix2 r k) = toks m c (ix2 (rowAt t r) k) := by
  show iblk m c 0 t (ix2 r k) = m ((c : Thread nD τ).loc main_arg0) _
  rw [← V_main_arg0 m c]
  blk_ext [iblk, index0 t]

set_option backward.proofsInPublic true in
/-- The batch element of point `t`'s rows. -/
abbrev batchAt (t : Fin cfg0.N) : Fin 8 := ⟨t.val / 16, by
  have h : t.val < 64 := lt_of_lt_of_eq t.isLt N_0
  omega⟩

theorem blkSh_apply (t : Fin cfg0.N) (k : Fin 1024) : blkSh m c t (ix4 0 0 0 k) = mods m c (ix4 (batchAt t) 0 0 k) := by
  show iblk m c 1 t (ix4 0 0 0 k) = m ((c : Thread nD τ).loc main_arg1) _
  rw [← V_main_arg1 m c]
  blk_ext [iblk, index1 t]

theorem blkSc_apply (t : Fin cfg0.N) (k : Fin 1024) : blkSc m c t (ix4 0 0 0 k) = mods m c (ix4 (batchAt t) 1 0 k) := by
  show iblk m c 2 t (ix4 0 0 0 k) = m ((c : Thread nD τ).loc main_arg1) _
  rw [← V_main_arg1 m c]
  blk_ext [iblk, index2 t]

theorem block_row (t : Fin cfg0.N) (r : Fin 128) (j : Fin 1024) :
    (k0_pay3 (F := Ideal) (blkX m c t) (blkSh m c t) (blkSc m c t) (ix2 r j) : EReal) = hidRow (toks m c) (mods m c) (rowAt t r) j := by
  have h : t.val < 64 := lt_of_lt_of_eq t.isLt N_0
  have e : (⟨(rowAt t r).val / 2048, by omega⟩ : Fin 8) = batchAt t := Fin.ext (by show (128 * t.val + r.val) / 2048 = t.val / 16; omega)
  rw [hid_apply]
  unfold hidRow
  simp only [e, blkX_apply, blkSh_apply, blkSc_apply]

theorem flushed3_eq (t : Fin cfg0.N) :
    (dats m 0 c).flushed 3 t = ((cfg0.win 3).blk t).view.read (Elt Ideal) (projected (toks m c) (mods m c) (wts m c)) := by
  rw [flushed3, (outs m c t).1]
  have i0 : win0_3.index t (0 : Fin 2) = t.val := congrFun (index3 t) 0
  have i1 : win0_3.index t (1 : Fin 2) = 0 := congrFun (index3 t) 1
  funext y
  have hy0 : (y 0).val < 128 := (y 0).isLt
  have hy1 : (y 1).val < 10368 := (y 1).isLt
  have hb0 : (((cfg0.win 3).blk t).view.emb y 0).val = win0_3.index t (0 : Fin 2) * 128 + 1 * (y 0).val := rfl
  have hb1 : (((cfg0.win 3).blk t).view.emb y 1).val = win0_3.index t (1 : Fin 2) * 10368 + 1 * (y 1).val := rfl
  rw [i0] at hb0
  rw [i1] at hb1
  have e0 : ((cfg0.win 3).blk t).view.emb y 0 = rowAt t ⟨(y 0).val, hy0⟩ := Fin.ext (by rw [hb0]; show _ = 128 * t.val + (y 0).val; omega)
  have e1 : ((cfg0.win 3).blk t).view.emb y 1 = (⟨(y 1).val, hy1⟩ : Fin 10368) := Fin.ext (by rw [hb1]; show _ = (y 1).val; omega)
  show prodOf _ _ ((cfg0.win 3).xinj (grid0.coords t) y) = projected _ _ _ (((cfg0.win 3).blk t).view.emb y)
  unfold prodOf projected
  rw [e0, e1]
  refine Finset.sum_congr rfl fun k _ => ?_
  exact congrArg₂ (· * ·) (block_row m c t ⟨(y 0).val, hy0⟩ k) rfl

theorem flushed4_eq (t : Fin cfg0.N) :
    (dats m 0 c).flushed 4 t = ((cfg0.win 4).blk t).view.read (Elt Ideal) (hidden (toks m c) (mods m c)) := by
  rw [flushed4, (outs m c t).2]
  have i0 : win0_4.index t (0 : Fin 2) = t.val := congrFun (index4 t) 0
  have i1 : win0_4.index t (1 : Fin 2) = 0 := congrFun (index4 t) 1
  funext y
  have hy0 : (y 0).val < 128 := (y 0).isLt
  have hy1 : (y 1).val < 1024 := (y 1).isLt
  have hb0 : (((cfg0.win 4).blk t).view.emb y 0).val = win0_4.index t (0 : Fin 2) * 128 + 1 * (y 0).val := rfl
  have hb1 : (((cfg0.win 4).blk t).view.emb y 1).val = win0_4.index t (1 : Fin 2) * 1024 + 1 * (y 1).val := rfl
  rw [i0] at hb0
  rw [i1] at hb1
  have e0 : ((cfg0.win 4).blk t).view.emb y 0 = rowAt t ⟨(y 0).val, hy0⟩ := Fin.ext (by rw [hb0]; show _ = 128 * t.val + (y 0).val; omega)
  have e1 : ((cfg0.win 4).blk t).view.emb y 1 = (⟨(y 1).val, hy1⟩ : Fin 1024) := Fin.ext (by rw [hb1]; show _ = (y 1).val; omega)
  show k0_pay3 (F := Ideal) _ _ _ ((cfg0.win 4).xinj (grid0.coords t) y) = hidden _ _ (((cfg0.win 4).blk t).view.emb y)
  unfold hidden
  rw [e0, e1]
  refine Eq.trans (congrArg _ ?_) (block_row m c t ⟨(y 0).val, hy0⟩ ⟨(y 1).val, hy1⟩)
  funext a
  match a with
  | ⟨0, _⟩ => rfl
  | ⟨1, _⟩ => rfl

/-- The blocks written back are the whole arrays. -/
theorem covered3 (i : S8192x10368.Idx) : ∃ t : Fin cfg0.N, (cfg0.win 3).flush t = true ∧ i ∈ ((cfg0.win 3).blk t).view.set := by
  have b0 : (i 0).val < 8192 := (i 0).isLt
  have b1 : (i 1).val < 10368 := (i 1).isLt
  have hN : (i 0).val / 128 < cfg0.N := lt_of_lt_of_eq (by omega : (i 0).val / 128 < 64) (show 64 = cfg0.N from N_0.symm)
  refine ⟨⟨(i 0).val / 128, hN⟩, flush0_3 _, ?_⟩
  show i ∈ ((View.whole main_v0_0).slice (win0_3.rect ⟨(i 0).val / 128, hN⟩)).set
  rw [View.set_slice_whole, Rect.mem_set_unit]
  have e := index3 ⟨(i 0).val / 128, hN⟩
  have e0 := congrFun e 0
  have e1 := congrFun e 1
  intro a
  match a with
  | ⟨0, _⟩ =>
    show win0_3.index ⟨(i 0).val / 128, hN⟩ (0 : Fin 2) * 128 ≤ (i 0).val
      ∧ (i 0).val < win0_3.index ⟨(i 0).val / 128, hN⟩ (0 : Fin 2) * 128 + 128
    rw [e0]
    show (i 0).val / 128 * 128 ≤ (i 0).val ∧ (i 0).val < (i 0).val / 128 * 128 + 128
    omega
  | ⟨1, _⟩ =>
    show win0_3.index ⟨(i 0).val / 128, hN⟩ (1 : Fin 2) * 10368 ≤ (i 1).val
      ∧ (i 1).val < win0_3.index ⟨(i 0).val / 128, hN⟩ (1 : Fin 2) * 10368 + 10368
    rw [e1]
    show 0 * 10368 ≤ (i 1).val ∧ (i 1).val < 0 * 10368 + 10368
    omega

theorem covered4 (i : S8192x1024.Idx) : ∃ t : Fin cfg0.N, (cfg0.win 4).flush t = true ∧ i ∈ ((cfg0.win 4).blk t).view.set := by
  have b0 : (i 0).val < 8192 := (i 0).isLt
  have b1 : (i 1).val < 1024 := (i 1).isLt
  have hN : (i 0).val / 128 < cfg0.N := lt_of_lt_of_eq (by omega : (i 0).val / 128 < 64) (show 64 = cfg0.N from N_0.symm)
  refine ⟨⟨(i 0).val / 128, hN⟩, flush0_4 _, ?_⟩
  show i ∈ ((View.whole main_v0_1).slice (win0_4.rect ⟨(i 0).val / 128, hN⟩)).set
  rw [View.set_slice_whole, Rect.mem_set_unit]
  have e := index4 ⟨(i 0).val / 128, hN⟩
  have e0 := congrFun e 0
  have e1 := congrFun e 1
  intro a
  match a with
  | ⟨0, _⟩ =>
    show win0_4.index ⟨(i 0).val / 128, hN⟩ (0 : Fin 2) * 128 ≤ (i 0).val
      ∧ (i 0).val < win0_4.index ⟨(i 0).val / 128, hN⟩ (0 : Fin 2) * 128 + 128
    rw [e0]
    show (i 0).val / 128 * 128 ≤ (i 0).val ∧ (i 0).val < (i 0).val / 128 * 128 + 128
    omega
  | ⟨1, _⟩ =>
    show win0_4.index ⟨(i 0).val / 128, hN⟩ (1 : Fin 2) * 1024 ≤ (i 1).val
      ∧ (i 1).val < win0_4.index ⟨(i 0).val / 128, hN⟩ (1 : Fin 2) * 1024 + 1024
    rw [e1]
    show 0 * 1024 ≤ (i 1).val ∧ (i 1).val < 0 * 1024 + 1024
    omega

theorem final3_eq : (dats m 0 c).arrAt 3 cfg0.N = projected (toks m c) (mods m c) (wts m c) :=
  (dats m 0 c).arrAt_eq_of_cover 3 _ (fun t _ => flushed3_eq m c t) covered3
theorem final4_eq : (dats m 0 c).arrAt 4 cfg0.N = hidden (toks m c) (mods m c) :=
  (dats m 0 c).arrAt_eq_of_cover 4 _ (fun t _ => flushed4_eq m c t) covered4

/-- The program ends with its arguments as they were and its counters at zero. -/
theorem frame_ideal : Cert.quiescent_Kernel5Ideal (hKernel5Ideal := Cert.Kernel5Ideal.Gen.facts) := fun m ρ _ =>
  Cert.Kernel5Ideal.Gen.frame (F := Ideal) m ρ

/-- The two body tables are one. -/
theorem defs_eq : Cert.Kernel5.defs₀ (F := Bits) = Cert.Kernel5Ideal.defs₀ (F := Bits) := by
  unfold Cert.Kernel5.defs₀ Cert.Kernel5Ideal.defs₀
  refine congrArg Defs.onTc ?_
  funext l x
  match l, x with
  | 0, (t, s) => rfl

/-- So does the program as it is run. -/
theorem frame_kernel : Cert.quiescent_Kernel5 (hKernel5 := Cert.Kernel5.Gen.facts) := by
  intro m ρ _
  have h := Cert.Kernel5Ideal.Gen.frame (F := Bits) m ρ
  unfold Cert.Kernel5Ideal.defs at h
  unfold Cert.Kernel5.defs
  rw [defs_eq]
  exact h

end Kernel

/-- The reference runs, its arguments end unchanged and every counter at zero. -/
theorem frame_reference : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-! ### The reference's arithmetic read at an element -/

section Reference

open Cert.Reference5Ideal Cert.Reference5Ideal.Read

variable (x : FVec Ideal S8192x1024 .f32) (m4 : FVec Ideal S8x6x1x1024 .f32) (w : FVec Ideal S1024x10368 .bf16)
variable (b : Fin 4) (t : Fin 2048) (j : Fin 1024)

/-- The token's row. -/
abbrev tokRow : Row 1024 := fun k => x (ix2 (rowOf b t) k)

theorem ref_cen : (val_main_v10 (F := Ideal) x (ix3 b t j) : EReal) = cen (tokRow x b t) j := by
  pointwise [val_main_v10, val_main_v0, val_main_v9, val_main_v8, val_main_v6, val_main_v5, val_main_cst, val_main_v7, val_main_cst_0]
  rfl

theorem ref_cen' : (val_main_v17 (F := Ideal) x (ix3 b t j) : EReal) = cen (tokRow x b t) j := by
  pointwise [val_main_v17, val_main_v0, val_main_v16, val_main_v8, val_main_v6, val_main_v5, val_main_cst, val_main_v7, val_main_cst_0]
  rfl

theorem ref_var : (val_main_v19 (F := Ideal) x (ix3 b t 0) : EReal) = vareps (tokRow x b t) := by
  pointwise [val_main_v19, val_main_v15, val_main_v13, val_main_v12, val_main_v11, val_main_cst_1, val_main_v14, val_main_cst_2,
    val_main_v18, val_main_cst_3]
  simp only [ref_cen]; rfl

theorem ref_norm : (val_main_v22 (F := Ideal) x (ix3 b t j) : EReal) = norm (tokRow x b t) j := by
  pointwise [val_main_v22, val_main_v21, val_main_v20]
  rw [ref_var, ref_cen']; rfl

theorem ref_hid : (val_main_v28 (F := Ideal) x m4 (ix3 b t j) : EReal) = hidRow x m4 (rowOf b t) j := by
  have e : (⟨(rowOf b t).val / 2048, by omega⟩ : Fin 8) = ⟨b.val, by omega⟩ := Fin.ext (by show (b.val * 2048 + t.val) / 2048 = b.val; omega)
  pointwise [val_main_v28, val_main_v26, val_main_v25, val_main_v24, val_main_v23, val_main_cst_4, val_main_v4, val_main_v3,
    val_main_v27, val_main_v2, val_main_v1]
  rw [ref_norm]
  unfold hidRow modulated
  rw [e]

/-- Row `rowOf b t` belongs to batch element `b` and is its token `t`. -/
theorem row_batch (h : (rowOf b t).val / 2048 < 4) : (⟨(rowOf b t).val / 2048, h⟩ : Fin 4) = b := Fin.ext (by
  show (b.val * 2048 + t.val) / 2048 = b.val; omega)
theorem row_token (h : (rowOf b t).val % 2048 < 2048) : (⟨(rowOf b t).val % 2048, h⟩ : Fin 2048) = t := Fin.ext (by
  show (b.val * 2048 + t.val) % 2048 = t.val; omega)

theorem ref_hidden : val_main_v33 (F := Ideal) x m4 = hidden x m4 := funext fun i => by
  obtain ⟨n, j, rfl⟩ : ∃ (n : Fin 8192) (j : Fin 1024), i = ix2 n j := ⟨i 0, i 1, eq_ix2 i⟩
  obtain ⟨⟨b, t⟩, rfl⟩ := Cert.Step.rowEquiv.surjective n
  show (val_main_v33 (F := Ideal) x m4 (ix2 (rowOf b t) j) : EReal) = hidRow x m4 (rowOf b t) j
  pointwise [val_main_v33, val_main_v32]
  rw [row_batch, row_token]
  exact ref_hid ..

theorem ref_projected : val_main_v31 (F := Ideal) x m4 w = projected x m4 w := funext fun i => by
  obtain ⟨n, j, rfl⟩ : ∃ (n : Fin 8192) (j : Fin 10368), i = ix2 n j := ⟨i 0, i 1, eq_ix2 i⟩
  obtain ⟨⟨b, t⟩, rfl⟩ := Cert.Step.rowEquiv.surjective n
  show (val_main_v31 (F := Ideal) x m4 w (ix2 (rowOf b t) j) : EReal) = ∑ k : Fin 1024, hidRow x m4 (rowOf b t) k * w (ix2 k j)
  pointwise [val_main_v31, val_main_v30, val_main_v29]
  rw [row_batch, row_token]
  simp only [ref_hid]

end Reference

theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => projected (toks m c) (mods m c) (wts m c), fun c => hidden (toks m c) (mods m c), ?_, ?_⟩
  · refine (θ_run Cert.Kernel5Ideal.defs _ _).mono (fun r h c => ?_) (Cert.Kernel5Ideal.Value.run_blocks (F := Ideal) m ρ)
    exact ⟨(h c).1.trans (final3_eq m c), (h c).2.1.trans (final4_eq m c), (h c).2.2⟩
  · refine (θ_run Cert.Reference5Ideal.defs _ _).mono (fun r h c => ?_) (Cert.Reference5Ideal.Value.run (F := Ideal) m' ρ')
    refine ⟨(h c).1.trans ?_, (h c).2.1.trans ?_, (h c).2.2⟩
    · rw [(hagree c).1, (hagree c).2.1, (hagree c).2.2]
      exact ref_projected _ _ _
    · rw [(hagree c).1, (hagree c).2.1]
      exact ref_hidden _ _

end Cert.InFwd

end
-- ==== Proof.BwdBody.lean ====
/-
  The gradients through the input projection of the tokens: each row of the first result is the derivative of the token's layer
  normalisation at the projection's cotangent times the transposed weights, plus the residual's cotangent; the second result holds
  each batch element's sums over its tokens, for the shift and for the scale, which eight points of 256 tokens add up in a block.
-/
module

public import proofs.«01_k».proof.Proof.Pre
public import proofs.«01_k».proof.Proof.Inputs
public import proofs.«01_k».proof.Proof.Gen.Kernel6
public import proofs.«01_k».proof.Proof.Gen.Kernel6Ideal.Value
public import proofs.«01_k».proof.Proof.Gen.Reference6Ideal.Read
public import proofs.«01_k».proof.Defs
public import Idealize.ShloMosaic.Lib.Claim
public import Idealize.ShloMosaic.Lib.Pointwise
public import Idealize.ShloMosaic.Lib.ReduceAll
public import Idealize.ShloMosaic.Lib.Pipeline.ValueKit

@[expose] public section

set_option maxRecDepth 16384

noncomputable section

namespace Cert.InBwd

open Idealize.ShloMosaic Idealize.ShloMosaic.TcCoe Idealize.ShloMosaic.Tactic Idealize.SL.Sem
open Cert.Step (Row RealRow IsReal mean cen vareps rstd drstd norm dvar lnBwd lnBwdTwice lnBwdTwice_eq rowOf)

section Kernel

open Cert.Kernel6Ideal Cert.Kernel6Ideal.Gen Cert.Kernel6Ideal.Value

/-- The cotangent of a token's modulated row: the projection's cotangent times the transposed weights. -/
def grad (d : Row 10368) (w : S1024x10368.Idx → EReal) : Row 1024 := fun j => ∑ k : Fin 10368, d k * w (ix2 j k)

/-! ### The body's values at an element -/

section Payloads

variable (x : FVec Ideal S256x1024 .f32) (sc : FVec Ideal S1x1x1x1024 .f32) (d : FVec Ideal S256x10368 .bf16) (w : FVec Ideal S1024x10368 .bf16)
variable (r : Fin 256) (j : Fin 1024)

/-- A row of a block. -/
abbrev rowX : Row 1024 := fun k => x (ix2 r k)
abbrev rowD : Row 10368 := fun k => d (ix2 r k)

theorem pay4_apply : (k0_pay4 (F := Ideal) d w (ix2 r j) : EReal) = grad (rowD d r) w j := by
  pointwise [k0_pay4]; rfl

theorem pay5_apply : (k0_pay5 (F := Ideal) x (ix2 r j) : EReal) = cen (rowX x r) j := by
  pointwise [k0_pay5]; rfl

theorem pay6_apply : (k0_pay6 (F := Ideal) x (ix2 r 0) : EReal) = vareps (rowX x r) := by
  pointwise [k0_pay6]
  simp only [pay5_apply]; rfl

theorem pay7_apply : (k0_pay7 (F := Ideal) x (ix2 r 0) : EReal) = rstd (rowX x r) := by
  pointwise [k0_pay7]
  rw [pay6_apply]; rfl

theorem pay8_apply : (k0_pay8 (F := Ideal) x (ix2 r 0) : EReal) = drstd (rowX x r) := by
  pointwise [k0_pay8]
  rw [pay6_apply, pay7_apply]; rfl

theorem pay9_apply : (k0_pay9 (F := Ideal) d w (ix2 0 j) : EReal) = ∑ r, grad (rowD d r) w j := by
  pointwise [k0_pay9]
  simp only [pay4_apply]

theorem pay10_apply : (k0_pay10 (F := Ideal) d w x (ix2 0 j) : EReal) = ∑ r, norm (rowX x r) j * grad (rowD d r) w j := by
  pointwise [k0_pay10]
  simp only [pay4_apply, pay5_apply, pay7_apply]; rfl

theorem pay11_apply : (k0_pay11 (F := Ideal) sc (ix2 r j) : EReal) = 1 + sc (ix4 0 0 0 j) := by
  pointwise [k0_pay11]

/-- The block of the first result. -/
abbrev rowsOf (res : FVec Ideal S256x1024 .f32) : FVec Ideal S256x1024 .f32 :=
  k0_pay12 (F := Ideal) (k0_pay4 d w) (k0_pay5 x) (k0_pay7 x) (k0_pay8 x) (k0_pay11 sc) res

theorem rows_apply (res : FVec Ideal S256x1024 .f32) :
    (rowsOf x sc d w res (ix2 r j) : EReal)
      = lnBwd (rowX x r) (fun i => grad (rowD d r) w i * (1 + sc (ix4 0 0 0 i))) j + res (ix2 r j) := by
  pointwise [k0_pay12]
  simp only [pay4_apply, pay5_apply, pay7_apply, pay8_apply, pay11_apply, Fin.sum_univ_one, Fin.isValue]
  rfl

theorem pay1_apply (i : S1x2x1024.Idx) : (k0_pay1 (F := Ideal) i : EReal) = 0 := by
  pointwise [k0_pay1]

theorem pay2_apply (v : FVec Ideal S1x1024 .f32) (acc : FVec Ideal S1x1x1024 .f32) :
    (k0_pay2 (F := Ideal) v acc (ix3 0 0 j) : EReal) = acc (ix3 0 0 j) + v (ix2 0 j) := by
  pointwise [k0_pay2]

theorem pay3_eq : k0_pay3 (F := Ideal) = k0_pay2 (F := Ideal) := rfl

/-- What a point adds to the block of the second result. -/
def contrib : S1x2x1024.Idx → EReal := fun i =>
  if (i 1).val = 0 then ∑ r, grad (rowD d r) w (i 2) else ∑ r, norm (rowX x r) (i 2) * grad (rowD d r) w (i 2)

end Payloads

/-! ### What the body leaves in its blocks at a point -/

theorem start : (![0, 0] : Fin 2 → Nat) = fun _ => 0 := funext fun a => by fin_cases a <;> rfl
theorem start3 : (![0, 0, 0] : Fin 3 → Nat) = fun _ => 0 := funext fun a => by fin_cases a <;> rfl
theorem start4 : (![0, 0, 0, 0] : Fin 4 → Nat) = fun _ => 0 := funext fun a => by fin_cases a <;> rfl

/-- The two rows of the second result's block. -/
abbrev row0 : Rect S1x2x1024 := Rect.unit ![0, 0, 0] S1x1x1024.size inb_S1x2x1024_S1x1x1024_0_0_0
abbrev row1 : Rect S1x2x1024 := Rect.unit ![0, 1, 0] S1x1x1024.size inb_S1x2x1024_S1x1x1024_0_1_0

theorem row0_emb (j : Fin 1024) : row0.emb (ix3 0 0 j) = ix3 0 0 j := funext fun a => Fin.ext (by
  match a with
  | ⟨0, _⟩ => rfl
  | ⟨1, _⟩ => rfl
  | ⟨2, _⟩ => show 0 + 1 * j.val = j.val; omega)
theorem row1_emb (j : Fin 1024) : row1.emb (ix3 0 0 j) = ix3 0 1 j := funext fun a => Fin.ext (by
  match a with
  | ⟨0, _⟩ => rfl
  | ⟨1, _⟩ => rfl
  | ⟨2, _⟩ => show 0 + 1 * j.val = j.val; omega)

theorem not_mem_row0 (j : Fin 1024) : ix3 0 1 j ∉ row0.set := fun h => by
  have := (Rect.mem_set_unit.mp h) 1
  have h2 : 1 < 0 + 1 := this.2
  omega
theorem not_mem_row1 (j : Fin 1024) : ix3 0 0 j ∉ row1.set := fun h => by
  have := (Rect.mem_set_unit.mp h) 1
  have h1 : 1 ≤ 0 := this.1
  omega

/-- A block whose two rows were written last, row 1 after row 0. -/
theorem two_rows (u v : S1x1x1024.Idx → EReal) (L : List (View.Piece (Elt Ideal) S1x2x1024 .f32)) (G : S1x2x1024.Idx → EReal)
    (h0 : ∀ j, u (ix3 0 0 j) = G (ix3 0 0 j)) (h1 : ∀ j, v (ix3 0 0 j) = G (ix3 0 1 j)) :
    View.canon (Val := Elt Ideal) (e := .f32) (⟨row1, v⟩ :: ⟨row0, u⟩ :: L) = G := by
  funext y
  obtain ⟨a, i, j, rfl⟩ : ∃ (a : Fin 1) (i : Fin 2) (j : Fin 1024), y = ix3 a i j := ⟨y 0, y 1, y 2, eq_ix3 y⟩
  obtain rfl : a = 0 := Subsingleton.elim _ _
  rcases (by omega : i = 0 ∨ i = 1) with rfl | rfl
  · have e := View.canon_cons_of_not_mem (Val := Elt Ideal) (e := .f32) ⟨row1, v⟩ (⟨row0, u⟩ :: L) (not_mem_row1 j)
    have e' := View.canon_cons_emb (Val := Elt Ideal) (e := .f32) row0 u L (ix3 0 0 j)
    rw [row0_emb] at e'
    rw [e, e', h0]
  · have e := View.canon_cons_emb (Val := Elt Ideal) (e := .f32) row1 v (⟨row0, u⟩ :: L) (ix3 0 0 j)
    rw [row1_emb] at e
    rw [e, h1]

/-- A copy of the whole array, read at an index. -/
theorem copied (W : Vec Ideal S1024x10368 .bf16) (y : S1024x10368.Idx) :
    View.canon (Val := Elt Ideal) (e := .bf16) [(⟨Rect.whole S1024x10368, W⟩ : View.Piece (Elt Ideal) S1024x10368 .bf16)] y = W y := by
  have e := View.canon_cons_emb (Val := Elt Ideal) (e := .bf16) (Rect.whole S1024x10368) W [] y
  rw [Rect.emb_whole_apply] at e
  exact e

section Body

variable (c : Dev nD) (i : grid0.Coords) (arg1 : Memref sig .tc .vmem S256x1024 .f32) (harg1 : arg1.IsWhole)
  (arg2 : Memref sig .tc .vmem S1x1x1x1024 .f32) (harg2 : arg2.IsWhole) (arg3 : Memref sig .tc .vmem S1x1x1x1024 .f32) (harg3 : arg3.IsWhole)
  (arg4 : Memref sig .tc .vmem S256x10368 .bf16) (harg4 : arg4.IsWhole) (arg6 : Memref sig .tc .vmem S256x1024 .f32) (harg6 : arg6.IsWhole)
  (arg7 : Memref sig .tc .vmem S256x1024 .f32) (harg7 : arg7.IsWhole) (arg8 : Memref sig .tc .vmem S1x2x1024 .f32) (harg8 : arg8.IsWhole)
  (arg9 : Memref sig .tc .vmem S1024x10368 .bf16) (harg9 : arg9.IsWhole)
  (x0 : Vec Ideal S256x1024 .f32) (x1 x2 : Vec Ideal S1x1x1x1024 .f32) (x3 : Vec Ideal S256x10368 .bf16) (x4 : Vec Ideal S256x1024 .f32)
  (xo : Vec Ideal S1x2x1024 .f32) (w : Vec Ideal S1024x10368 .bf16) (fh : HbBuf0 (F := Ideal) c hbM0_0)

theorem load1 : View.readAt (Elt Ideal) arg1.view (Rect.unit ![0, 0] S256x1024.size inb_S256x1024_S256x1024_0_0).toLoadRect (harg1.unread x0) = x0 := by
  rw [View.readAt_eq_ld, harg1.read_unread, View.ld_unit_zero (S := S256x1024) start]
theorem load3 : View.readAt (Elt Ideal) arg3.view
    (Rect.unit ![0, 0, 0, 0] S1x1x1x1024.size inb_S1x1x1x1024_S1x1x1x1024_0_0_0_0).toLoadRect (harg3.unread x2) = x2 := by
  rw [View.readAt_eq_ld, harg3.read_unread, View.ld_unit_zero (S := S1x1x1x1024) start4]
theorem load4 : View.readAt (Elt Ideal) arg4.view (Rect.unit ![0, 0] S256x10368.size inb_S256x10368_S256x10368_0_0).toLoadRect (harg4.unread x3) = x3 := by
  rw [View.readAt_eq_ld, harg4.read_unread, View.ld_unit_zero (S := S256x10368) start]
theorem load9 : View.readAt (Elt Ideal) arg9.view (Rect.unit ![0, 0] S1024x10368.size inb_S1024x10368_S1024x10368_0_0).toLoadRect (harg9.unread w) = w := by
  rw [View.readAt_eq_ld, harg9.read_unread, View.ld_unit_zero (S := S1024x10368) start]
theorem load9_copied : arg9.view.readCov [(⟨Rect.whole S1024x10368, w⟩ : View.Piece (Elt Ideal) S1024x10368 .bf16)]
    (Rect.unit ![0, 0] S1024x10368.size inb_S1024x10368_S1024x10368_0_0).toLoadRect = w := by
  funext y
  rw [View.readCov_eq_canon']
  refine (copied w _).trans (congrArg w (funext fun a => Fin.ext ?_))
  match a with
  | ⟨0, _⟩ => show 0 + 1 * (y 0).val = (y 0).val; omega
  | ⟨1, _⟩ => show 0 + 1 * (y 1).val = (y 1).val; omega

/-- The rows of the second result's block as an earlier point left them. -/
theorem kept0 (j : Fin 1024) : View.readAt (Elt Ideal) arg8.view row0.toLoadRect (harg8.unread xo) (ix3 0 0 j) = xo (ix3 0 0 j) := by
  rw [View.readAt_eq_ld, harg8.read_unread]
  exact congrArg xo (row0_emb j)
theorem kept1 (j : Fin 1024) : View.readAt (Elt Ideal) arg8.view row1.toLoadRect (harg8.unread xo) (ix3 0 0 j) = xo (ix3 0 1 j) := by
  rw [View.readAt_eq_ld, harg8.read_unread]
  exact congrArg xo (row1_emb j)

/-- The zeros. -/
abbrev zeros : View.Piece (Elt Ideal) S1x2x1024 .f32 :=
  ⟨Rect.unit ![0, 0, 0] S1x2x1024.size inb_S1x2x1024_S1x2x1024_0_0_0, k0_pay1 (F := Ideal)⟩

theorem canon_zeros (y : S1x2x1024.Idx) : (View.canon (Val := Elt Ideal) (e := .f32) [zeros] y : EReal) = 0 := by
  rw [View.canon_unit_zero (S := S1x2x1024) start3]
  exact pay1_apply y

/-- Its rows as zeroed: row 1 is read after row 0 was written. -/
theorem zeroed0 (j : Fin 1024) : (arg8.view.readCov [zeros] row0.toLoadRect (ix3 0 0 j) : EReal) = 0 := by
  rw [View.readCov_eq_canon']
  exact canon_zeros _
theorem zeroed1 (u : S1x1x1024.Idx → EReal) (j : Fin 1024) :
    (arg8.view.readCov [(⟨row0, u⟩ : View.Piece (Elt Ideal) S1x2x1024 .f32), zeros] row1.toLoadRect (ix3 0 0 j) : EReal) = 0 := by
  rw [View.readCov_eq_canon']
  refine (View.canon_cons_of_not_mem _ _ ?_).trans (canon_zeros _)
  exact fun h => not_mem_row0 j (by rw [← row1_emb]; exact h)

theorem rows_first (hc0 : cond0_0 i) (hc1 : cond0_1 i) :
    out0_A_5 c i arg1 harg1 arg2 harg2 arg3 harg3 arg4 harg4 arg6 harg6 arg7 harg7 arg8 harg8 arg9 harg9 hc0 hc1 x0 x1 x2 x3 x4 fh
      = rowsOf x0 x2 x3 fh x4 := by
  unfold out0_A_5
  rw [View.read_writes_eq_canon _ _ _ (cover0_A_5 c i arg1 harg1 arg2 harg2 arg3 harg3 arg4 harg4 arg6 harg6 arg7 harg7 arg8 harg8 arg9 harg9 hc0 hc1
    x0 x1 x2 x3 x4 fh)]
  unfold kernelRun0_A
  dsimp only
  rw [View.canon_unit_zero start]
  sl_unfold_words
  rw [load1 arg1, load1 arg6, load3, load4]
  exact congrArg (fun W => rowsOf x0 x2 x3 W x4) (load9_copied arg9 fh)

theorem rows_later (hc0 : ¬cond0_0 i) (hc1 : ¬cond0_1 i) :
    out0_B_5 c i arg1 harg1 arg2 harg2 arg3 harg3 arg4 harg4 arg6 harg6 arg7 harg7 arg8 harg8 arg9 harg9 hc0 hc1 x0 x1 x2 x3 x4 xo w fh
      = rowsOf x0 x2 x3 w x4 := by
  unfold out0_B_5
  rw [View.read_writes_eq_canon _ _ _ (cover0_B_5 c i arg1 harg1 arg2 harg2 arg3 harg3 arg4 harg4 arg6 harg6 arg7 harg7 arg8 harg8 arg9 harg9 hc0 hc1
    x0 x1 x2 x3 x4 xo w fh)]
  unfold kernelRun0_B
  dsimp only
  rw [View.canon_unit_zero start]
  sl_unfold_words
  rw [load1 arg1, load1 arg6, load3, load4, load9]

theorem rows_batch (hc0 : ¬cond0_0 i) (hc1 : cond0_1 i) :
    out0_C_5 c i arg1 harg1 arg2 harg2 arg3 harg3 arg4 harg4 arg6 harg6 arg7 harg7 arg8 harg8 arg9 harg9 hc0 hc1 x0 x1 x2 x3 x4 w fh
      = rowsOf x0 x2 x3 w x4 := by
  unfold out0_C_5
  rw [View.read_writes_eq_canon _ _ _ (cover0_C_5 c i arg1 harg1 arg2 harg2 arg3 harg3 arg4 harg4 arg6 harg6 arg7 harg7 arg8 harg8 arg9 harg9 hc0 hc1
    x0 x1 x2 x3 x4 w fh)]
  unfold kernelRun0_C
  dsimp only
  rw [View.canon_unit_zero start]
  sl_unfold_words
  rw [load1 arg1, load1 arg6, load3, load4, load9]

theorem sums_first (hc0 : cond0_0 i) (hc1 : cond0_1 i) :
    out0_A_6 c i arg1 harg1 arg2 harg2 arg3 harg3 arg4 harg4 arg6 harg6 arg7 harg7 arg8 harg8 arg9 harg9 hc0 hc1 x0 x1 x2 x3 x4 fh
      = fun y => 0 + contrib x0 x3 fh y := by
  unfold out0_A_6
  rw [View.read_writes_eq_canon _ _ _ (cover0_A_6 c i arg1 harg1 arg2 harg2 arg3 harg3 arg4 harg4 arg6 harg6 arg7 harg7 arg8 harg8 arg9 harg9 hc0 hc1
    x0 x1 x2 x3 x4 fh)]
  unfold kernelRun0_A
  dsimp only
  sl_unfold_words
  rw [load1 arg1, load4]
  refine two_rows _ _ _ _ (fun j => ?_) (fun j => ?_)
  · rw [pay2_apply]
    exact congrArg₂ (· + ·) (zeroed0 arg8 j) ((congrArg (fun W => k0_pay9 (F := Ideal) x3 W (ix2 0 j)) (load9_copied arg9 fh)).trans (pay9_apply ..))
  · rw [pay3_eq, pay2_apply]
    exact congrArg₂ (· + ·) (zeroed1 arg8 _ j) ((congrArg (fun W => k0_pay10 (F := Ideal) x3 W x0 (ix2 0 j)) (load9_copied arg9 fh)).trans (pay10_apply ..))

theorem sums_later (hc0 : ¬cond0_0 i) (hc1 : ¬cond0_1 i) :
    out0_B_6 c i arg1 harg1 arg2 harg2 arg3 harg3 arg4 harg4 arg6 harg6 arg7 harg7 arg8 harg8 arg9 harg9 hc0 hc1 x0 x1 x2 x3 x4 xo w fh
      = fun y => xo y + contrib x0 x3 w y := by
  unfold out0_B_6
  rw [View.read_writes_eq_canon _ _ _ (cover0_B_6 c i arg1 harg1 arg2 harg2 arg3 harg3 arg4 harg4 arg6 harg6 arg7 harg7 arg8 harg8 arg9 harg9 hc0 hc1
    x0 x1 x2 x3 x4 xo w fh)]
  unfold kernelRun0_B
  dsimp only
  sl_unfold_words
  rw [load1 arg1, load4, load9]
  refine two_rows _ _ _ _ (fun j => ?_) (fun j => ?_)
  · rw [pay2_apply, pay9_apply]
    exact congrArg₂ (· + ·) (kept0 arg8 harg8 xo j) rfl
  · rw [pay3_eq, pay2_apply, pay10_apply]
    exact congrArg₂ (· + ·) (kept1 arg8 harg8 xo j) rfl

theorem sums_batch (hc0 : ¬cond0_0 i) (hc1 : cond0_1 i) :
    out0_C_6 c i arg1 harg1 arg2 harg2 arg3 harg3 arg4 harg4 arg6 harg6 arg7 harg7 arg8 harg8 arg9 harg9 hc0 hc1 x0 x1 x2 x3 x4 w fh
      = fun y => 0 + contrib x0 x3 w y := by
  unfold out0_C_6
  rw [View.read_writes_eq_canon _ _ _ (cover0_C_6 c i arg1 harg1 arg2 harg2 arg3 harg3 arg4 harg4 arg6 harg6 arg7 harg7 arg8 harg8 arg9 harg9 hc0 hc1
    x0 x1 x2 x3 x4 w fh)]
  unfold kernelRun0_C
  dsimp only
  sl_unfold_words
  rw [load1 arg1, load4, load9]
  refine two_rows _ _ _ _ (fun j => ?_) (fun j => ?_)
  · rw [pay2_apply, pay9_apply]
    exact congrArg₂ (· + ·) (zeroed0 arg8 j) rfl
  · rw [pay3_eq, pay2_apply, pay10_apply]
    exact congrArg₂ (· + ·) (zeroed1 arg8 _ j) rfl

theorem weights_first (hc0 : cond0_0 i) (hc1 : cond0_1 i) :
    sout0_A_0 c i arg1 harg1 arg2 harg2 arg3 harg3 arg4 harg4 arg6 harg6 arg7 harg7 arg8 harg8 arg9 harg9 hc0 hc1 x0 x1 x2 x3 x4 fh = fh := by
  unfold sout0_A_0
  rw [View.read_writes_eq_canon _ _ _ (scover0_A_0 c i arg1 harg1 arg2 harg2 arg3 harg3 arg4 harg4 arg6 harg6 arg7 harg7 arg8 harg8 arg9 harg9 hc0 hc1
    x0 x1 x2 x3 x4 fh)]
  funext y
  exact copied fh y

end Body

end Kernel

end Cert.InBwd

end
-- ==== Proof.InBwd.lean ====
/-
  The gradients through the input projection, over the whole grid: what the runs of `BwdBody` leave in the two results, the
  reference's two results as the same functions of the arguments, the frames, and the equality.
-/
module

public import proofs.«01_k».proof.Proof.BwdBody
public import proofs.«01_k».proof.Proof.Pre
public import proofs.«01_k».proof.Proof.InFwd
public import proofs.«01_k».proof.Proof.Inputs
public import proofs.«01_k».proof.Proof.Gen.Kernel6
public import proofs.«01_k».proof.Proof.Gen.Kernel6Ideal.Value
public import proofs.«01_k».proof.Proof.Gen.Reference6Ideal.Read
public import proofs.«01_k».proof.Defs
public import Idealize.ShloMosaic.Lib.Claim
public import Idealize.ShloMosaic.Lib.Pointwise
public import Idealize.ShloMosaic.Lib.ReduceAll
public import Idealize.ShloMosaic.Lib.Pipeline.ValueKit

@[expose] public section

set_option maxRecDepth 16384

noncomputable section

namespace Cert.InBwd

open Idealize.ShloMosaic Idealize.ShloMosaic.TcCoe Idealize.ShloMosaic.Tactic Idealize.SL.Sem
open Cert.Step (Row RealRow IsReal mean cen vareps rstd drstd norm dvar lnBwd lnBwdTwice lnBwdTwice_eq rowOf)

section Kernel

open Cert.Kernel6Ideal Cert.Kernel6Ideal.Gen Cert.Kernel6Ideal.Value

variable (m : (ℓ : Loc nD τ sig) → Buf (Elt Ideal) ℓ) (c : Dev nD)

/-- The five arguments. -/
abbrev toks : S8192x1024.Idx → EReal := m ((c : Thread nD τ).loc main_arg0)
abbrev mods : S8x6x1x1024.Idx → EReal := m ((c : Thread nD τ).loc main_arg1)
abbrev wts : S1024x10368.Idx → EReal := m ((c : Thread nD τ).loc main_arg2)
abbrev dproj : S8192x10368.Idx → EReal := m ((c : Thread nD τ).loc main_arg3)
abbrev dres : S8192x1024.Idx → EReal := m ((c : Thread nD τ).loc main_arg4)

/-- The blocks of the arguments at a point. -/
abbrev blkX (t : Fin cfg0.N) : S256x1024.Idx → EReal := iblk m c 0 t
abbrev blkSc (t : Fin cfg0.N) : S1x1x1x1024.Idx → EReal := iblk m c 2 t
abbrev blkD (t : Fin cfg0.N) : S256x10368.Idx → EReal := iblk m c 3 t
abbrev blkR (t : Fin cfg0.N) : S256x1024.Idx → EReal := iblk m c 4 t

/-- The weights stay where the first point copied them. -/
theorem weights_kept (n : ℕ) (h : n < cfg0.N) : (outsAt0 m c n h).2.2 = wts m c := by
  have hN : cfg0.N = 32 := N_0
  induction n with
  | zero =>
    rw [outsAt0_A m c ⟨0, h⟩ rfl rfl]
    dsimp only
    rw [weights_first]
  | succ n ih =>
    have h0 : ¬(n + 1) % 32 = 0 := by omega
    by_cases h1 : (n + 1) % 8 = 0
    · rw [outsAt0_C m c ⟨n + 1, h⟩ h0 h1]
      dsimp only
      unfold sout0_C_0
      exact ih _
    · rw [outsAt0_B m c ⟨n + 1, h⟩ h0 h1]
      dsimp only
      unfold sout0_B_0
      exact ih _

/-- What a point leaves in the first result's block. -/
theorem outs_rows (t : Fin cfg0.N) :
    (outsAt0 m c t.val t.isLt).1 = rowsOf (blkX m c t) (blkSc m c t) (blkD m c t) (wts m c) (blkR m c t) := by
  by_cases h0 : t.val % 32 = 0
  · rw [outsAt0_A m c t h0 (by omega)]
    dsimp only
    rw [rows_first]
  · by_cases h1 : t.val % 8 = 0
    · rw [outsAt0_C m c t h0 h1]
      dsimp only
      rw [rows_batch, weights_kept]
    · rw [outsAt0_B m c t h0 h1]
      dsimp only
      rw [rows_later, weights_kept]

/-- What a point adds to the second result's block. -/
def addend (n : ℕ) (y : S1x2x1024.Idx) : EReal :=
  if h : n < cfg0.N then contrib (blkX m c ⟨n, h⟩) (blkD m c ⟨n, h⟩) (wts m c) y else 0

theorem addend_eq (n : ℕ) (h : n < cfg0.N) : addend m c n = contrib (blkX m c ⟨n, h⟩) (blkD m c ⟨n, h⟩) (wts m c) := funext fun _ => dif_pos h

/-- What the first of a batch element's eight points leaves there, and each later one over what the point before left. -/
def reset (n : ℕ) (_ : n < cfg0.N) : Vec Ideal S1x2x1024 .f32 := fun y => (0 : EReal) + addend m c n y
def step (n : ℕ) (_ : n < cfg0.N) (acc : Vec Ideal S1x2x1024 .f32) : Vec Ideal S1x2x1024 .f32 := fun y => (acc y : EReal) + addend m c n y

theorem outs_sums (t : Fin cfg0.N) :
    (outsAt0 m c t.val t.isLt).2.1 = Pipeline.accAt (reset m c) (step m c) (8 * (t.val / 8)) (t.val % 8)
      (by have h1 := t.isLt; have h2 := Nat.div_add_mod t.val 8; omega) :=
  Pipeline.eq_accAt_of_mod (fun n h => (outsAt0 m c n h).2.1) 8 (reset m c) (step m c)
    (fun n h hn => by
      unfold reset
      rw [addend_eq m c n h]
      by_cases h0 : n % 32 = 0
      · rw [outsAt0_A m c ⟨n, h⟩ h0 hn]
        dsimp only
        rw [sums_first]
      · rw [outsAt0_C m c ⟨n, h⟩ h0 hn]
        dsimp only
        rw [sums_batch, weights_kept])
    (fun n h hn => by
      unfold step
      rw [addend_eq m c (n + 1) h, outsAt0_B m c ⟨n + 1, h⟩ (by (try dsimp only); omega) hn]
      dsimp only
      rw [sums_later, weights_kept]
      rfl)
    (by decide) t.val t.isLt _

theorem index0 : ∀ t : Fin cfg0.N, win0_0.index t = ![t.val, 0] := (by decide +kernel : ∀ t : Fin grid0.N, _)
theorem index2 : ∀ t : Fin cfg0.N, win0_2.index t = ![t.val / 8, 1, 0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val / 8, 0, 0] := (by decide +kernel : ∀ t : Fin grid0.N, _)

/-- The cotangent of row `n` of the modulated tokens. -/
abbrev gradRow (w : S1024x10368.Idx → EReal) (d : S8192x10368.Idx → EReal) (n : Fin 8192) : Row 1024 := grad (fun k => d (ix2 n k)) w

/-- Row `n` of the gradient of the tokens, the residual's cotangent not yet added. -/
def tokRow (x : S8192x1024.Idx → EReal) (m4 : S8x6x1x1024.Idx → EReal) (w : S1024x10368.Idx → EReal) (d : S8192x10368.Idx → EReal)
    (n : Fin 8192) : Row 1024 :=
  lnBwd (fun k => x (ix2 n k)) fun k => gradRow w d n k * (1 + m4 (ix4 ⟨n.val / 2048, by omega⟩ 1 0 k))

/-- The two results. -/
def gradTok (x : S8192x1024.Idx → EReal) (m4 : S8x6x1x1024.Idx → EReal) (w : S1024x10368.Idx → EReal) (d : S8192x10368.Idx → EReal)
    (r : S8192x1024.Idx → EReal) : S8192x1024.Idx → EReal := fun i => tokRow x m4 w d (i 0) (i 1) + r i
def gradMod (x : S8192x1024.Idx → EReal) (w : S1024x10368.Idx → EReal) (d : S8192x10368.Idx → EReal) : S4x2x1024.Idx → EReal := fun i =>
  if (i 1).val = 0 then ∑ t : Fin 2048, gradRow w d (rowOf (i 0) t) (i 2)
  else ∑ t : Fin 2048, norm (fun k => x (ix2 (rowOf (i 0) t) k)) (i 2) * gradRow w d (rowOf (i 0) t) (i 2)

set_option backward.proofsInPublic true in
/-- The row of the arguments that is row `r` of point `t`'s block. -/
abbrev rowAt (t : Fin cfg0.N) (r : Fin 256) : Fin 8192 := ⟨256 * t.val + r.val, by
  have h : t.val < 32 := lt_of_lt_of_eq t.isLt N_0
  omega⟩

theorem blkX_apply (t : Fin cfg0.N) (r : Fin 256) (k : Fin 1024) : blkX m c t (ix2 r k) = toks m c (ix2 (rowAt t r) k) := by
  show iblk m c 0 t (ix2 r k) = m ((c : Thread nD τ).loc main_arg0) _
  rw [← V_main_arg0 m c]
  blk_ext [iblk, index0 t]

theorem blkD_apply (t : Fin cfg0.N) (r : Fin 256) (k : Fin 10368) : blkD m c t (ix2 r k) = dproj m c (ix2 (rowAt t r) k) := by
  show iblk m c 3 t (ix2 r k) = m ((c : Thread nD τ).loc main_arg3) _
  rw [← V_main_arg3 m c]
  blk_ext [iblk, index3 t]

theorem blkR_apply (t : Fin cfg0.N) (r : Fin 256) (k : Fin 1024) : blkR m c t (ix2 r k) = dres m c (ix2 (rowAt t r) k) := by
  show iblk m c 4 t (ix2 r k) = m ((c : Thread nD τ).loc main_arg4) _
  rw [← V_main_arg4 m c]
  blk_ext [iblk, index4 t]

set_option backward.proofsInPublic true in
/-- The batch element of point `t`'s rows. -/
abbrev batchAt (t : Fin cfg0.N) : Fin 8 := ⟨t.val / 8, by
  have h : t.val < 32 := lt_of_lt_of_eq t.isLt N_0
  omega⟩

theorem blkSc_apply (t : Fin cfg0.N) (k : Fin 1024) : blkSc m c t (ix4 0 0 0 k) = mods m c (ix4 (batchAt t) 1 0 k) := by
  show iblk m c 2 t (ix4 0 0 0 k) = m ((c : Thread nD τ).loc main_arg1) _
  rw [← V_main_arg1 m c]
  blk_ext [iblk, index2 t]

theorem block_row (t : Fin cfg0.N) (r : Fin 256) (j : Fin 1024) :
    (rowsOf (blkX m c t) (blkSc m c t) (blkD m c t) (wts m c) (blkR m c t) (ix2 r j) : EReal)
      = gradTok (toks m c) (mods m c) (wts m c) (dproj m c) (dres m c) (ix2 (rowAt t r) j) := by
  have h : t.val < 32 := lt_of_lt_of_eq t.isLt N_0
  have e : (⟨(rowAt t r).val / 2048, by omega⟩ : Fin 8) = batchAt t := Fin.ext (by show (256 * t.val + r.val) / 2048 = t.val / 8; omega)
  have ed : rowD (blkD m c t) r = fun k => dproj m c (ix2 (rowAt t r) k) := funext fun k => blkD_apply m c t r k
  have ex : rowX (blkX m c t) r = fun k => toks m c (ix2 (rowAt t r) k) := funext fun k => blkX_apply m c t r k
  rw [rows_apply, blkR_apply, ed, ex]
  show _ = tokRow (toks m c) (mods m c) (wts m c) (dproj m c) (rowAt t r) j + dres m c (ix2 (rowAt t r) j)
  unfold tokRow
  simp only [e, blkSc_apply]

theorem flushed5_eq (t : Fin cfg0.N) :
    (dats m 0 c).flushed 5 t
      = ((cfg0.win 5).blk t).view.read (Elt Ideal) (gradTok (toks m c) (mods m c) (wts m c) (dproj m c) (dres m c)) := by
  rw [flushed5, outs_rows]
  have i0 : win0_5.index t (0 : Fin 2) = t.val := congrFun (index5 t) 0
  have i1 : win0_5.index t (1 : Fin 2) = 0 := congrFun (index5 t) 1
  funext y
  have hy0 : (y 0).val < 256 := (y 0).isLt
  have hy1 : (y 1).val < 1024 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 1024 + 1 * (y 1).val := rfl
  rw [i0] at hb0
  rw [i1] at hb1
  have e : ((cfg0.win 5).blk t).view.emb y = ix2 (rowAt t ⟨(y 0).val, hy0⟩) (⟨(y 1).val, hy1⟩ : Fin 1024) := funext fun a => Fin.ext (by
    match a with
    | ⟨0, _⟩ => show (((cfg0.win 5).blk t).view.emb y 0).val = 256 * t.val + (y 0).val; omega
    | ⟨1, _⟩ => show (((cfg0.win 5).blk t).view.emb y 1).val = (y 1).val; omega)
  show rowsOf _ _ _ _ _ ((cfg0.win 5).xinj (grid0.coords t) y) = gradTok _ _ _ _ _ (((cfg0.win 5).blk t).view.emb y)
  rw [e]
  refine Eq.trans (congrArg _ ?_) (block_row m c t ⟨(y 0).val, hy0⟩ ⟨(y 1).val, hy1⟩)
  funext a
  match a with
  | ⟨0, _⟩ => rfl
  | ⟨1, _⟩ => rfl

/-- The place of an index in its batch element's block. -/
abbrev placeOf (i : S4x2x1024.Idx) : S1x2x1024.Idx := ix3 0 (i 1) (i 2)

/-- The batch element's block at its last point. -/
def sums : S4x2x1024.Idx → EReal := fun i =>
  if h : 8 * (i 0).val + 7 < cfg0.N then Pipeline.accAt (reset m c) (step m c) (8 * (i 0).val) 7 h (placeOf i) else 0

theorem flushed6_eq (t : Fin cfg0.N) (hf : (cfg0.win 6).flush t = true) :
    (dats m 0 c).flushed 6 t = ((cfg0.win 6).blk t).view.read (Elt Ideal) (sums m c) := by
  rw [flushed6, outs_sums]
  have hm : t.val % 8 = 7 := (flush0_6 t).mp hf
  have i0 : win0_6.index t (0 : Fin 3) = t.val / 8 := congrFun (index6 t) 0
  have i1 : win0_6.index t (1 : Fin 3) = 0 := congrFun (index6 t) 1
  have i2 : win0_6.index t (2 : Fin 3) = 0 := congrFun (index6 t) 2
  funext y
  have hy0 : (y 0).val < 1 := (y 0).isLt
  have hy1 : (y 1).val < 2 := (y 1).isLt
  have hy2 : (y 2).val < 1024 := (y 2).isLt
  have hb0 : (((cfg0.win 6).blk t).view.emb y 0).val = win0_6.index t (0 : Fin 3) * 1 + 1 * (y 0).val := rfl
  have hb1 : (((cfg0.win 6).blk t).view.emb y 1).val = win0_6.index t (1 : Fin 3) * 2 + 1 * (y 1).val := rfl
  have hb2 : (((cfg0.win 6).blk t).view.emb y 2).val = win0_6.index t (2 : Fin 3) * 1024 + 1 * (y 2).val := rfl
  rw [i0] at hb0
  rw [i1] at hb1
  rw [i2] at hb2
  have hr : (((cfg0.win 6).blk t).view.emb y 0).val = t.val / 8 := by omega
  have hl : placeOf (((cfg0.win 6).blk t).view.emb y) = (cfg0.win 6).xinj (grid0.coords t) y := by
    funext a; apply Fin.ext
    match a with
    | ⟨0, _⟩ => show 0 = (y 0).val; omega
    | ⟨1, _⟩ => show (((cfg0.win 6).blk t).view.emb y 1).val = (y 1).val; omega
    | ⟨2, _⟩ => show (((cfg0.win 6).blk t).view.emb y 2).val = (y 2).val; omega
  show (Pipeline.accAt (reset m c) (step m c) (8 * (t.val / 8)) (t.val % 8) _) ((cfg0.win 6).xinj (grid0.coords t) y)
    = sums m c (((cfg0.win 6).blk t).view.emb y)
  unfold sums
  rw [dif_pos (by rw [hr]; have := t.isLt; have := Nat.div_add_mod t.val 8; omega), hl]
  have e : ∀ (b j : ℕ) (h : b + j < cfg0.N) (b' j' : ℕ) (h' : b' + j' < cfg0.N), b = b' → j = j' →
      Pipeline.accAt (reset m c) (step m c) b j h = Pipeline.accAt (reset m c) (step m c) b' j' h' := by
    intro b j h b' j' h' hb hj; subst hb; subst hj; rfl
  exact congrFun (e _ _ _ _ _ _ (by rw [hr]) hm) _

/-- The blocks written back are the whole arrays. -/
theorem covered5 (i : S8192x1024.Idx) : ∃ t : Fin cfg0.N, (cfg0.win 5).flush t = true ∧ i ∈ ((cfg0.win 5).blk t).view.set := by
  have b0 : (i 0).val < 8192 := (i 0).isLt
  have b1 : (i 1).val < 1024 := (i 1).isLt
  have hN : (i 0).val / 256 < cfg0.N := lt_of_lt_of_eq (by omega : (i 0).val / 256 < 32) (show 32 = cfg0.N from N_0.symm)
  refine ⟨⟨(i 0).val / 256, hN⟩, flush0_5 _, ?_⟩
  show i ∈ ((View.whole main_v0_0).slice (win0_5.rect ⟨(i 0).val / 256, hN⟩)).set
  rw [View.set_slice_whole, Rect.mem_set_unit]
  have e := index5 ⟨(i 0).val / 256, hN⟩
  have e0 := congrFun e 0
  have e1 := congrFun e 1
  intro a
  match a with
  | ⟨0, _⟩ =>
    show win0_5.index ⟨(i 0).val / 256, hN⟩ (0 : Fin 2) * 256 ≤ (i 0).val
      ∧ (i 0).val < win0_5.index ⟨(i 0).val / 256, hN⟩ (0 : Fin 2) * 256 + 256
    rw [e0]
    show (i 0).val / 256 * 256 ≤ (i 0).val ∧ (i 0).val < (i 0).val / 256 * 256 + 256
    omega
  | ⟨1, _⟩ =>
    show win0_5.index ⟨(i 0).val / 256, hN⟩ (1 : Fin 2) * 1024 ≤ (i 1).val
      ∧ (i 1).val < win0_5.index ⟨(i 0).val / 256, hN⟩ (1 : Fin 2) * 1024 + 1024
    rw [e1]
    show 0 * 1024 ≤ (i 1).val ∧ (i 1).val < 0 * 1024 + 1024
    omega

theorem covered6 (i : S4x2x1024.Idx) : ∃ t : Fin cfg0.N, (cfg0.win 6).flush t = true ∧ i ∈ ((cfg0.win 6).blk t).view.set := by
  have b0 : (i 0).val < 4 := (i 0).isLt
  have b1 : (i 1).val < 2 := (i 1).isLt
  have b2 : (i 2).val < 1024 := (i 2).isLt
  have hN : 8 * (i 0).val + 7 < cfg0.N := lt_of_lt_of_eq (by omega : 8 * (i 0).val + 7 < 32) (show 32 = cfg0.N from N_0.symm)
  refine ⟨⟨8 * (i 0).val + 7, hN⟩, (flush0_6 _).mpr (by (try dsimp only); omega), ?_⟩
  show i ∈ ((View.whole main_v0_1).slice (win0_6.rect ⟨8 * (i 0).val + 7, hN⟩)).set
  rw [View.set_slice_whole, Rect.mem_set_unit]
  have e := index6 ⟨8 * (i 0).val + 7, hN⟩
  have e0 := congrFun e 0
  have e1 := congrFun e 1
  have e2 := congrFun e 2
  have d : (8 * (i 0).val + 7) / 8 = (i 0).val := by omega
  intro a
  match a with
  | ⟨0, _⟩ =>
    show win0_6.index ⟨8 * (i 0).val + 7, hN⟩ (0 : Fin 3) * 1 ≤ (i 0).val
      ∧ (i 0).val < win0_6.index ⟨8 * (i 0).val + 7, hN⟩ (0 : Fin 3) * 1 + 1
    rw [e0]
    show (8 * (i 0).val + 7) / 8 * 1 ≤ (i 0).val ∧ (i 0).val < (8 * (i 0).val + 7) / 8 * 1 + 1
    rw [d]
    omega
  | ⟨1, _⟩ =>
    show win0_6.index ⟨8 * (i 0).val + 7, hN⟩ (1 : Fin 3) * 2 ≤ (i 1).val
      ∧ (i 1).val < win0_6.index ⟨8 * (i 0).val + 7, hN⟩ (1 : Fin 3) * 2 + 2
    rw [e1]
    show 0 * 2 ≤ (i 1).val ∧ (i 1).val < 0 * 2 + 2
    omega
  | ⟨2, _⟩ =>
    show win0_6.index ⟨8 * (i 0).val + 7, hN⟩ (2 : Fin 3) * 1024 ≤ (i 2).val
      ∧ (i 2).val < win0_6.index ⟨8 * (i 0).val + 7, hN⟩ (2 : Fin 3) * 1024 + 1024
    rw [e2]
    show 0 * 1024 ≤ (i 2).val ∧ (i 2).val < 0 * 1024 + 1024
    omega

theorem final5_eq : (dats m 0 c).arrAt 5 cfg0.N = gradTok (toks m c) (mods m c) (wts m c) (dproj m c) (dres m c) :=
  (dats m 0 c).arrAt_eq_of_cover 5 _ (fun t _ => flushed5_eq m c t) covered5
theorem final6_eq : (dats m 0 c).arrAt 6 cfg0.N = sums m c :=
  (dats m 0 c).arrAt_eq_of_cover 6 _ (fun t hf => flushed6_eq m c t hf) covered6

/-- Eight points' sums of 256 rows are the batch element's sum over its 2048 tokens. -/
theorem sum_points (b : Fin 4) (f : Fin 8192 → EReal) (g : ℕ → EReal)
    (h : ∀ (s : Fin 8) (t : Fin cfg0.N), t.val = 8 * b.val + s.val → g t.val = ∑ r, f (rowAt t r)) :
    ∑ s ∈ Finset.range 8, g (8 * b.val + s) = ∑ t, f (rowOf b t) := by
  rw [Finset.sum_range, ← (finProdFinEquiv (m := 8) (n := 256)).sum_comp fun t => f (rowOf b t), Fintype.sum_prod_type]
  refine Finset.sum_congr rfl fun s _ => ?_
  have hN : 8 * b.val + s.val < cfg0.N := lt_of_lt_of_eq (by omega : 8 * b.val + s.val < 32) (show 32 = cfg0.N from N_0.symm)
  refine (h s ⟨8 * b.val + s.val, hN⟩ rfl).trans (Finset.sum_congr rfl fun r _ => congrArg f (Fin.ext ?_))
  show 256 * (8 * b.val + s.val) + r.val = b.val * 2048 + (r.val + 256 * s.val)
  omega

theorem sums_eq : sums m c = gradMod (toks m c) (wts m c) (dproj m c) := funext fun i => by
  have b0 : (i 0).val < 4 := (i 0).isLt
  have hN : 8 * (i 0).val + 7 < cfg0.N := lt_of_lt_of_eq (by omega : 8 * (i 0).val + 7 < 32) (show 32 = cfg0.N from N_0.symm)
  unfold sums
  rw [dif_pos hN]
  refine (Pipeline.accAt_add_apply (β := EReal) (reset m c) (step m c) (fun _ => 0) (addend m c) (8 * (i 0).val) 7
    (fun h j => rfl) (fun n h acc j _ _ => rfl) 7 (Nat.le_refl 7) hN (placeOf i)).trans ?_
  rw [zero_add]
  have ed : ∀ (t : Fin cfg0.N) (r : Fin 256), rowD (blkD m c t) r = fun k => dproj m c (ix2 (rowAt t r) k) := fun t r =>
    funext fun k => blkD_apply m c t r k
  have ex : ∀ (t : Fin cfg0.N) (r : Fin 256), rowX (blkX m c t) r = fun k => toks m c (ix2 (rowAt t r) k) := fun t r =>
    funext fun k => blkX_apply m c t r k
  unfold gradMod
  by_cases h1 : (i 1).val = 0
  · rw [if_pos h1]
    refine sum_points (i 0) (fun n => gradRow (wts m c) (dproj m c) n (i 2)) (fun n => addend m c n (placeOf i)) fun s t ht => ?_
    show addend m c t.val (placeOf i) = _
    rw [addend_eq m c t.val t.isLt]
    refine (if_pos h1).trans ?_
    exact Finset.sum_congr rfl fun r _ => congrArg (fun d => grad d (wts m c) (i 2)) (ed t r)
  · rw [if_neg h1]
    refine sum_points (i 0) (fun n => norm (fun k => toks m c (ix2 n k)) (i 2) * gradRow (wts m c) (dproj m c) n (i 2))
      (fun n => addend m c n (placeOf i)) fun s t ht => ?_
    show addend m c t.val (placeOf i) = _
    rw [addend_eq m c t.val t.isLt]
    refine (if_neg h1).trans ?_
    exact Finset.sum_congr rfl fun r _ => congrArg₂ (fun x d => norm x (i 2) * grad d (wts m c) (i 2)) (ex t r) (ed t r)

/-- The program ends with its arguments as they were and its counters at zero. -/
theorem frame_ideal : Cert.quiescent_Kernel6Ideal (hKernel6Ideal := Cert.Kernel6Ideal.Gen.facts) := fun m ρ _ =>
  Cert.Kernel6Ideal.Gen.frame (F := Ideal) m ρ

/-- The two body tables are one. -/
theorem defs_eq : Cert.Kernel6.defs₀ (F := Bits) = Cert.Kernel6Ideal.defs₀ (F := Bits) := by
  unfold Cert.Kernel6.defs₀ Cert.Kernel6Ideal.defs₀
  refine congrArg Defs.onTc ?_
  funext l x
  match l, x with
  | 0, (t, s) => rfl

/-- So does the program as it is run. -/
theorem frame_kernel : Cert.quiescent_Kernel6 (hKernel6 := Cert.Kernel6.Gen.facts) := by
  intro m ρ _
  have h := Cert.Kernel6Ideal.Gen.frame (F := Bits) m ρ
  unfold Cert.Kernel6Ideal.defs at h
  unfold Cert.Kernel6.defs
  rw [defs_eq]
  exact h

end Kernel

/-- The reference runs, its arguments end unchanged and every counter at zero. -/
theorem frame_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem preFacts : Cert.Pre_finite6.Facts := by
  constructor <;> decide

/-- The same under the precondition. -/
theorem frame_ideal_finite : Cert.quiescent_Kernel6Ideal_pre_finite6 (hKernel6Ideal := Cert.Kernel6Ideal.Gen.facts)
    (hPre_finite6 := preFacts) := fun m ρ _ => frame_ideal m ρ trivial
theorem frame_reference_finite : Cert.quiescent_Reference6Ideal_pre_finite6 (hReference6Ideal := Cert.Reference6Ideal.Gen.facts)
    (hPre_finite6 := preFacts) := fun m ρ _ => frame_reference m ρ trivial

section Reference

open Cert.Reference6Ideal Cert.Reference6Ideal.Read
open Cert.InFwd (row_batch row_token)

variable (x : FVec Ideal S8192x1024 .f32) (m4 : FVec Ideal S8x6x1x1024 .f32) (w : FVec Ideal S1024x10368 .bf16) (d : FVec Ideal S8192x10368 .bf16)
variable (r : FVec Ideal S8192x1024 .f32) (b : Fin 4) (t : Fin 2048) (j : Fin 1024)

/-- The token's row, and what the gradient's row is before the norm's derivative. -/
abbrev tokenRow : Row 1024 := fun k => x (ix2 (rowOf b t) k)
abbrev gainRow : Row 1024 := fun k => gradRow w d (rowOf b t) k * (1 + m4 (ix4 ⟨b.val, by omega⟩ 1 0 k))

theorem ref_cen : (val_main_v11 (F := Ideal) x (ix3 b t j) : EReal) = cen (tokenRow x b t) j := by
  pointwise [val_main_v11, val_main_v1, val_main_v10, val_main_v9, val_main_v7, val_main_v6, val_main_cst, val_main_v8, val_main_cst_0]
  rfl

theorem ref_cen' : (val_main_v20 (F := Ideal) x (ix3 b t j) : EReal) = cen (tokenRow x b t) j := by
  pointwise [val_main_v20, val_main_v1, val_main_v19, val_main_v9, val_main_v7, val_main_v6, val_main_cst, val_main_v8, val_main_cst_0]
  rfl

theorem ref_var : (val_main_v22 (F := Ideal) x (ix3 b t 0) : EReal) = vareps (tokenRow x b t) := by
  pointwise [val_main_v22, val_main_v18, val_main_v16, val_main_v15, val_main_v12, val_main_cst_2, val_main_v17, val_main_cst_3,
    val_main_v21, val_main_cst_4]
  simp only [ref_cen]; rfl

theorem ref_rstd : (val_main_v23 (F := Ideal) x (ix3 b t 0) : EReal) = rstd (tokenRow x b t) := by
  pointwise [val_main_v23]
  rw [ref_var]; rfl

theorem ref_drstd : (val_main_v26 (F := Ideal) x (ix3 b t 0) : EReal) = drstd (tokenRow x b t) := by
  pointwise [val_main_v26, val_main_v25, val_main_cst_5, val_main_v24]
  rw [ref_rstd, ref_var]; rfl

theorem ref_norm : (val_main_v28 (F := Ideal) x (ix3 b t j) : EReal) = norm (tokenRow x b t) j := by
  pointwise [val_main_v28, val_main_v27]
  rw [ref_rstd, ref_cen']; rfl

theorem ref_grad : (val_main_v38 (F := Ideal) w d (ix3 b t j) : EReal) = gradRow w d (rowOf b t) j := by
  pointwise [val_main_v38, val_main_v37, val_main_v36, val_main_v0]; rfl

theorem ref_gain : (val_main_v45 (F := Ideal) m4 w d (ix3 b t j) : EReal) = gainRow m4 w d b t j := by
  pointwise [val_main_v45, val_main_v44, val_main_v30, val_main_v29, val_main_cst_6, val_main_v5, val_main_v4]
  rw [ref_grad]

theorem ref_dvar : (val_main_v56 (F := Ideal) x m4 w d (ix3 b t 0) : EReal) = dvar (tokenRow x b t) (gainRow m4 w d b t) := by
  pointwise [val_main_v56, val_main_v51, val_main_v48, val_main_v47, val_main_v46, val_main_cst_9, val_main_v55, val_main_cst_11]
  simp only [ref_gain, ref_cen', ref_drstd]; rfl

theorem ref_norm_bwd : (val_main_v69 (F := Ideal) x m4 w d (ix3 b t j) : EReal) = lnBwdTwice (tokenRow x b t) (gainRow m4 w d b t) j := by
  pointwise [val_main_v69, val_main_v63, val_main_v50, val_main_v49, val_main_v59, val_main_v58, val_main_v57, val_main_cst_12,
    val_main_v14, val_main_v13, val_main_cst_1, val_main_v68, val_main_v67, val_main_v66, val_main_v64, val_main_v54, val_main_v53,
    val_main_v52, val_main_cst_10, val_main_v62, val_main_v61, val_main_v60, val_main_cst_13, val_main_v65, val_main_cst_14,
    val_main_cst_15]
  simp only [ref_gain, ref_rstd, ref_dvar, ref_cen, Fin.sum_univ_one, Fin.isValue]
  rfl

theorem ref_tokens (hx : ∀ i, IsReal (x i)) (hm : ∀ i, IsReal (m4 i)) (hw : ∀ i, IsReal (w i)) (hd : ∀ i, IsReal (d i)) :
    val_main_v71 (F := Ideal) x m4 w d r = gradTok x m4 w d r := funext fun i => by
  obtain ⟨n, j, rfl⟩ : ∃ (n : Fin 8192) (j : Fin 1024), i = ix2 n j := ⟨i 0, i 1, eq_ix2 i⟩
  obtain ⟨⟨b, t⟩, rfl⟩ := Cert.Step.rowEquiv.surjective n
  have e : (⟨(rowOf b t).val / 2048, by omega⟩ : Fin 8) = ⟨b.val, by omega⟩ := Fin.ext (by show (b.val * 2048 + t.val) / 2048 = b.val; omega)
  have hg : RealRow (gainRow m4 w d b t) := fun k =>
    (IsReal.sum _ fun q => (hd _).mul (hw _)).mul (Cert.Step.isReal_one.add (hm _))
  show (val_main_v71 (F := Ideal) x m4 w d r (ix2 (rowOf b t) j) : EReal) = tokRow x m4 w d (rowOf b t) j + r (ix2 (rowOf b t) j)
  pointwise [val_main_v71, val_main_v70]
  rw [row_batch, row_token, ref_norm_bwd, lnBwdTwice_eq (fun k => hx _) hg]
  unfold tokRow
  rw [e]

theorem ref_shift : (val_main_v40 (F := Ideal) w d (ix3 b 0 j) : EReal) = ∑ t : Fin 2048, gradRow w d (rowOf b t) j := by
  pointwise [val_main_v40, val_main_v39, val_main_cst_7]
  simp only [ref_grad]

theorem ref_scale : (val_main_v43 (F := Ideal) x w d (ix3 b 0 j) : EReal)
    = ∑ t : Fin 2048, norm (tokenRow x b t) j * gradRow w d (rowOf b t) j := by
  pointwise [val_main_v43, val_main_v42, val_main_v41, val_main_cst_8]
  simp only [ref_norm, ref_grad]

theorem ref_mod : val_main_v72 (F := Ideal) x w d = gradMod x w d := funext fun i => by
  obtain ⟨b, p, j, rfl⟩ : ∃ (b : Fin 4) (p : Fin 2) (j : Fin 1024), i = ix3 b p j := ⟨i 0, i 1, i 2, eq_ix3 i⟩
  pointwise [val_main_v72]
  match p with
  | 0 => exact (ref_shift w d b j).trans (if_pos rfl).symm
  | 1 => exact (ref_scale x w d b j).trans (if_neg Nat.one_ne_zero).symm

end Reference

section Precondition

open Cert.Kernel6Ideal

/-- The precondition, read: the tokens, the modulation, the weights and the projection's cotangent are real numbers. -/
theorem inputs_real (m : (ℓ : Loc nD τ sig) → Buf (Elt Ideal) ℓ) (c : Dev nD)
    (h : Cert.Pre_Kernel6Ideal_finite6 (hPre_finite6 := preFacts) m) :
    (∀ i, IsReal (toks m c i)) ∧ (∀ i, IsReal (mods m c i)) ∧ (∀ i, IsReal (wts m c i)) ∧ ∀ i, IsReal (dproj m c i) := by
  have h0 := congrFun (h c) (fun d => d.elim0)
  clear h
  obtain ⟨h1, r3⟩ := IntOp.andi_eq_one.mp h0
  clear h0
  obtain ⟨h2, r2⟩ := IntOp.andi_eq_one.mp h1
  clear h1
  obtain ⟨r0, r1⟩ := IntOp.andi_eq_one.mp h2
  clear h2
  exact ⟨fun i => Cert.Step.real_of_all preFacts.bcast_S_S8192x1024 preFacts.reducesTo_S8192x1024_S_d0_1 preFacts.h_S_ _ _ r0 i,
    fun i => Cert.Step.real_of_all preFacts.bcast_S_S8x6x1x1024 preFacts.reducesTo_S8x6x1x1024_S_d0_1_2_3 preFacts.h_S_ _ _ r1 i,
    fun i => Cert.Step.real_of_all preFacts.bcast_S_S1024x10368 preFacts.reducesTo_S1024x10368_S_d0_1 preFacts.h_S_ _ _ r2 i,
    fun i => Cert.Step.real_of_all preFacts.bcast_S_S8192x10368 preFacts.reducesTo_S8192x10368_S_d0_1 preFacts.h_S_ _ _ r3 i⟩

end Precondition

/-- At finite tokens, modulation, weights and cotangent the kernel and the reference end at the same two gradients. -/
theorem algebraic : Cert.algebraic_Kernel6Ideal_Reference6Ideal_pre_finite6 (hKernel6Ideal := Cert.Kernel6Ideal.Gen.facts)
    (hReference6Ideal := Cert.Reference6Ideal.Gen.facts) (hPre_finite6 := preFacts) := by
  intro m ρ m' ρ' hpre hagree
  refine ⟨fun c => gradTok (toks m c) (mods m c) (wts m c) (dproj m c) (dres m c), fun c => gradMod (toks m c) (wts m c) (dproj m c), ?_, ?_⟩
  · refine (θ_run Cert.Kernel6Ideal.defs _ _).mono (fun r h c => ?_) (Cert.Kernel6Ideal.Value.run_blocks (F := Ideal) m ρ)
    exact ⟨(h c).1.trans (final5_eq m c), (h c).2.1.trans ((final6_eq m c).trans (sums_eq m c)), (h c).2.2⟩
  · refine (θ_run Cert.Reference6Ideal.defs _ _).mono (fun r h c => ?_) (Cert.Reference6Ideal.Value.run (F := Ideal) m' ρ')
    refine ⟨(h c).1.trans ?_, (h c).2.1.trans ?_, (h c).2.2⟩
    · rw [Cert.Reference6Ideal.Read.val_main_v71_eq, (hagree c).1, (hagree c).2.1, (hagree c).2.2.1, (hagree c).2.2.2.1, (hagree c).2.2.2.2]
      obtain ⟨hx, hm, hw, hd⟩ := inputs_real m c hpre
      exact ref_tokens _ _ _ _ _ hx hm hw hd
    · rw [(hagree c).1, (hagree c).2.2.1, (hagree c).2.2.2.1]
      exact ref_mod _ _ _

end Cert.InBwd

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import proofs.«01_k».proof.Proof.DwOne
public import proofs.«01_k».proof.Proof.DwTwo
public import proofs.«01_k».proof.Proof.DwIn
public import proofs.«01_k».proof.Proof.InFwd
public import proofs.«01_k».proof.Proof.InBwd
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Step.preFacts, Cert.InBwd.preFacts,
    Cert.Step.frame_kernel,
    Cert.Step.frame_ideal,
    fun m ρ _ => Cert.Step.frame_ideal m ρ trivial,
    Cert.Step.frame_reference,
    fun m ρ _ => Cert.Step.frame_reference m ρ trivial,
    Cert.DwOne.frame_kernel,
    Cert.DwOne.frame_ideal,
    Cert.DwOne.frame_reference,
    Cert.DwTwo.frame_kernel,
    Cert.DwTwo.frame_ideal,
    Cert.DwTwo.frame_reference,
    Cert.DwIn.frame_kernel,
    Cert.DwIn.frame_ideal,
    Cert.DwIn.frame_reference,
    Cert.InFwd.frame_kernel,
    Cert.InFwd.frame_ideal,
    Cert.InFwd.frame_reference,
    Cert.InBwd.frame_kernel,
    Cert.InBwd.frame_ideal,
    Cert.InBwd.frame_ideal_finite,
    Cert.InBwd.frame_reference,
    Cert.InBwd.frame_reference_finite,
    trivial,
    Cert.Step.algebraic,
    trivial,
    Cert.DwOne.algebraic,
    trivial,
    Cert.DwTwo.algebraic,
    trivial,
    Cert.DwIn.algebraic,
    trivial,
    Cert.InFwd.algebraic,
    trivial,
    Cert.InBwd.algebraic⟩

end Cert.Proof

end
